-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnSampleKernel (m : (ℓ : Loc Cert.FfnSampleKernel.nD Cert.FfnSampleKernel.τ Cert.FfnSampleKernel.sig) → Buf (Elt Bits) ℓ) : Prop :=
  True

def Pre_FfnSampleKernelIdeal (m : (ℓ : Loc Cert.FfnSampleKernelIdeal.nD Cert.FfnSampleKernelIdeal.τ Cert.FfnSampleKernelIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_EvenInKernel (m : (ℓ : Loc Cert.EvenInKernel.nD Cert.EvenInKernel.τ Cert.EvenInKernel.sig) → Buf (Elt Bits) ℓ) : Prop :=
  True

def Pre_EvenInKernelIdeal (m : (ℓ : Loc Cert.EvenInKernelIdeal.nD Cert.EvenInKernelIdeal.τ Cert.EvenInKernelIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenInSampleKernel (m : (ℓ : Loc Cert.EvenInSampleKernel.nD Cert.EvenInSampleKernel.τ Cert.EvenInSampleKernel.sig) → Buf (Elt Bits) ℓ) : Prop :=
  True

def Pre_EvenInSampleKernelIdeal (m : (ℓ : Loc Cert.EvenInSampleKernelIdeal.nD Cert.EvenInSampleKernelIdeal.τ Cert.EvenInSampleKernelIdeal.sig) → Buf (Elt Ideal) ℓ) : Prop :=
  True

def Pre_EvenInSampleReferenceIdeal (m : (ℓ : Loc Cert.EvenInSampleReferenceIdeal.nD Cert.EvenInSampleReferenceIdeal.τ Cert.EvenInSampleReferenceIdeal.sig) → Buf (Elt Ideal) ℓ) : Prop :=
  True

def Pre_OddInKernel (m : (ℓ : Loc Cert.OddInKernel.nD Cert.OddInKernel.τ Cert.OddInKernel.sig) → Buf (Elt Bits) ℓ) : Prop :=
  True

def Pre_OddInKernelIdeal (m : (ℓ : Loc Cert.OddInKernelIdeal.nD Cert.OddInKernelIdeal.τ Cert.OddInKernelIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_OddOutKernel (m : (ℓ : Loc Cert.OddOutKernel.nD Cert.OddOutKernel.τ Cert.OddOutKernel.sig) → Buf (Elt Bits) ℓ) : Prop :=
  True

def Pre_OddOutKernelIdeal (m : (ℓ : Loc Cert.OddOutKernelIdeal.nD Cert.OddOutKernelIdeal.τ Cert.OddOutKernelIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_EvenOutKernel (m : (ℓ : Loc Cert.EvenOutKernel.nD Cert.EvenOutKernel.τ Cert.EvenOutKernel.sig) → Buf (Elt Bits) ℓ) : Prop :=
  True

def Pre_EvenOutKernelIdeal (m : (ℓ : Loc Cert.EvenOutKernelIdeal.nD Cert.EvenOutKernelIdeal.τ Cert.EvenOutKernelIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_GlaSampleKernel (m : (ℓ : Loc Cert.GlaSampleKernel.nD Cert.GlaSampleKernel.τ Cert.GlaSampleKernel.sig) → Buf (Elt Bits) ℓ) : Prop :=
  True

def Pre_GlaSampleKernelIdeal (m : (ℓ : Loc Cert.GlaSampleKernelIdeal.nD Cert.GlaSampleKernelIdeal.τ Cert.GlaSampleKernelIdeal.sig) → Buf (Elt Ideal) ℓ) : Prop :=
  True

def Pre_GlaSampleReferenceIdeal (m : (ℓ : Loc Cert.GlaSampleReferenceIdeal.nD Cert.GlaSampleReferenceIdeal.τ Cert.GlaSampleReferenceIdeal.sig) → Buf (Elt Ideal) ℓ) : Prop :=
  True

def Pre_GlaKernel (m : (ℓ : Loc Cert.GlaKernel.nD Cert.GlaKernel.τ Cert.GlaKernel.sig) → Buf (Elt Bits) ℓ) : Prop :=
  True

def Pre_GlaKernelIdeal (m : (ℓ : Loc Cert.GlaKernelIdeal.nD Cert.GlaKernelIdeal.τ Cert.GlaKernelIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnSampleKernel [hFfnSampleKernel : Cert.FfnSampleKernel.Facts] : Prop :=
  ∀ (m : (ℓ : Loc Cert.FfnSampleKernel.nD Cert.FfnSampleKernel.τ Cert.FfnSampleKernel.sig) → Buf (Elt Bits) ℓ) (g : Dev Cert.FfnSampleKernel.nD → PrngReg), Pre_FfnSampleKernel m →
    θ_run (Cert.FfnSampleKernel.defs (F := Bits)) (onTc (τ := Cert.FfnSampleKernel.τ) (Cert.FfnSampleKernel.main (F := Bits))) ⟨m, fun _ => 0, g⟩ (fun r => (∀ c : Dev Cert.FfnSampleKernel.nD,
      r.2.mem ((c.tc : Thread Cert.FfnSampleKernel.nD Cert.FfnSampleKernel.τ).loc Cert.FfnSampleKernel.main_arg0) = m ((c.tc : Thread Cert.FfnSampleKernel.nD Cert.FfnSampleKernel.τ).loc Cert.FfnSampleKernel.main_arg0)
      ∧ r.2.mem ((c.tc : Thread Cert.FfnSampleKernel.nD Cert.FfnSampleKernel.τ).loc Cert.FfnSampleKernel.main_arg1) = m ((c.tc : Thread Cert.FfnSampleKernel.nD Cert.FfnSampleKernel.τ).loc Cert.FfnSampleKernel.main_arg1)
      ∧ r.2.mem ((c.tc : Thread Cert.FfnSampleKernel.nD Cert.FfnSampleKernel.τ).loc Cert.FfnSampleKernel.main_arg2) = m ((c.tc : Thread Cert.FfnSampleKernel.nD Cert.FfnSampleKernel.τ).loc Cert.FfnSampleKernel.main_arg2)
      ∧ r.2.mem ((c.tc : Thread Cert.FfnSampleKernel.nD Cert.FfnSampleKernel.τ).loc Cert.FfnSampleKernel.main_arg3) = m ((c.tc : Thread Cert.FfnSampleKernel.nD Cert.FfnSampleKernel.τ).loc Cert.FfnSampleKernel.main_arg3)
      ∧ r.2.mem ((c.tc : Thread Cert.FfnSampleKernel.nD Cert.FfnSampleKernel.τ).loc Cert.FfnSampleKernel.main_arg4) = m ((c.tc : Thread Cert.FfnSampleKernel.nD Cert.FfnSampleKernel.τ).loc Cert.FfnSampleKernel.main_arg4))
      ∧ r.2.sem = fun _ => 0)

def quiescent_FfnSampleKernelIdeal [hFfnSampleKernelIdeal : Cert.FfnSampleKernelIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg), Pre_FfnSampleKernelIdeal m →
    θ_run (Cert.FfnSampleKernelIdeal.defs (F := Ideal)) (onTc (τ := Cert.FfnSampleKernelIdeal.τ) (Cert.FfnSampleKernelIdeal.main (F := Ideal))) ⟨m, fun _ => 0, g⟩ (fun r => (∀ c : Dev Cert.FfnSampleKernelIdeal.nD,
      r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
      ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
      ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
      ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
      ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4))
      ∧ r.2.sem = fun _ => 0)

def quiescent_EvenInKernel [hEvenInKernel : Cert.EvenInKernel.Facts] : Prop :=
  ∀ (m : (ℓ : Loc Cert.EvenInKernel.nD Cert.EvenInKernel.τ Cert.EvenInKernel.sig) → Buf (Elt Bits) ℓ) (g : Dev Cert.EvenInKernel.nD → PrngReg), Pre_EvenInKernel m →
    θ_run (Cert.EvenInKernel.defs (F := Bits)) (onTc (τ := Cert.EvenInKernel.τ) (Cert.EvenInKernel.main (F := Bits))) ⟨m, fun _ => 0, g⟩ (fun r => (∀ c : Dev Cert.EvenInKernel.nD,
      r.2.mem ((c.tc : Thread Cert.EvenInKernel.nD Cert.EvenInKernel.τ).loc Cert.EvenInKernel.main_arg0) = m ((c.tc : Thread Cert.EvenInKernel.nD Cert.EvenInKernel.τ).loc Cert.EvenInKernel.main_arg0)
      ∧ r.2.mem ((c.tc : Thread Cert.EvenInKernel.nD Cert.EvenInKernel.τ).loc Cert.EvenInKernel.main_arg1) = m ((c.tc : Thread Cert.EvenInKernel.nD Cert.EvenInKernel.τ).loc Cert.EvenInKernel.main_arg1)
      ∧ r.2.mem ((c.tc : Thread Cert.EvenInKernel.nD Cert.EvenInKernel.τ).loc Cert.EvenInKernel.main_arg2) = m ((c.tc : Thread Cert.EvenInKernel.nD Cert.EvenInKernel.τ).loc Cert.EvenInKernel.main_arg2)
      ∧ r.2.mem ((c.tc : Thread Cert.EvenInKernel.nD Cert.EvenInKernel.τ).loc Cert.EvenInKernel.main_arg3) = m ((c.tc : Thread Cert.EvenInKernel.nD Cert.EvenInKernel.τ).loc Cert.EvenInKernel.main_arg3))
      ∧ r.2.sem = fun _ => 0)

def quiescent_EvenInKernelIdeal [hEvenInKernelIdeal : Cert.EvenInKernelIdeal.Facts] : Prop :=
  ∀ (m : (ℓ : Loc Cert.EvenInKernelIdeal.nD Cert.EvenInKernelIdeal.τ Cert.EvenInKernelIdeal.sig) → Buf (Elt Ideal) ℓ) (g : Dev Cert.EvenInKernelIdeal.nD → PrngReg), Pre_EvenInKernelIdeal m →
    θ_run (Cert.EvenInKernelIdeal.defs (F := Ideal)) (onTc (τ := Cert.EvenInKernelIdeal.τ) (Cert.EvenInKernelIdeal.main (F := Ideal))) ⟨m, fun _ => 0, g⟩ (fun r => (∀ c : Dev Cert.EvenInKernelIdeal.nD,
      r.2.mem ((c.tc : Thread Cert.EvenInKernelIdeal.nD Cert.EvenInKernelIdeal.τ).loc Cert.EvenInKernelIdeal.main_arg0) = m ((c.tc : Thread Cert.EvenInKernelIdeal.nD Cert.EvenInKernelIdeal.τ).loc Cert.EvenInKernelIdeal.main_arg0)
      ∧ r.2.mem ((c.tc : Thread Cert.EvenInKernelIdeal.nD Cert.EvenInKernelIdeal.τ).loc Cert.EvenInKernelIdeal.main_arg1) = m ((c.tc : Thread Cert.EvenInKernelIdeal.nD Cert.EvenInKernelIdeal.τ).loc Cert.EvenInKernelIdeal.main_arg1)
      ∧ r.2.mem ((c.tc : Thread Cert.EvenInKernelIdeal.nD Cert.EvenInKernelIdeal.τ).loc Cert.EvenInKernelIdeal.main_arg2) = m ((c.tc : Thread Cert.EvenInKernelIdeal.nD Cert.EvenInKernelIdeal.τ).loc Cert.EvenInKernelIdeal.main_arg2)
      ∧ r.2.mem ((c.tc : Thread Cert.EvenInKernelIdeal.nD Cert.EvenInKernelIdeal.τ).loc Cert.EvenInKernelIdeal.main_arg3) = m ((c.tc : Thread Cert.EvenInKernelIdeal.nD Cert.EvenInKernelIdeal.τ).loc Cert.EvenInKernelIdeal.main_arg3))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2)
      ∧ r.2.mem ((c.tc : Thread Cert.EvenInReferenceIdeal.nD Cert.EvenInReferenceIdeal.τ).loc Cert.EvenInReferenceIdeal.main_arg3) = m ((c.tc : Thread Cert.EvenInReferenceIdeal.nD Cert.EvenInReferenceIdeal.τ).loc Cert.EvenInReferenceIdeal.main_arg3))
      ∧ r.2.sem = fun _ => 0)

def quiescent_EvenInSampleKernel [hEvenInSampleKernel : Cert.EvenInSampleKernel.Facts] : Prop :=
  ∀ (m : (ℓ : Loc Cert.EvenInSampleKernel.nD Cert.EvenInSampleKernel.τ Cert.EvenInSampleKernel.sig) → Buf (Elt Bits) ℓ) (g : Dev Cert.EvenInSampleKernel.nD → PrngReg), Pre_EvenInSampleKernel m →
    θ_run (Cert.EvenInSampleKernel.defs (F := Bits)) (onTc (τ := Cert.EvenInSampleKernel.τ) (Cert.EvenInSampleKernel.main (F := Bits))) ⟨m, fun _ => 0, g⟩ (fun r => (∀ c : Dev Cert.EvenInSampleKernel.nD,
      r.2.mem ((c.tc : Thread Cert.EvenInSampleKernel.nD Cert.EvenInSampleKernel.τ).loc Cert.EvenInSampleKernel.main_arg0) = m ((c.tc : Thread Cert.EvenInSampleKernel.nD Cert.EvenInSampleKernel.τ).loc Cert.EvenInSampleKernel.main_arg0)
      ∧ r.2.mem ((c.tc : Thread Cert.EvenInSampleKernel.nD Cert.EvenInSampleKernel.τ).loc Cert.EvenInSampleKernel.main_arg1) = m ((c.tc : Thread Cert.EvenInSampleKernel.nD Cert.EvenInSampleKernel.τ).loc Cert.EvenInSampleKernel.main_arg1)
      ∧ r.2.mem ((c.tc : Thread Cert.EvenInSampleKernel.nD Cert.EvenInSampleKernel.τ).loc Cert.EvenInSampleKernel.main_arg2) = m ((c.tc : Thread Cert.EvenInSampleKernel.nD Cert.EvenInSampleKernel.τ).loc Cert.EvenInSampleKernel.main_arg2)
      ∧ r.2.mem ((c.tc : Thread Cert.EvenInSampleKernel.nD Cert.EvenInSampleKernel.τ).loc Cert.EvenInSampleKernel.main_arg3) = m ((c.tc : Thread Cert.EvenInSampleKernel.nD Cert.EvenInSampleKernel.τ).loc Cert.EvenInSampleKernel.main_arg3)
      ∧ r.2.mem ((c.tc : Thread Cert.EvenInSampleKernel.nD Cert.EvenInSampleKernel.τ).loc Cert.EvenInSampleKernel.main_arg4) = m ((c.tc : Thread Cert.EvenInSampleKernel.nD Cert.EvenInSampleKernel.τ).loc Cert.EvenInSampleKernel.main_arg4))
      ∧ r.2.sem = fun _ => 0)

def quiescent_EvenInSampleKernelIdeal [hEvenInSampleKernelIdeal : Cert.EvenInSampleKernelIdeal.Facts] : Prop :=
  ∀ (m : (ℓ : Loc Cert.EvenInSampleKernelIdeal.nD Cert.EvenInSampleKernelIdeal.τ Cert.EvenInSampleKernelIdeal.sig) → Buf (Elt Ideal) ℓ) (g : Dev Cert.EvenInSampleKernelIdeal.nD → PrngReg), Pre_EvenInSampleKernelIdeal m →
    θ_run (Cert.EvenInSampleKernelIdeal.defs (F := Ideal)) (onTc (τ := Cert.EvenInSampleKernelIdeal.τ) (Cert.EvenInSampleKernelIdeal.main (F := Ideal))) ⟨m, fun _ => 0, g⟩ (fun r => (∀ c : Dev Cert.EvenInSampleKernelIdeal.nD,
      r.2.mem ((c.tc : Thread Cert.EvenInSampleKernelIdeal.nD Cert.EvenInSampleKernelIdeal.τ).loc Cert.EvenInSampleKernelIdeal.main_arg0) = m ((c.tc : Thread Cert.EvenInSampleKernelIdeal.nD Cert.EvenInSampleKernelIdeal.τ).loc Cert.EvenInSampleKernelIdeal.main_arg0)
      ∧ r.2.mem ((c.tc : Thread Cert.EvenInSampleKernelIdeal.nD Cert.EvenInSampleKernelIdeal.τ).loc Cert.EvenInSampleKernelIdeal.main_arg1) = m ((c.tc : Thread Cert.EvenInSampleKernelIdeal.nD Cert.EvenInSampleKernelIdeal.τ).loc Cert.EvenInSampleKernelIdeal.main_arg1)
      ∧ r.2.mem ((c.tc : Thread Cert.EvenInSampleKernelIdeal.nD Cert.EvenInSampleKernelIdeal.τ).loc Cert.EvenInSampleKernelIdeal.main_arg2) = m ((c.tc : Thread Cert.EvenInSampleKernelIdeal.nD Cert.EvenInSampleKernelIdeal.τ).loc Cert.EvenInSampleKernelIdeal.main_arg2)
      ∧ r.2.mem ((c.tc : Thread Cert.EvenInSampleKernelIdeal.nD Cert.EvenInSampleKernelIdeal.τ).loc Cert.EvenInSampleKernelIdeal.main_arg3) = m ((c.tc : Thread Cert.EvenInSampleKernelIdeal.nD Cert.EvenInSampleKernelIdeal.τ).loc Cert.EvenInSampleKernelIdeal.main_arg3)
      ∧ r.2.mem ((c.tc : Thread Cert.EvenInSampleKernelIdeal.nD Cert.EvenInSampleKernelIdeal.τ).loc Cert.EvenInSampleKernelIdeal.main_arg4) = m ((c.tc : Thread Cert.EvenInSampleKernelIdeal.nD Cert.EvenInSampleKernelIdeal.τ).loc Cert.EvenInSampleKernelIdeal.main_arg4))
      ∧ r.2.sem = fun _ => 0)

def quiescent_EvenInSampleReferenceIdeal [hEvenInSampleReferenceIdeal : Cert.EvenInSampleReferenceIdeal.Facts] : Prop :=
  ∀ (m : (ℓ : Loc Cert.EvenInSampleReferenceIdeal.nD Cert.EvenInSampleReferenceIdeal.τ Cert.EvenInSampleReferenceIdeal.sig) → Buf (Elt Ideal) ℓ) (g : Dev Cert.EvenInSampleReferenceIdeal.nD → PrngReg), Pre_EvenInSampleReferenceIdeal m →
    θ_run (Cert.EvenInSampleReferenceIdeal.defs (F := Ideal)) (onTc (τ := Cert.EvenInSampleReferenceIdeal.τ) (Cert.EvenInSampleReferenceIdeal.main (F := Ideal))) ⟨m, fun _ => 0, g⟩ (fun r => (∀ c : Dev Cert.EvenInSampleReferenceIdeal.nD,
      r.2.mem ((c.tc : Thread Cert.EvenInSampleReferenceIdeal.nD Cert.EvenInSampleReferenceIdeal.τ).loc Cert.EvenInSampleReferenceIdeal.main_arg0) = m ((c.tc : Thread Cert.EvenInSampleReferenceIdeal.nD Cert.EvenInSampleReferenceIdeal.τ).loc Cert.EvenInSampleReferenceIdeal.main_arg0)
      ∧ r.2.mem ((c.tc : Thread Cert.EvenInSampleReferenceIdeal.nD Cert.EvenInSampleReferenceIdeal.τ).loc Cert.EvenInSampleReferenceIdeal.main_arg1) = m ((c.tc : Thread Cert.EvenInSampleReferenceIdeal.nD Cert.EvenInSampleReferenceIdeal.τ).loc Cert.EvenInSampleReferenceIdeal.main_arg1)
      ∧ r.2.mem ((c.tc : Thread Cert.EvenInSampleReferenceIdeal.nD Cert.EvenInSampleReferenceIdeal.τ).loc Cert.EvenInSampleReferenceIdeal.main_arg2) = m ((c.tc : Thread Cert.EvenInSampleReferenceIdeal.nD Cert.EvenInSampleReferenceIdeal.τ).loc Cert.EvenInSampleReferenceIdeal.main_arg2)
      ∧ r.2.mem ((c.tc : Thread Cert.EvenInSampleReferenceIdeal.nD Cert.EvenInSampleReferenceIdeal.τ).loc Cert.EvenInSampleReferenceIdeal.main_arg3) = m ((c.tc : Thread Cert.EvenInSampleReferenceIdeal.nD Cert.EvenInSampleReferenceIdeal.τ).loc Cert.EvenInSampleReferenceIdeal.main_arg3)
      ∧ r.2.mem ((c.tc : Thread Cert.EvenInSampleReferenceIdeal.nD Cert.EvenInSampleReferenceIdeal.τ).loc Cert.EvenInSampleReferenceIdeal.main_arg4) = m ((c.tc : Thread Cert.EvenInSampleReferenceIdeal.nD Cert.EvenInSampleReferenceIdeal.τ).loc Cert.EvenInSampleReferenceIdeal.main_arg4))
      ∧ r.2.sem = fun _ => 0)

def quiescent_OddInKernel [hOddInKernel : Cert.OddInKernel.Facts] : Prop :=
  ∀ (m : (ℓ : Loc Cert.OddInKernel.nD Cert.OddInKernel.τ Cert.OddInKernel.sig) → Buf (Elt Bits) ℓ) (g : Dev Cert.OddInKernel.nD → PrngReg), Pre_OddInKernel m →
    θ_run (Cert.OddInKernel.defs (F := Bits)) (onTc (τ := Cert.OddInKernel.τ) (Cert.OddInKernel.main (F := Bits))) ⟨m, fun _ => 0, g⟩ (fun r => (∀ c : Dev Cert.OddInKernel.nD,
      r.2.mem ((c.tc : Thread Cert.OddInKernel.nD Cert.OddInKernel.τ).loc Cert.OddInKernel.main_arg0) = m ((c.tc : Thread Cert.OddInKernel.nD Cert.OddInKernel.τ).loc Cert.OddInKernel.main_arg0)
      ∧ r.2.mem ((c.tc : Thread Cert.OddInKernel.nD Cert.OddInKernel.τ).loc Cert.OddInKernel.main_arg1) = m ((c.tc : Thread Cert.OddInKernel.nD Cert.OddInKernel.τ).loc Cert.OddInKernel.main_arg1)
      ∧ r.2.mem ((c.tc : Thread Cert.OddInKernel.nD Cert.OddInKernel.τ).loc Cert.OddInKernel.main_arg2) = m ((c.tc : Thread Cert.OddInKernel.nD Cert.OddInKernel.τ).loc Cert.OddInKernel.main_arg2))
      ∧ r.2.sem = fun _ => 0)

def quiescent_OddInKernelIdeal [hOddInKernelIdeal : Cert.OddInKernelIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg), Pre_OddInKernelIdeal m →
    θ_run (Cert.OddInKernelIdeal.defs (F := Ideal)) (onTc (τ := Cert.OddInKernelIdeal.τ) (Cert.OddInKernelIdeal.main (F := Ideal))) ⟨m, fun _ => 0, g⟩ (fun r => (∀ c : Dev Cert.OddInKernelIdeal.nD,
      r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
      ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1)
      ∧ r.2.mem ((c.tc : Thread Cert.OddInKernelIdeal.nD Cert.OddInKernelIdeal.τ).loc Cert.OddInKernelIdeal.main_arg2) = m ((c.tc : Thread Cert.OddInKernelIdeal.nD Cert.OddInKernelIdeal.τ).loc Cert.OddInKernelIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def quiescent_OddOutKernel [hOddOutKernel : Cert.OddOutKernel.Facts] : Prop :=
  ∀ (m : (ℓ : Loc Cert.OddOutKernel.nD Cert.OddOutKernel.τ Cert.OddOutKernel.sig) → Buf (Elt Bits) ℓ) (g : Dev Cert.OddOutKernel.nD → PrngReg), Pre_OddOutKernel m →
    θ_run (Cert.OddOutKernel.defs (F := Bits)) (onTc (τ := Cert.OddOutKernel.τ) (Cert.OddOutKernel.main (F := Bits))) ⟨m, fun _ => 0, g⟩ (fun r => (∀ c : Dev Cert.OddOutKernel.nD,
      r.2.mem ((c.tc : Thread Cert.OddOutKernel.nD Cert.OddOutKernel.τ).loc Cert.OddOutKernel.main_arg0) = m ((c.tc : Thread Cert.OddOutKernel.nD Cert.OddOutKernel.τ).loc Cert.OddOutKernel.main_arg0)
      ∧ r.2.mem ((c.tc : Thread Cert.OddOutKernel.nD Cert.OddOutKernel.τ).loc Cert.OddOutKernel.main_arg1) = m ((c.tc : Thread Cert.OddOutKernel.nD Cert.OddOutKernel.τ).loc Cert.OddOutKernel.main_arg1)
      ∧ r.2.mem ((c.tc : Thread Cert.OddOutKernel.nD Cert.OddOutKernel.τ).loc Cert.OddOutKernel.main_arg2) = m ((c.tc : Thread Cert.OddOutKernel.nD Cert.OddOutKernel.τ).loc Cert.OddOutKernel.main_arg2))
      ∧ r.2.sem = fun _ => 0)

def quiescent_OddOutKernelIdeal [hOddOutKernelIdeal : Cert.OddOutKernelIdeal.Facts] : Prop :=
  ∀ (m : (ℓ : Loc Cert.OddOutKernelIdeal.nD Cert.OddOutKernelIdeal.τ Cert.OddOutKernelIdeal.sig) → Buf (Elt Ideal) ℓ) (g : Dev Cert.OddOutKernelIdeal.nD → PrngReg), Pre_OddOutKernelIdeal m →
    θ_run (Cert.OddOutKernelIdeal.defs (F := Ideal)) (onTc (τ := Cert.OddOutKernelIdeal.τ) (Cert.OddOutKernelIdeal.main (F := Ideal))) ⟨m, fun _ => 0, g⟩ (fun r => (∀ c : Dev Cert.OddOutKernelIdeal.nD,
      r.2.mem ((c.tc : Thread Cert.OddOutKernelIdeal.nD Cert.OddOutKernelIdeal.τ).loc Cert.OddOutKernelIdeal.main_arg0) = m ((c.tc : Thread Cert.OddOutKernelIdeal.nD Cert.OddOutKernelIdeal.τ).loc Cert.OddOutKernelIdeal.main_arg0)
      ∧ r.2.mem ((c.tc : Thread Cert.OddOutKernelIdeal.nD Cert.OddOutKernelIdeal.τ).loc Cert.OddOutKernelIdeal.main_arg1) = m ((c.tc : Thread Cert.OddOutKernelIdeal.nD Cert.OddOutKernelIdeal.τ).loc Cert.OddOutKernelIdeal.main_arg1)
      ∧ r.2.mem ((c.tc : Thread Cert.OddOutKernelIdeal.nD Cert.OddOutKernelIdeal.τ).loc Cert.OddOutKernelIdeal.main_arg2) = m ((c.tc : Thread Cert.OddOutKernelIdeal.nD Cert.OddOutKernelIdeal.τ).loc Cert.OddOutKernelIdeal.main_arg2))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2))
      ∧ r.2.sem = fun _ => 0)

def quiescent_EvenOutKernel [hEvenOutKernel : Cert.EvenOutKernel.Facts] : Prop :=
  ∀ (m : (ℓ : Loc Cert.EvenOutKernel.nD Cert.EvenOutKernel.τ Cert.EvenOutKernel.sig) → Buf (Elt Bits) ℓ) (g : Dev Cert.EvenOutKernel.nD → PrngReg), Pre_EvenOutKernel m →
    θ_run (Cert.EvenOutKernel.defs (F := Bits)) (onTc (τ := Cert.EvenOutKernel.τ) (Cert.EvenOutKernel.main (F := Bits))) ⟨m, fun _ => 0, g⟩ (fun r => (∀ c : Dev Cert.EvenOutKernel.nD,
      r.2.mem ((c.tc : Thread Cert.EvenOutKernel.nD Cert.EvenOutKernel.τ).loc Cert.EvenOutKernel.main_arg0) = m ((c.tc : Thread Cert.EvenOutKernel.nD Cert.EvenOutKernel.τ).loc Cert.EvenOutKernel.main_arg0)
      ∧ r.2.mem ((c.tc : Thread Cert.EvenOutKernel.nD Cert.EvenOutKernel.τ).loc Cert.EvenOutKernel.main_arg1) = m ((c.tc : Thread Cert.EvenOutKernel.nD Cert.EvenOutKernel.τ).loc Cert.EvenOutKernel.main_arg1)
      ∧ r.2.mem ((c.tc : Thread Cert.EvenOutKernel.nD Cert.EvenOutKernel.τ).loc Cert.EvenOutKernel.main_arg2) = m ((c.tc : Thread Cert.EvenOutKernel.nD Cert.EvenOutKernel.τ).loc Cert.EvenOutKernel.main_arg2)
      ∧ r.2.mem ((c.tc : Thread Cert.EvenOutKernel.nD Cert.EvenOutKernel.τ).loc Cert.EvenOutKernel.main_arg3) = m ((c.tc : Thread Cert.EvenOutKernel.nD Cert.EvenOutKernel.τ).loc Cert.EvenOutKernel.main_arg3))
      ∧ r.2.sem = fun _ => 0)

def quiescent_EvenOutKernelIdeal [hEvenOutKernelIdeal : Cert.EvenOutKernelIdeal.Facts] : Prop :=
  ∀ (m : (ℓ : Loc Cert.EvenOutKernelIdeal.nD Cert.EvenOutKernelIdeal.τ Cert.EvenOutKernelIdeal.sig) → Buf (Elt Ideal) ℓ) (g : Dev Cert.EvenOutKernelIdeal.nD → PrngReg), Pre_EvenOutKernelIdeal m →
    θ_run (Cert.EvenOutKernelIdeal.defs (F := Ideal)) (onTc (τ := Cert.EvenOutKernelIdeal.τ) (Cert.EvenOutKernelIdeal.main (F := Ideal))) ⟨m, fun _ => 0, g⟩ (fun r => (∀ c : Dev Cert.EvenOutKernelIdeal.nD,
      r.2.mem ((c.tc : Thread Cert.EvenOutKernelIdeal.nD Cert.EvenOutKernelIdeal.τ).loc Cert.EvenOutKernelIdeal.main_arg0) = m ((c.tc : Thread Cert.EvenOutKernelIdeal.nD Cert.EvenOutKernelIdeal.τ).loc Cert.EvenOutKernelIdeal.main_arg0)
      ∧ r.2.mem ((c.tc : Thread Cert.EvenOutKernelIdeal.nD Cert.EvenOutKernelIdeal.τ).loc Cert.EvenOutKernelIdeal.main_arg1) = m ((c.tc : Thread Cert.EvenOutKernelIdeal.nD Cert.EvenOutKernelIdeal.τ).loc Cert.EvenOutKernelIdeal.main_arg1)
      ∧ r.2.mem ((c.tc : Thread Cert.EvenOutKernelIdeal.nD Cert.EvenOutKernelIdeal.τ).loc Cert.EvenOutKernelIdeal.main_arg2) = m ((c.tc : Thread Cert.EvenOutKernelIdeal.nD Cert.EvenOutKernelIdeal.τ).loc Cert.EvenOutKernelIdeal.main_arg2)
      ∧ r.2.mem ((c.tc : Thread Cert.EvenOutKernelIdeal.nD Cert.EvenOutKernelIdeal.τ).loc Cert.EvenOutKernelIdeal.main_arg3) = m ((c.tc : Thread Cert.EvenOutKernelIdeal.nD Cert.EvenOutKernelIdeal.τ).loc Cert.EvenOutKernelIdeal.main_arg3))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3))
      ∧ r.2.sem = fun _ => 0)

def quiescent_GlaSampleKernel [hGlaSampleKernel : Cert.GlaSampleKernel.Facts] : Prop :=
  ∀ (m : (ℓ : Loc Cert.GlaSampleKernel.nD Cert.GlaSampleKernel.τ Cert.GlaSampleKernel.sig) → Buf (Elt Bits) ℓ) (g : Dev Cert.GlaSampleKernel.nD → PrngReg), Pre_GlaSampleKernel m →
    θ_run (Cert.GlaSampleKernel.defs (F := Bits)) (onTc (τ := Cert.GlaSampleKernel.τ) (Cert.GlaSampleKernel.main (F := Bits))) ⟨m, fun _ => 0, g⟩ (fun r => (∀ c : Dev Cert.GlaSampleKernel.nD,
      r.2.mem ((c.tc : Thread Cert.GlaSampleKernel.nD Cert.GlaSampleKernel.τ).loc Cert.GlaSampleKernel.main_arg0) = m ((c.tc : Thread Cert.GlaSampleKernel.nD Cert.GlaSampleKernel.τ).loc Cert.GlaSampleKernel.main_arg0)
      ∧ r.2.mem ((c.tc : Thread Cert.GlaSampleKernel.nD Cert.GlaSampleKernel.τ).loc Cert.GlaSampleKernel.main_arg1) = m ((c.tc : Thread Cert.GlaSampleKernel.nD Cert.GlaSampleKernel.τ).loc Cert.GlaSampleKernel.main_arg1)
      ∧ r.2.mem ((c.tc : Thread Cert.GlaSampleKernel.nD Cert.GlaSampleKernel.τ).loc Cert.GlaSampleKernel.main_arg2) = m ((c.tc : Thread Cert.GlaSampleKernel.nD Cert.GlaSampleKernel.τ).loc Cert.GlaSampleKernel.main_arg2)
      ∧ r.2.mem ((c.tc : Thread Cert.GlaSampleKernel.nD Cert.GlaSampleKernel.τ).loc Cert.GlaSampleKernel.main_arg3) = m ((c.tc : Thread Cert.GlaSampleKernel.nD Cert.GlaSampleKernel.τ).loc Cert.GlaSampleKernel.main_arg3)
      ∧ r.2.mem ((c.tc : Thread Cert.GlaSampleKernel.nD Cert.GlaSampleKernel.τ).loc Cert.GlaSampleKernel.main_arg4) = m ((c.tc : Thread Cert.GlaSampleKernel.nD Cert.GlaSampleKernel.τ).loc Cert.GlaSampleKernel.main_arg4)
      ∧ r.2.mem ((c.tc : Thread Cert.GlaSampleKernel.nD Cert.GlaSampleKernel.τ).loc Cert.GlaSampleKernel.main_arg5) = m ((c.tc : Thread Cert.GlaSampleKernel.nD Cert.GlaSampleKernel.τ).loc Cert.GlaSampleKernel.main_arg5)
      ∧ r.2.mem ((c.tc : Thread Cert.GlaSampleKernel.nD Cert.GlaSampleKernel.τ).loc Cert.GlaSampleKernel.main_arg6) = m ((c.tc : Thread Cert.GlaSampleKernel.nD Cert.GlaSampleKernel.τ).loc Cert.GlaSampleKernel.main_arg6)
      ∧ r.2.mem ((c.tc : Thread Cert.GlaSampleKernel.nD Cert.GlaSampleKernel.τ).loc Cert.GlaSampleKernel.main_arg7) = m ((c.tc : Thread Cert.GlaSampleKernel.nD Cert.GlaSampleKernel.τ).loc Cert.GlaSampleKernel.main_arg7))
      ∧ r.2.sem = fun _ => 0)

def quiescent_GlaSampleKernelIdeal [hGlaSampleKernelIdeal : Cert.GlaSampleKernelIdeal.Facts] : Prop :=
  ∀ (m : (ℓ : Loc Cert.GlaSampleKernelIdeal.nD Cert.GlaSampleKernelIdeal.τ Cert.GlaSampleKernelIdeal.sig) → Buf (Elt Ideal) ℓ) (g : Dev Cert.GlaSampleKernelIdeal.nD → PrngReg), Pre_GlaSampleKernelIdeal m →
    θ_run (Cert.GlaSampleKernelIdeal.defs (F := Ideal)) (onTc (τ := Cert.GlaSampleKernelIdeal.τ) (Cert.GlaSampleKernelIdeal.main (F := Ideal))) ⟨m, fun _ => 0, g⟩ (fun r => (∀ c : Dev Cert.GlaSampleKernelIdeal.nD,
      r.2.mem ((c.tc : Thread Cert.GlaSampleKernelIdeal.nD Cert.GlaSampleKernelIdeal.τ).loc Cert.GlaSampleKernelIdeal.main_arg0) = m ((c.tc : Thread Cert.GlaSampleKernelIdeal.nD Cert.GlaSampleKernelIdeal.τ).loc Cert.GlaSampleKernelIdeal.main_arg0)
      ∧ r.2.mem ((c.tc : Thread Cert.GlaSampleKernelIdeal.nD Cert.GlaSampleKernelIdeal.τ).loc Cert.GlaSampleKernelIdeal.main_arg1) = m ((c.tc : Thread Cert.GlaSampleKernelIdeal.nD Cert.GlaSampleKernelIdeal.τ).loc Cert.GlaSampleKernelIdeal.main_arg1)
      ∧ r.2.mem ((c.tc : Thread Cert.GlaSampleKernelIdeal.nD Cert.GlaSampleKernelIdeal.τ).loc Cert.GlaSampleKernelIdeal.main_arg2) = m ((c.tc : Thread Cert.GlaSampleKernelIdeal.nD Cert.GlaSampleKernelIdeal.τ).loc Cert.GlaSampleKernelIdeal.main_arg2)
      ∧ r.2.mem ((c.tc : Thread Cert.GlaSampleKernelIdeal.nD Cert.GlaSampleKernelIdeal.τ).loc Cert.GlaSampleKernelIdeal.main_arg3) = m ((c.tc : Thread Cert.GlaSampleKernelIdeal.nD Cert.GlaSampleKernelIdeal.τ).loc Cert.GlaSampleKernelIdeal.main_arg3)
      ∧ r.2.mem ((c.tc : Thread Cert.GlaSampleKernelIdeal.nD Cert.GlaSampleKernelIdeal.τ).loc Cert.GlaSampleKernelIdeal.main_arg4) = m ((c.tc : Thread Cert.GlaSampleKernelIdeal.nD Cert.GlaSampleKernelIdeal.τ).loc Cert.GlaSampleKernelIdeal.main_arg4)
      ∧ r.2.mem ((c.tc : Thread Cert.GlaSampleKernelIdeal.nD Cert.GlaSampleKernelIdeal.τ).loc Cert.GlaSampleKernelIdeal.main_arg5) = m ((c.tc : Thread Cert.GlaSampleKernelIdeal.nD Cert.GlaSampleKernelIdeal.τ).loc Cert.GlaSampleKernelIdeal.main_arg5)
      ∧ r.2.mem ((c.tc : Thread Cert.GlaSampleKernelIdeal.nD Cert.GlaSampleKernelIdeal.τ).loc Cert.GlaSampleKernelIdeal.main_arg6) = m ((c.tc : Thread Cert.GlaSampleKernelIdeal.nD Cert.GlaSampleKernelIdeal.τ).loc Cert.GlaSampleKernelIdeal.main_arg6)
      ∧ r.2.mem ((c.tc : Thread Cert.GlaSampleKernelIdeal.nD Cert.GlaSampleKernelIdeal.τ).loc Cert.GlaSampleKernelIdeal.main_arg7) = m ((c.tc : Thread Cert.GlaSampleKernelIdeal.nD Cert.GlaSampleKernelIdeal.τ).loc Cert.GlaSampleKernelIdeal.main_arg7))
      ∧ r.2.sem = fun _ => 0)

def quiescent_GlaSampleReferenceIdeal [hGlaSampleReferenceIdeal : Cert.GlaSampleReferenceIdeal.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4)
      ∧ r.2.mem ((c.tc : Thread Cert.GlaSampleReferenceIdeal.nD Cert.GlaSampleReferenceIdeal.τ).loc Cert.GlaSampleReferenceIdeal.main_arg5) = m ((c.tc : Thread Cert.GlaSampleReferenceIdeal.nD Cert.GlaSampleReferenceIdeal.τ).loc Cert.GlaSampleReferenceIdeal.main_arg5)
      ∧ r.2.mem ((c.tc : Thread Cert.GlaSampleReferenceIdeal.nD Cert.GlaSampleReferenceIdeal.τ).loc Cert.GlaSampleReferenceIdeal.main_arg6) = m ((c.tc : Thread Cert.GlaSampleReferenceIdeal.nD Cert.GlaSampleReferenceIdeal.τ).loc Cert.GlaSampleReferenceIdeal.main_arg6)
      ∧ r.2.mem ((c.tc : Thread Cert.GlaSampleReferenceIdeal.nD Cert.GlaSampleReferenceIdeal.τ).loc Cert.GlaSampleReferenceIdeal.main_arg7) = m ((c.tc : Thread Cert.GlaSampleReferenceIdeal.nD Cert.GlaSampleReferenceIdeal.τ).loc Cert.GlaSampleReferenceIdeal.main_arg7))
      ∧ r.2.sem = fun _ => 0)

def quiescent_GlaKernel [hGlaKernel : Cert.GlaKernel.Facts] : Prop :=
  ∀ (m : (ℓ : Loc Cert.GlaKernel.nD Cert.GlaKernel.τ Cert.GlaKernel.sig) → Buf (Elt Bits) ℓ) (g : Dev Cert.GlaKernel.nD → PrngReg), Pre_GlaKernel m →
    θ_run (Cert.GlaKernel.defs (F := Bits)) (onTc (τ := Cert.GlaKernel.τ) (Cert.GlaKernel.main (F := Bits))) ⟨m, fun _ => 0, g⟩ (fun r => (∀ c : Dev Cert.GlaKernel.nD,
      r.2.mem ((c.tc : Thread Cert.GlaKernel.nD Cert.GlaKernel.τ).loc Cert.GlaKernel.main_arg0) = m ((c.tc : Thread Cert.GlaKernel.nD Cert.GlaKernel.τ).loc Cert.GlaKernel.main_arg0)
      ∧ r.2.mem ((c.tc : Thread Cert.GlaKernel.nD Cert.GlaKernel.τ).loc Cert.GlaKernel.main_arg1) = m ((c.tc : Thread Cert.GlaKernel.nD Cert.GlaKernel.τ).loc Cert.GlaKernel.main_arg1)
      ∧ r.2.mem ((c.tc : Thread Cert.GlaKernel.nD Cert.GlaKernel.τ).loc Cert.GlaKernel.main_arg2) = m ((c.tc : Thread Cert.GlaKernel.nD Cert.GlaKernel.τ).loc Cert.GlaKernel.main_arg2)
      ∧ r.2.mem ((c.tc : Thread Cert.GlaKernel.nD Cert.GlaKernel.τ).loc Cert.GlaKernel.main_arg3) = m ((c.tc : Thread Cert.GlaKernel.nD Cert.GlaKernel.τ).loc Cert.GlaKernel.main_arg3)
      ∧ r.2.mem ((c.tc : Thread Cert.GlaKernel.nD Cert.GlaKernel.τ).loc Cert.GlaKernel.main_arg4) = m ((c.tc : Thread Cert.GlaKernel.nD Cert.GlaKernel.τ).loc Cert.GlaKernel.main_arg4)
      ∧ r.2.mem ((c.tc : Thread Cert.GlaKernel.nD Cert.GlaKernel.τ).loc Cert.GlaKernel.main_arg5) = m ((c.tc : Thread Cert.GlaKernel.nD Cert.GlaKernel.τ).loc Cert.GlaKernel.main_arg5)
      ∧ r.2.mem ((c.tc : Thread Cert.GlaKernel.nD Cert.GlaKernel.τ).loc Cert.GlaKernel.main_arg6) = m ((c.tc : Thread Cert.GlaKernel.nD Cert.GlaKernel.τ).loc Cert.GlaKernel.main_arg6)
      ∧ r.2.mem ((c.tc : Thread Cert.GlaKernel.nD Cert.GlaKernel.τ).loc Cert.GlaKernel.main_arg7) = m ((c.tc : Thread Cert.GlaKernel.nD Cert.GlaKernel.τ).loc Cert.GlaKernel.main_arg7))
      ∧ r.2.sem = fun _ => 0)

def quiescent_GlaKernelIdeal [hGlaKernelIdeal : Cert.GlaKernelIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4)
      ∧ r.2.mem ((c.tc : Thread Cert.GlaKernelIdeal.nD Cert.GlaKernelIdeal.τ).loc Cert.GlaKernelIdeal.main_arg5) = m ((c.tc : Thread Cert.GlaKernelIdeal.nD Cert.GlaKernelIdeal.τ).loc Cert.GlaKernelIdeal.main_arg5)
      ∧ r.2.mem ((c.tc : Thread Cert.GlaKernelIdeal.nD Cert.GlaKernelIdeal.τ).loc Cert.GlaKernelIdeal.main_arg6) = m ((c.tc : Thread Cert.GlaKernelIdeal.nD Cert.GlaKernelIdeal.τ).loc Cert.GlaKernelIdeal.main_arg6)
      ∧ r.2.mem ((c.tc : Thread Cert.GlaKernelIdeal.nD Cert.GlaKernelIdeal.τ).loc Cert.GlaKernelIdeal.main_arg7) = m ((c.tc : Thread Cert.GlaKernelIdeal.nD Cert.GlaKernelIdeal.τ).loc Cert.GlaKernelIdeal.main_arg7))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v10)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnSampleKernel_FfnSampleKernelIdeal : Prop :=
  True

def algebraic_FfnSampleKernelIdeal_FfnSampleReferenceIdeal [hFfnSampleKernelIdeal : Cert.FfnSampleKernelIdeal.Facts] [hFfnSampleReferenceIdeal : Cert.FfnSampleReferenceIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleKernelIdeal m →
    (∀ c : Dev Cert.FfnSampleKernelIdeal.nD,
      m' ((c.tc : Thread Cert.FfnSampleReferenceIdeal.nD Cert.FfnSampleReferenceIdeal.τ).loc Cert.FfnSampleReferenceIdeal.main_arg0) = m ((c.tc : Thread Cert.FfnSampleKernelIdeal.nD Cert.FfnSampleKernelIdeal.τ).loc Cert.FfnSampleKernelIdeal.main_arg0)
      ∧ m' ((c.tc : Thread Cert.FfnSampleReferenceIdeal.nD Cert.FfnSampleReferenceIdeal.τ).loc Cert.FfnSampleReferenceIdeal.main_arg1) = m ((c.tc : Thread Cert.FfnSampleKernelIdeal.nD Cert.FfnSampleKernelIdeal.τ).loc Cert.FfnSampleKernelIdeal.main_arg1)
      ∧ m' ((c.tc : Thread Cert.FfnSampleReferenceIdeal.nD Cert.FfnSampleReferenceIdeal.τ).loc Cert.FfnSampleReferenceIdeal.main_arg2) = m ((c.tc : Thread Cert.FfnSampleKernelIdeal.nD Cert.FfnSampleKernelIdeal.τ).loc Cert.FfnSampleKernelIdeal.main_arg2)
      ∧ m' ((c.tc : Thread Cert.FfnSampleReferenceIdeal.nD Cert.FfnSampleReferenceIdeal.τ).loc Cert.FfnSampleReferenceIdeal.main_arg3) = m ((c.tc : Thread Cert.FfnSampleKernelIdeal.nD Cert.FfnSampleKernelIdeal.τ).loc Cert.FfnSampleKernelIdeal.main_arg3)
      ∧ m' ((c.tc : Thread Cert.FfnSampleReferenceIdeal.nD Cert.FfnSampleReferenceIdeal.τ).loc Cert.FfnSampleReferenceIdeal.main_arg4) = m ((c.tc : Thread Cert.FfnSampleKernelIdeal.nD Cert.FfnSampleKernelIdeal.τ).loc Cert.FfnSampleKernelIdeal.main_arg4)) →
    ∃ (v0 : (c : Dev Cert.FfnSampleKernelIdeal.nD) → Buf (Elt Ideal) ((c.tc : Thread Cert.FfnSampleKernelIdeal.nD Cert.FfnSampleKernelIdeal.τ).loc Cert.FfnSampleKernelIdeal.main_v10)),
      θ_run (Cert.FfnSampleKernelIdeal.defs (F := Ideal)) (onTc (τ := Cert.FfnSampleKernelIdeal.τ) (Cert.FfnSampleKernelIdeal.main (F := Ideal))) ⟨m, fun _ => 0, g⟩ (fun r => ∀ c : Dev Cert.FfnSampleKernelIdeal.nD,
          r.2.mem ((c.tc : Thread Cert.FfnSampleKernelIdeal.nD Cert.FfnSampleKernelIdeal.τ).loc Cert.FfnSampleKernelIdeal.main_v10) = v0 c
          ∧ r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
          ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
          ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
          ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
          ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v18) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4))

def preserves_EvenInKernel_EvenInKernelIdeal : Prop :=
  True

def algebraic_EvenInKernelIdeal_EvenInReferenceIdeal [hEvenInKernelIdeal : Cert.EvenInKernelIdeal.Facts] [hEvenInReferenceIdeal : Cert.EvenInReferenceIdeal.Facts] : Prop :=
  ∀ (m : (ℓ : Loc Cert.EvenInKernelIdeal.nD Cert.EvenInKernelIdeal.τ Cert.EvenInKernelIdeal.sig) → Buf (Elt Ideal) ℓ) (g : Dev Cert.EvenInKernelIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInKernelIdeal m →
    (∀ c : Dev Cert.EvenInKernelIdeal.nD,
      m' ((c.tc : Thread Cert.EvenInReferenceIdeal.nD Cert.EvenInReferenceIdeal.τ).loc Cert.EvenInReferenceIdeal.main_arg0) = m ((c.tc : Thread Cert.EvenInKernelIdeal.nD Cert.EvenInKernelIdeal.τ).loc Cert.EvenInKernelIdeal.main_arg0)
      ∧ m' ((c.tc : Thread Cert.EvenInReferenceIdeal.nD Cert.EvenInReferenceIdeal.τ).loc Cert.EvenInReferenceIdeal.main_arg1) = m ((c.tc : Thread Cert.EvenInKernelIdeal.nD Cert.EvenInKernelIdeal.τ).loc Cert.EvenInKernelIdeal.main_arg1)
      ∧ m' ((c.tc : Thread Cert.EvenInReferenceIdeal.nD Cert.EvenInReferenceIdeal.τ).loc Cert.EvenInReferenceIdeal.main_arg2) = m ((c.tc : Thread Cert.EvenInKernelIdeal.nD Cert.EvenInKernelIdeal.τ).loc Cert.EvenInKernelIdeal.main_arg2)
      ∧ m' ((c.tc : Thread Cert.EvenInReferenceIdeal.nD Cert.EvenInReferenceIdeal.τ).loc Cert.EvenInReferenceIdeal.main_arg3) = m ((c.tc : Thread Cert.EvenInKernelIdeal.nD Cert.EvenInKernelIdeal.τ).loc Cert.EvenInKernelIdeal.main_arg3)) →
    ∃ (v0 : (c : Dev Cert.EvenInKernelIdeal.nD) → Buf (Elt Ideal) ((c.tc : Thread Cert.EvenInKernelIdeal.nD Cert.EvenInKernelIdeal.τ).loc Cert.EvenInKernelIdeal.main_v74)) (v1 : (c : Dev Cert.EvenInKernelIdeal.nD) → Buf (Elt Ideal) ((c.tc : Thread Cert.EvenInKernelIdeal.nD Cert.EvenInKernelIdeal.τ).loc Cert.EvenInKernelIdeal.main_v9)) (v2 : (c : Dev Cert.EvenInKernelIdeal.nD) → Buf (Elt Ideal) ((c.tc : Thread Cert.EvenInKernelIdeal.nD Cert.EvenInKernelIdeal.τ).loc Cert.EvenInKernelIdeal.main_v71)) (v3 : (c : Dev Cert.EvenInKernelIdeal.nD) → Buf (Elt Ideal) ((c.tc : Thread Cert.EvenInKernelIdeal.nD Cert.EvenInKernelIdeal.τ).loc Cert.EvenInKernelIdeal.main_v75)) (v4 : (c : Dev Cert.EvenInKernelIdeal.nD) → Buf (Elt Ideal) ((c.tc : Thread Cert.EvenInKernelIdeal.nD Cert.EvenInKernelIdeal.τ).loc Cert.EvenInKernelIdeal.main_v77)),
      θ_run (Cert.EvenInKernelIdeal.defs (F := Ideal)) (onTc (τ := Cert.EvenInKernelIdeal.τ) (Cert.EvenInKernelIdeal.main (F := Ideal))) ⟨m, fun _ => 0, g⟩ (fun r => ∀ c : Dev Cert.EvenInKernelIdeal.nD,
          r.2.mem ((c.tc : Thread Cert.EvenInKernelIdeal.nD Cert.EvenInKernelIdeal.τ).loc Cert.EvenInKernelIdeal.main_v74) = v0 c
          ∧ r.2.mem ((c.tc : Thread Cert.EvenInKernelIdeal.nD Cert.EvenInKernelIdeal.τ).loc Cert.EvenInKernelIdeal.main_v9) = v1 c
          ∧ r.2.mem ((c.tc : Thread Cert.EvenInKernelIdeal.nD Cert.EvenInKernelIdeal.τ).loc Cert.EvenInKernelIdeal.main_v71) = v2 c
          ∧ r.2.mem ((c.tc : Thread Cert.EvenInKernelIdeal.nD Cert.EvenInKernelIdeal.τ).loc Cert.EvenInKernelIdeal.main_v75) = v3 c
          ∧ r.2.mem ((c.tc : Thread Cert.EvenInKernelIdeal.nD Cert.EvenInKernelIdeal.τ).loc Cert.EvenInKernelIdeal.main_v77) = v4 c
          ∧ r.2.mem ((c.tc : Thread Cert.EvenInKernelIdeal.nD Cert.EvenInKernelIdeal.τ).loc Cert.EvenInKernelIdeal.main_arg0) = m ((c.tc : Thread Cert.EvenInKernelIdeal.nD Cert.EvenInKernelIdeal.τ).loc Cert.EvenInKernelIdeal.main_arg0)
          ∧ r.2.mem ((c.tc : Thread Cert.EvenInKernelIdeal.nD Cert.EvenInKernelIdeal.τ).loc Cert.EvenInKernelIdeal.main_arg1) = m ((c.tc : Thread Cert.EvenInKernelIdeal.nD Cert.EvenInKernelIdeal.τ).loc Cert.EvenInKernelIdeal.main_arg1)
          ∧ r.2.mem ((c.tc : Thread Cert.EvenInKernelIdeal.nD Cert.EvenInKernelIdeal.τ).loc Cert.EvenInKernelIdeal.main_arg2) = m ((c.tc : Thread Cert.EvenInKernelIdeal.nD Cert.EvenInKernelIdeal.τ).loc Cert.EvenInKernelIdeal.main_arg2)
          ∧ r.2.mem ((c.tc : Thread Cert.EvenInKernelIdeal.nD Cert.EvenInKernelIdeal.τ).loc Cert.EvenInKernelIdeal.main_arg3) = m ((c.tc : Thread Cert.EvenInKernelIdeal.nD Cert.EvenInKernelIdeal.τ).loc Cert.EvenInKernelIdeal.main_arg3))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v14) = v0 c
          ∧ r.2.mem ((c.tc : Thread Cert.EvenInReferenceIdeal.nD Cert.EvenInReferenceIdeal.τ).loc Cert.EvenInReferenceIdeal.main_v15) = v1 c
          ∧ r.2.mem ((c.tc : Thread Cert.EvenInReferenceIdeal.nD Cert.EvenInReferenceIdeal.τ).loc Cert.EvenInReferenceIdeal.main_v77) = v2 c
          ∧ r.2.mem ((c.tc : Thread Cert.EvenInReferenceIdeal.nD Cert.EvenInReferenceIdeal.τ).loc Cert.EvenInReferenceIdeal.main_v80) = v3 c
          ∧ r.2.mem ((c.tc : Thread Cert.EvenInReferenceIdeal.nD Cert.EvenInReferenceIdeal.τ).loc Cert.EvenInReferenceIdeal.main_v82) = v4 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2)
          ∧ r.2.mem ((c.tc : Thread Cert.EvenInReferenceIdeal.nD Cert.EvenInReferenceIdeal.τ).loc Cert.EvenInReferenceIdeal.main_arg3) = m' ((c.tc : Thread Cert.EvenInReferenceIdeal.nD Cert.EvenInReferenceIdeal.τ).loc Cert.EvenInReferenceIdeal.main_arg3))

def preserves_EvenInSampleKernel_EvenInSampleKernelIdeal : Prop :=
  True

def algebraic_EvenInSampleKernelIdeal_EvenInSampleReferenceIdeal [hEvenInSampleKernelIdeal : Cert.EvenInSampleKernelIdeal.Facts] [hEvenInSampleReferenceIdeal : Cert.EvenInSampleReferenceIdeal.Facts] : Prop :=
  ∀ (m : (ℓ : Loc Cert.EvenInSampleKernelIdeal.nD Cert.EvenInSampleKernelIdeal.τ Cert.EvenInSampleKernelIdeal.sig) → Buf (Elt Ideal) ℓ) (g : Dev Cert.EvenInSampleKernelIdeal.nD → PrngReg)
    (m' : (ℓ : Loc Cert.EvenInSampleReferenceIdeal.nD Cert.EvenInSampleReferenceIdeal.τ Cert.EvenInSampleReferenceIdeal.sig) → Buf (Elt Ideal) ℓ) (g' : Dev Cert.EvenInSampleReferenceIdeal.nD → PrngReg), Pre_EvenInSampleKernelIdeal m →
    (∀ c : Dev Cert.EvenInSampleKernelIdeal.nD,
      m' ((c.tc : Thread Cert.EvenInSampleReferenceIdeal.nD Cert.EvenInSampleReferenceIdeal.τ).loc Cert.EvenInSampleReferenceIdeal.main_arg0) = m ((c.tc : Thread Cert.EvenInSampleKernelIdeal.nD Cert.EvenInSampleKernelIdeal.τ).loc Cert.EvenInSampleKernelIdeal.main_arg0)
      ∧ m' ((c.tc : Thread Cert.EvenInSampleReferenceIdeal.nD Cert.EvenInSampleReferenceIdeal.τ).loc Cert.EvenInSampleReferenceIdeal.main_arg1) = m ((c.tc : Thread Cert.EvenInSampleKernelIdeal.nD Cert.EvenInSampleKernelIdeal.τ).loc Cert.EvenInSampleKernelIdeal.main_arg1)
      ∧ m' ((c.tc : Thread Cert.EvenInSampleReferenceIdeal.nD Cert.EvenInSampleReferenceIdeal.τ).loc Cert.EvenInSampleReferenceIdeal.main_arg2) = m ((c.tc : Thread Cert.EvenInSampleKernelIdeal.nD Cert.EvenInSampleKernelIdeal.τ).loc Cert.EvenInSampleKernelIdeal.main_arg2)
      ∧ m' ((c.tc : Thread Cert.EvenInSampleReferenceIdeal.nD Cert.EvenInSampleReferenceIdeal.τ).loc Cert.EvenInSampleReferenceIdeal.main_arg3) = m ((c.tc : Thread Cert.EvenInSampleKernelIdeal.nD Cert.EvenInSampleKernelIdeal.τ).loc Cert.EvenInSampleKernelIdeal.main_arg3)
      ∧ m' ((c.tc : Thread Cert.EvenInSampleReferenceIdeal.nD Cert.EvenInSampleReferenceIdeal.τ).loc Cert.EvenInSampleReferenceIdeal.main_arg4) = m ((c.tc : Thread Cert.EvenInSampleKernelIdeal.nD Cert.EvenInSampleKernelIdeal.τ).loc Cert.EvenInSampleKernelIdeal.main_arg4)) →
    ∃ (v0 : (c : Dev Cert.EvenInSampleKernelIdeal.nD) → Buf (Elt Ideal) ((c.tc : Thread Cert.EvenInSampleKernelIdeal.nD Cert.EvenInSampleKernelIdeal.τ).loc Cert.EvenInSampleKernelIdeal.main_v73)) (v1 : (c : Dev Cert.EvenInSampleKernelIdeal.nD) → Buf (Elt Ideal) ((c.tc : Thread Cert.EvenInSampleKernelIdeal.nD Cert.EvenInSampleKernelIdeal.τ).loc Cert.EvenInSampleKernelIdeal.main_v77)) (v2 : (c : Dev Cert.EvenInSampleKernelIdeal.nD) → Buf (Elt Ideal) ((c.tc : Thread Cert.EvenInSampleKernelIdeal.nD Cert.EvenInSampleKernelIdeal.τ).loc Cert.EvenInSampleKernelIdeal.main_v79)),
      θ_run (Cert.EvenInSampleKernelIdeal.defs (F := Ideal)) (onTc (τ := Cert.EvenInSampleKernelIdeal.τ) (Cert.EvenInSampleKernelIdeal.main (F := Ideal))) ⟨m, fun _ => 0, g⟩ (fun r => ∀ c : Dev Cert.EvenInSampleKernelIdeal.nD,
          r.2.mem ((c.tc : Thread Cert.EvenInSampleKernelIdeal.nD Cert.EvenInSampleKernelIdeal.τ).loc Cert.EvenInSampleKernelIdeal.main_v73) = v0 c
          ∧ r.2.mem ((c.tc : Thread Cert.EvenInSampleKernelIdeal.nD Cert.EvenInSampleKernelIdeal.τ).loc Cert.EvenInSampleKernelIdeal.main_v77) = v1 c
          ∧ r.2.mem ((c.tc : Thread Cert.EvenInSampleKernelIdeal.nD Cert.EvenInSampleKernelIdeal.τ).loc Cert.EvenInSampleKernelIdeal.main_v79) = v2 c
          ∧ r.2.mem ((c.tc : Thread Cert.EvenInSampleKernelIdeal.nD Cert.EvenInSampleKernelIdeal.τ).loc Cert.EvenInSampleKernelIdeal.main_arg0) = m ((c.tc : Thread Cert.EvenInSampleKernelIdeal.nD Cert.EvenInSampleKernelIdeal.τ).loc Cert.EvenInSampleKernelIdeal.main_arg0)
          ∧ r.2.mem ((c.tc : Thread Cert.EvenInSampleKernelIdeal.nD Cert.EvenInSampleKernelIdeal.τ).loc Cert.EvenInSampleKernelIdeal.main_arg1) = m ((c.tc : Thread Cert.EvenInSampleKernelIdeal.nD Cert.EvenInSampleKernelIdeal.τ).loc Cert.EvenInSampleKernelIdeal.main_arg1)
          ∧ r.2.mem ((c.tc : Thread Cert.EvenInSampleKernelIdeal.nD Cert.EvenInSampleKernelIdeal.τ).loc Cert.EvenInSampleKernelIdeal.main_arg2) = m ((c.tc : Thread Cert.EvenInSampleKernelIdeal.nD Cert.EvenInSampleKernelIdeal.τ).loc Cert.EvenInSampleKernelIdeal.main_arg2)
          ∧ r.2.mem ((c.tc : Thread Cert.EvenInSampleKernelIdeal.nD Cert.EvenInSampleKernelIdeal.τ).loc Cert.EvenInSampleKernelIdeal.main_arg3) = m ((c.tc : Thread Cert.EvenInSampleKernelIdeal.nD Cert.EvenInSampleKernelIdeal.τ).loc Cert.EvenInSampleKernelIdeal.main_arg3)
          ∧ r.2.mem ((c.tc : Thread Cert.EvenInSampleKernelIdeal.nD Cert.EvenInSampleKernelIdeal.τ).loc Cert.EvenInSampleKernelIdeal.main_arg4) = m ((c.tc : Thread Cert.EvenInSampleKernelIdeal.nD Cert.EvenInSampleKernelIdeal.τ).loc Cert.EvenInSampleKernelIdeal.main_arg4))
      ∧ θ_run (Cert.EvenInSampleReferenceIdeal.defs (F := Ideal)) (onTc (τ := Cert.EvenInSampleReferenceIdeal.τ) (Cert.EvenInSampleReferenceIdeal.main (F := Ideal))) ⟨m', fun _ => 0, g'⟩ (fun r => ∀ c : Dev Cert.EvenInSampleReferenceIdeal.nD,
          r.2.mem ((c.tc : Thread Cert.EvenInSampleReferenceIdeal.nD Cert.EvenInSampleReferenceIdeal.τ).loc Cert.EvenInSampleReferenceIdeal.main_v78) = v0 c
          ∧ r.2.mem ((c.tc : Thread Cert.EvenInSampleReferenceIdeal.nD Cert.EvenInSampleReferenceIdeal.τ).loc Cert.EvenInSampleReferenceIdeal.main_v82) = v1 c
          ∧ r.2.mem ((c.tc : Thread Cert.EvenInSampleReferenceIdeal.nD Cert.EvenInSampleReferenceIdeal.τ).loc Cert.EvenInSampleReferenceIdeal.main_v85) = v2 c
          ∧ r.2.mem ((c.tc : Thread Cert.EvenInSampleReferenceIdeal.nD Cert.EvenInSampleReferenceIdeal.τ).loc Cert.EvenInSampleReferenceIdeal.main_arg0) = m' ((c.tc : Thread Cert.EvenInSampleReferenceIdeal.nD Cert.EvenInSampleReferenceIdeal.τ).loc Cert.EvenInSampleReferenceIdeal.main_arg0)
          ∧ r.2.mem ((c.tc : Thread Cert.EvenInSampleReferenceIdeal.nD Cert.EvenInSampleReferenceIdeal.τ).loc Cert.EvenInSampleReferenceIdeal.main_arg1) = m' ((c.tc : Thread Cert.EvenInSampleReferenceIdeal.nD Cert.EvenInSampleReferenceIdeal.τ).loc Cert.EvenInSampleReferenceIdeal.main_arg1)
          ∧ r.2.mem ((c.tc : Thread Cert.EvenInSampleReferenceIdeal.nD Cert.EvenInSampleReferenceIdeal.τ).loc Cert.EvenInSampleReferenceIdeal.main_arg2) = m' ((c.tc : Thread Cert.EvenInSampleReferenceIdeal.nD Cert.EvenInSampleReferenceIdeal.τ).loc Cert.EvenInSampleReferenceIdeal.main_arg2)
          ∧ r.2.mem ((c.tc : Thread Cert.EvenInSampleReferenceIdeal.nD Cert.EvenInSampleReferenceIdeal.τ).loc Cert.EvenInSampleReferenceIdeal.main_arg3) = m' ((c.tc : Thread Cert.EvenInSampleReferenceIdeal.nD Cert.EvenInSampleReferenceIdeal.τ).loc Cert.EvenInSampleReferenceIdeal.main_arg3)
          ∧ r.2.mem ((c.tc : Thread Cert.EvenInSampleReferenceIdeal.nD Cert.EvenInSampleReferenceIdeal.τ).loc Cert.EvenInSampleReferenceIdeal.main_arg4) = m' ((c.tc : Thread Cert.EvenInSampleReferenceIdeal.nD Cert.EvenInSampleReferenceIdeal.τ).loc Cert.EvenInSampleReferenceIdeal.main_arg4))

def preserves_OddInKernel_OddInKernelIdeal : Prop :=
  True

def algebraic_OddInKernelIdeal_OddInReferenceIdeal [hOddInKernelIdeal : Cert.OddInKernelIdeal.Facts] [hOddInReferenceIdeal : Cert.OddInReferenceIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInKernelIdeal m →
    (∀ c : Dev Cert.OddInKernelIdeal.nD,
      m' ((c.tc : Thread Cert.OddInReferenceIdeal.nD Cert.OddInReferenceIdeal.τ).loc Cert.OddInReferenceIdeal.main_arg0) = m ((c.tc : Thread Cert.OddInKernelIdeal.nD Cert.OddInKernelIdeal.τ).loc Cert.OddInKernelIdeal.main_arg0)
      ∧ m' ((c.tc : Thread Cert.OddInReferenceIdeal.nD Cert.OddInReferenceIdeal.τ).loc Cert.OddInReferenceIdeal.main_arg1) = m ((c.tc : Thread Cert.OddInKernelIdeal.nD Cert.OddInKernelIdeal.τ).loc Cert.OddInKernelIdeal.main_arg1)
      ∧ m' ((c.tc : Thread Cert.OddInReferenceIdeal.nD Cert.OddInReferenceIdeal.τ).loc Cert.OddInReferenceIdeal.main_arg2) = m ((c.tc : Thread Cert.OddInKernelIdeal.nD Cert.OddInKernelIdeal.τ).loc Cert.OddInKernelIdeal.main_arg2)) →
    ∃ (v0 : (c : Dev Cert.OddInKernelIdeal.nD) → Buf (Elt Ideal) ((c.tc : Thread Cert.OddInKernelIdeal.nD Cert.OddInKernelIdeal.τ).loc Cert.OddInKernelIdeal.main_v9)) (v1 : (c : Dev Cert.OddInKernelIdeal.nD) → Buf (Elt Ideal) ((c.tc : Thread Cert.OddInKernelIdeal.nD Cert.OddInKernelIdeal.τ).loc Cert.OddInKernelIdeal.main_v10)) (v2 : (c : Dev Cert.OddInKernelIdeal.nD) → Buf (Elt Ideal) ((c.tc : Thread Cert.OddInKernelIdeal.nD Cert.OddInKernelIdeal.τ).loc Cert.OddInKernelIdeal.main_v11)) (v3 : (c : Dev Cert.OddInKernelIdeal.nD) → Buf (Elt Ideal) ((c.tc : Thread Cert.OddInKernelIdeal.nD Cert.OddInKernelIdeal.τ).loc Cert.OddInKernelIdeal.main_v13)),
      θ_run (Cert.OddInKernelIdeal.defs (F := Ideal)) (onTc (τ := Cert.OddInKernelIdeal.τ) (Cert.OddInKernelIdeal.main (F := Ideal))) ⟨m, fun _ => 0, g⟩ (fun r => ∀ c : Dev Cert.OddInKernelIdeal.nD,
          r.2.mem ((c.tc : Thread Cert.OddInKernelIdeal.nD Cert.OddInKernelIdeal.τ).loc Cert.OddInKernelIdeal.main_v9) = v0 c
          ∧ r.2.mem ((c.tc : Thread Cert.OddInKernelIdeal.nD Cert.OddInKernelIdeal.τ).loc Cert.OddInKernelIdeal.main_v10) = v1 c
          ∧ r.2.mem ((c.tc : Thread Cert.OddInKernelIdeal.nD Cert.OddInKernelIdeal.τ).loc Cert.OddInKernelIdeal.main_v11) = v2 c
          ∧ r.2.mem ((c.tc : Thread Cert.OddInKernelIdeal.nD Cert.OddInKernelIdeal.τ).loc Cert.OddInKernelIdeal.main_v13) = v3 c
          ∧ r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
          ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1)
          ∧ r.2.mem ((c.tc : Thread Cert.OddInKernelIdeal.nD Cert.OddInKernelIdeal.τ).loc Cert.OddInKernelIdeal.main_arg2) = m ((c.tc : Thread Cert.OddInKernelIdeal.nD Cert.OddInKernelIdeal.τ).loc Cert.OddInKernelIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v14) = v0 c
          ∧ r.2.mem ((c.tc : Thread Cert.OddInReferenceIdeal.nD Cert.OddInReferenceIdeal.τ).loc Cert.OddInReferenceIdeal.main_v15) = v1 c
          ∧ r.2.mem ((c.tc : Thread Cert.OddInReferenceIdeal.nD Cert.OddInReferenceIdeal.τ).loc Cert.OddInReferenceIdeal.main_v16) = v2 c
          ∧ r.2.mem ((c.tc : Thread Cert.OddInReferenceIdeal.nD Cert.OddInReferenceIdeal.τ).loc Cert.OddInReferenceIdeal.main_v17) = v3 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def preserves_OddOutKernel_OddOutKernelIdeal : Prop :=
  True

def algebraic_OddOutKernelIdeal_OddOutReferenceIdeal [hOddOutKernelIdeal : Cert.OddOutKernelIdeal.Facts] [hOddOutReferenceIdeal : Cert.OddOutReferenceIdeal.Facts] : Prop :=
  ∀ (m : (ℓ : Loc Cert.OddOutKernelIdeal.nD Cert.OddOutKernelIdeal.τ Cert.OddOutKernelIdeal.sig) → Buf (Elt Ideal) ℓ) (g : Dev Cert.OddOutKernelIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutKernelIdeal m →
    (∀ c : Dev Cert.OddOutKernelIdeal.nD,
      m' ((c.tc : Thread Cert.OddOutReferenceIdeal.nD Cert.OddOutReferenceIdeal.τ).loc Cert.OddOutReferenceIdeal.main_arg0) = m ((c.tc : Thread Cert.OddOutKernelIdeal.nD Cert.OddOutKernelIdeal.τ).loc Cert.OddOutKernelIdeal.main_arg0)
      ∧ m' ((c.tc : Thread Cert.OddOutReferenceIdeal.nD Cert.OddOutReferenceIdeal.τ).loc Cert.OddOutReferenceIdeal.main_arg1) = m ((c.tc : Thread Cert.OddOutKernelIdeal.nD Cert.OddOutKernelIdeal.τ).loc Cert.OddOutKernelIdeal.main_arg1)
      ∧ m' ((c.tc : Thread Cert.OddOutReferenceIdeal.nD Cert.OddOutReferenceIdeal.τ).loc Cert.OddOutReferenceIdeal.main_arg2) = m ((c.tc : Thread Cert.OddOutKernelIdeal.nD Cert.OddOutKernelIdeal.τ).loc Cert.OddOutKernelIdeal.main_arg2)) →
    ∃ (v0 : (c : Dev Cert.OddOutKernelIdeal.nD) → Buf (Elt Ideal) ((c.tc : Thread Cert.OddOutKernelIdeal.nD Cert.OddOutKernelIdeal.τ).loc Cert.OddOutKernelIdeal.main_v4)),
      θ_run (Cert.OddOutKernelIdeal.defs (F := Ideal)) (onTc (τ := Cert.OddOutKernelIdeal.τ) (Cert.OddOutKernelIdeal.main (F := Ideal))) ⟨m, fun _ => 0, g⟩ (fun r => ∀ c : Dev Cert.OddOutKernelIdeal.nD,
          r.2.mem ((c.tc : Thread Cert.OddOutKernelIdeal.nD Cert.OddOutKernelIdeal.τ).loc Cert.OddOutKernelIdeal.main_v4) = v0 c
          ∧ r.2.mem ((c.tc : Thread Cert.OddOutKernelIdeal.nD Cert.OddOutKernelIdeal.τ).loc Cert.OddOutKernelIdeal.main_arg0) = m ((c.tc : Thread Cert.OddOutKernelIdeal.nD Cert.OddOutKernelIdeal.τ).loc Cert.OddOutKernelIdeal.main_arg0)
          ∧ r.2.mem ((c.tc : Thread Cert.OddOutKernelIdeal.nD Cert.OddOutKernelIdeal.τ).loc Cert.OddOutKernelIdeal.main_arg1) = m ((c.tc : Thread Cert.OddOutKernelIdeal.nD Cert.OddOutKernelIdeal.τ).loc Cert.OddOutKernelIdeal.main_arg1)
          ∧ r.2.mem ((c.tc : Thread Cert.OddOutKernelIdeal.nD Cert.OddOutKernelIdeal.τ).loc Cert.OddOutKernelIdeal.main_arg2) = m ((c.tc : Thread Cert.OddOutKernelIdeal.nD Cert.OddOutKernelIdeal.τ).loc Cert.OddOutKernelIdeal.main_arg2))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v1) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2))

def preserves_EvenOutKernel_EvenOutKernelIdeal : Prop :=
  True

def algebraic_EvenOutKernelIdeal_EvenOutReferenceIdeal [hEvenOutKernelIdeal : Cert.EvenOutKernelIdeal.Facts] [hEvenOutReferenceIdeal : Cert.EvenOutReferenceIdeal.Facts] : Prop :=
  ∀ (m : (ℓ : Loc Cert.EvenOutKernelIdeal.nD Cert.EvenOutKernelIdeal.τ Cert.EvenOutKernelIdeal.sig) → Buf (Elt Ideal) ℓ) (g : Dev Cert.EvenOutKernelIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutKernelIdeal m →
    (∀ c : Dev Cert.EvenOutKernelIdeal.nD,
      m' ((c.tc : Thread Cert.EvenOutReferenceIdeal.nD Cert.EvenOutReferenceIdeal.τ).loc Cert.EvenOutReferenceIdeal.main_arg0) = m ((c.tc : Thread Cert.EvenOutKernelIdeal.nD Cert.EvenOutKernelIdeal.τ).loc Cert.EvenOutKernelIdeal.main_arg0)
      ∧ m' ((c.tc : Thread Cert.EvenOutReferenceIdeal.nD Cert.EvenOutReferenceIdeal.τ).loc Cert.EvenOutReferenceIdeal.main_arg1) = m ((c.tc : Thread Cert.EvenOutKernelIdeal.nD Cert.EvenOutKernelIdeal.τ).loc Cert.EvenOutKernelIdeal.main_arg1)
      ∧ m' ((c.tc : Thread Cert.EvenOutReferenceIdeal.nD Cert.EvenOutReferenceIdeal.τ).loc Cert.EvenOutReferenceIdeal.main_arg2) = m ((c.tc : Thread Cert.EvenOutKernelIdeal.nD Cert.EvenOutKernelIdeal.τ).loc Cert.EvenOutKernelIdeal.main_arg2)
      ∧ m' ((c.tc : Thread Cert.EvenOutReferenceIdeal.nD Cert.EvenOutReferenceIdeal.τ).loc Cert.EvenOutReferenceIdeal.main_arg3) = m ((c.tc : Thread Cert.EvenOutKernelIdeal.nD Cert.EvenOutKernelIdeal.τ).loc Cert.EvenOutKernelIdeal.main_arg3)) →
    ∃ (v0 : (c : Dev Cert.EvenOutKernelIdeal.nD) → Buf (Elt Ideal) ((c.tc : Thread Cert.EvenOutKernelIdeal.nD Cert.EvenOutKernelIdeal.τ).loc Cert.EvenOutKernelIdeal.main_v7)),
      θ_run (Cert.EvenOutKernelIdeal.defs (F := Ideal)) (onTc (τ := Cert.EvenOutKernelIdeal.τ) (Cert.EvenOutKernelIdeal.main (F := Ideal))) ⟨m, fun _ => 0, g⟩ (fun r => ∀ c : Dev Cert.EvenOutKernelIdeal.nD,
          r.2.mem ((c.tc : Thread Cert.EvenOutKernelIdeal.nD Cert.EvenOutKernelIdeal.τ).loc Cert.EvenOutKernelIdeal.main_v7) = v0 c
          ∧ r.2.mem ((c.tc : Thread Cert.EvenOutKernelIdeal.nD Cert.EvenOutKernelIdeal.τ).loc Cert.EvenOutKernelIdeal.main_arg0) = m ((c.tc : Thread Cert.EvenOutKernelIdeal.nD Cert.EvenOutKernelIdeal.τ).loc Cert.EvenOutKernelIdeal.main_arg0)
          ∧ r.2.mem ((c.tc : Thread Cert.EvenOutKernelIdeal.nD Cert.EvenOutKernelIdeal.τ).loc Cert.EvenOutKernelIdeal.main_arg1) = m ((c.tc : Thread Cert.EvenOutKernelIdeal.nD Cert.EvenOutKernelIdeal.τ).loc Cert.EvenOutKernelIdeal.main_arg1)
          ∧ r.2.mem ((c.tc : Thread Cert.EvenOutKernelIdeal.nD Cert.EvenOutKernelIdeal.τ).loc Cert.EvenOutKernelIdeal.main_arg2) = m ((c.tc : Thread Cert.EvenOutKernelIdeal.nD Cert.EvenOutKernelIdeal.τ).loc Cert.EvenOutKernelIdeal.main_arg2)
          ∧ r.2.mem ((c.tc : Thread Cert.EvenOutKernelIdeal.nD Cert.EvenOutKernelIdeal.τ).loc Cert.EvenOutKernelIdeal.main_arg3) = m ((c.tc : Thread Cert.EvenOutKernelIdeal.nD Cert.EvenOutKernelIdeal.τ).loc Cert.EvenOutKernelIdeal.main_arg3))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v2) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3))

def preserves_GlaSampleKernel_GlaSampleKernelIdeal : Prop :=
  True

def algebraic_GlaSampleKernelIdeal_GlaSampleReferenceIdeal [hGlaSampleKernelIdeal : Cert.GlaSampleKernelIdeal.Facts] [hGlaSampleReferenceIdeal : Cert.GlaSampleReferenceIdeal.Facts] : Prop :=
  ∀ (m : (ℓ : Loc Cert.GlaSampleKernelIdeal.nD Cert.GlaSampleKernelIdeal.τ Cert.GlaSampleKernelIdeal.sig) → Buf (Elt Ideal) ℓ) (g : Dev Cert.GlaSampleKernelIdeal.nD → PrngReg)
    (m' : (ℓ : Loc Cert.GlaSampleReferenceIdeal.nD Cert.GlaSampleReferenceIdeal.τ Cert.GlaSampleReferenceIdeal.sig) → Buf (Elt Ideal) ℓ) (g' : Dev Cert.GlaSampleReferenceIdeal.nD → PrngReg), Pre_GlaSampleKernelIdeal m →
    (∀ c : Dev Cert.GlaSampleKernelIdeal.nD,
      m' ((c.tc : Thread Cert.GlaSampleReferenceIdeal.nD Cert.GlaSampleReferenceIdeal.τ).loc Cert.GlaSampleReferenceIdeal.main_arg0) = m ((c.tc : Thread Cert.GlaSampleKernelIdeal.nD Cert.GlaSampleKernelIdeal.τ).loc Cert.GlaSampleKernelIdeal.main_arg0)
      ∧ m' ((c.tc : Thread Cert.GlaSampleReferenceIdeal.nD Cert.GlaSampleReferenceIdeal.τ).loc Cert.GlaSampleReferenceIdeal.main_arg1) = m ((c.tc : Thread Cert.GlaSampleKernelIdeal.nD Cert.GlaSampleKernelIdeal.τ).loc Cert.GlaSampleKernelIdeal.main_arg1)
      ∧ m' ((c.tc : Thread Cert.GlaSampleReferenceIdeal.nD Cert.GlaSampleReferenceIdeal.τ).loc Cert.GlaSampleReferenceIdeal.main_arg2) = m ((c.tc : Thread Cert.GlaSampleKernelIdeal.nD Cert.GlaSampleKernelIdeal.τ).loc Cert.GlaSampleKernelIdeal.main_arg2)
      ∧ m' ((c.tc : Thread Cert.GlaSampleReferenceIdeal.nD Cert.GlaSampleReferenceIdeal.τ).loc Cert.GlaSampleReferenceIdeal.main_arg3) = m ((c.tc : Thread Cert.GlaSampleKernelIdeal.nD Cert.GlaSampleKernelIdeal.τ).loc Cert.GlaSampleKernelIdeal.main_arg3)
      ∧ m' ((c.tc : Thread Cert.GlaSampleReferenceIdeal.nD Cert.GlaSampleReferenceIdeal.τ).loc Cert.GlaSampleReferenceIdeal.main_arg4) = m ((c.tc : Thread Cert.GlaSampleKernelIdeal.nD Cert.GlaSampleKernelIdeal.τ).loc Cert.GlaSampleKernelIdeal.main_arg4)
      ∧ m' ((c.tc : Thread Cert.GlaSampleReferenceIdeal.nD Cert.GlaSampleReferenceIdeal.τ).loc Cert.GlaSampleReferenceIdeal.main_arg5) = m ((c.tc : Thread Cert.GlaSampleKernelIdeal.nD Cert.GlaSampleKernelIdeal.τ).loc Cert.GlaSampleKernelIdeal.main_arg5)
      ∧ m' ((c.tc : Thread Cert.GlaSampleReferenceIdeal.nD Cert.GlaSampleReferenceIdeal.τ).loc Cert.GlaSampleReferenceIdeal.main_arg6) = m ((c.tc : Thread Cert.GlaSampleKernelIdeal.nD Cert.GlaSampleKernelIdeal.τ).loc Cert.GlaSampleKernelIdeal.main_arg6)
      ∧ m' ((c.tc : Thread Cert.GlaSampleReferenceIdeal.nD Cert.GlaSampleReferenceIdeal.τ).loc Cert.GlaSampleReferenceIdeal.main_arg7) = m ((c.tc : Thread Cert.GlaSampleKernelIdeal.nD Cert.GlaSampleKernelIdeal.τ).loc Cert.GlaSampleKernelIdeal.main_arg7)) →
    ∃ (v0 : (c : Dev Cert.GlaSampleKernelIdeal.nD) → Buf (Elt Ideal) ((c.tc : Thread Cert.GlaSampleKernelIdeal.nD Cert.GlaSampleKernelIdeal.τ).loc Cert.GlaSampleKernelIdeal.main_v14)),
      θ_run (Cert.GlaSampleKernelIdeal.defs (F := Ideal)) (onTc (τ := Cert.GlaSampleKernelIdeal.τ) (Cert.GlaSampleKernelIdeal.main (F := Ideal))) ⟨m, fun _ => 0, g⟩ (fun r => ∀ c : Dev Cert.GlaSampleKernelIdeal.nD,
          r.2.mem ((c.tc : Thread Cert.GlaSampleKernelIdeal.nD Cert.GlaSampleKernelIdeal.τ).loc Cert.GlaSampleKernelIdeal.main_v14) = v0 c
          ∧ r.2.mem ((c.tc : Thread Cert.GlaSampleKernelIdeal.nD Cert.GlaSampleKernelIdeal.τ).loc Cert.GlaSampleKernelIdeal.main_arg0) = m ((c.tc : Thread Cert.GlaSampleKernelIdeal.nD Cert.GlaSampleKernelIdeal.τ).loc Cert.GlaSampleKernelIdeal.main_arg0)
          ∧ r.2.mem ((c.tc : Thread Cert.GlaSampleKernelIdeal.nD Cert.GlaSampleKernelIdeal.τ).loc Cert.GlaSampleKernelIdeal.main_arg1) = m ((c.tc : Thread Cert.GlaSampleKernelIdeal.nD Cert.GlaSampleKernelIdeal.τ).loc Cert.GlaSampleKernelIdeal.main_arg1)
          ∧ r.2.mem ((c.tc : Thread Cert.GlaSampleKernelIdeal.nD Cert.GlaSampleKernelIdeal.τ).loc Cert.GlaSampleKernelIdeal.main_arg2) = m ((c.tc : Thread Cert.GlaSampleKernelIdeal.nD Cert.GlaSampleKernelIdeal.τ).loc Cert.GlaSampleKernelIdeal.main_arg2)
          ∧ r.2.mem ((c.tc : Thread Cert.GlaSampleKernelIdeal.nD Cert.GlaSampleKernelIdeal.τ).loc Cert.GlaSampleKernelIdeal.main_arg3) = m ((c.tc : Thread Cert.GlaSampleKernelIdeal.nD Cert.GlaSampleKernelIdeal.τ).loc Cert.GlaSampleKernelIdeal.main_arg3)
          ∧ r.2.mem ((c.tc : Thread Cert.GlaSampleKernelIdeal.nD Cert.GlaSampleKernelIdeal.τ).loc Cert.GlaSampleKernelIdeal.main_arg4) = m ((c.tc : Thread Cert.GlaSampleKernelIdeal.nD Cert.GlaSampleKernelIdeal.τ).loc Cert.GlaSampleKernelIdeal.main_arg4)
          ∧ r.2.mem ((c.tc : Thread Cert.GlaSampleKernelIdeal.nD Cert.GlaSampleKernelIdeal.τ).loc Cert.GlaSampleKernelIdeal.main_arg5) = m ((c.tc : Thread Cert.GlaSampleKernelIdeal.nD Cert.GlaSampleKernelIdeal.τ).loc Cert.GlaSampleKernelIdeal.main_arg5)
          ∧ r.2.mem ((c.tc : Thread Cert.GlaSampleKernelIdeal.nD Cert.GlaSampleKernelIdeal.τ).loc Cert.GlaSampleKernelIdeal.main_arg6) = m ((c.tc : Thread Cert.GlaSampleKernelIdeal.nD Cert.GlaSampleKernelIdeal.τ).loc Cert.GlaSampleKernelIdeal.main_arg6)
          ∧ r.2.mem ((c.tc : Thread Cert.GlaSampleKernelIdeal.nD Cert.GlaSampleKernelIdeal.τ).loc Cert.GlaSampleKernelIdeal.main_arg7) = m ((c.tc : Thread Cert.GlaSampleKernelIdeal.nD Cert.GlaSampleKernelIdeal.τ).loc Cert.GlaSampleKernelIdeal.main_arg7))
      ∧ θ_run (Cert.GlaSampleReferenceIdeal.defs (F := Ideal)) (onTc (τ := Cert.GlaSampleReferenceIdeal.τ) (Cert.GlaSampleReferenceIdeal.main (F := Ideal))) ⟨m', fun _ => 0, g'⟩ (fun r => ∀ c : Dev Cert.GlaSampleReferenceIdeal.nD,
          r.2.mem ((c.tc : Thread Cert.GlaSampleReferenceIdeal.nD Cert.GlaSampleReferenceIdeal.τ).loc Cert.GlaSampleReferenceIdeal.main_v17_4) = v0 c
          ∧ r.2.mem ((c.tc : Thread Cert.GlaSampleReferenceIdeal.nD Cert.GlaSampleReferenceIdeal.τ).loc Cert.GlaSampleReferenceIdeal.main_arg0) = m' ((c.tc : Thread Cert.GlaSampleReferenceIdeal.nD Cert.GlaSampleReferenceIdeal.τ).loc Cert.GlaSampleReferenceIdeal.main_arg0)
          ∧ r.2.mem ((c.tc : Thread Cert.GlaSampleReferenceIdeal.nD Cert.GlaSampleReferenceIdeal.τ).loc Cert.GlaSampleReferenceIdeal.main_arg1) = m' ((c.tc : Thread Cert.GlaSampleReferenceIdeal.nD Cert.GlaSampleReferenceIdeal.τ).loc Cert.GlaSampleReferenceIdeal.main_arg1)
          ∧ r.2.mem ((c.tc : Thread Cert.GlaSampleReferenceIdeal.nD Cert.GlaSampleReferenceIdeal.τ).loc Cert.GlaSampleReferenceIdeal.main_arg2) = m' ((c.tc : Thread Cert.GlaSampleReferenceIdeal.nD Cert.GlaSampleReferenceIdeal.τ).loc Cert.GlaSampleReferenceIdeal.main_arg2)
          ∧ r.2.mem ((c.tc : Thread Cert.GlaSampleReferenceIdeal.nD Cert.GlaSampleReferenceIdeal.τ).loc Cert.GlaSampleReferenceIdeal.main_arg3) = m' ((c.tc : Thread Cert.GlaSampleReferenceIdeal.nD Cert.GlaSampleReferenceIdeal.τ).loc Cert.GlaSampleReferenceIdeal.main_arg3)
          ∧ r.2.mem ((c.tc : Thread Cert.GlaSampleReferenceIdeal.nD Cert.GlaSampleReferenceIdeal.τ).loc Cert.GlaSampleReferenceIdeal.main_arg4) = m' ((c.tc : Thread Cert.GlaSampleReferenceIdeal.nD Cert.GlaSampleReferenceIdeal.τ).loc Cert.GlaSampleReferenceIdeal.main_arg4)
          ∧ r.2.mem ((c.tc : Thread Cert.GlaSampleReferenceIdeal.nD Cert.GlaSampleReferenceIdeal.τ).loc Cert.GlaSampleReferenceIdeal.main_arg5) = m' ((c.tc : Thread Cert.GlaSampleReferenceIdeal.nD Cert.GlaSampleReferenceIdeal.τ).loc Cert.GlaSampleReferenceIdeal.main_arg5)
          ∧ r.2.mem ((c.tc : Thread Cert.GlaSampleReferenceIdeal.nD Cert.GlaSampleReferenceIdeal.τ).loc Cert.GlaSampleReferenceIdeal.main_arg6) = m' ((c.tc : Thread Cert.GlaSampleReferenceIdeal.nD Cert.GlaSampleReferenceIdeal.τ).loc Cert.GlaSampleReferenceIdeal.main_arg6)
          ∧ r.2.mem ((c.tc : Thread Cert.GlaSampleReferenceIdeal.nD Cert.GlaSampleReferenceIdeal.τ).loc Cert.GlaSampleReferenceIdeal.main_arg7) = m' ((c.tc : Thread Cert.GlaSampleReferenceIdeal.nD Cert.GlaSampleReferenceIdeal.τ).loc Cert.GlaSampleReferenceIdeal.main_arg7))

def preserves_GlaKernel_GlaKernelIdeal : Prop :=
  True

def algebraic_GlaKernelIdeal_GlaReferenceIdeal [hGlaKernelIdeal : Cert.GlaKernelIdeal.Facts] [hGlaReferenceIdeal : Cert.GlaReferenceIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaKernelIdeal m →
    (∀ c : Dev Cert.GlaKernelIdeal.nD,
      m' ((c.tc : Thread Cert.GlaReferenceIdeal.nD Cert.GlaReferenceIdeal.τ).loc Cert.GlaReferenceIdeal.main_arg0) = m ((c.tc : Thread Cert.GlaKernelIdeal.nD Cert.GlaKernelIdeal.τ).loc Cert.GlaKernelIdeal.main_arg0)
      ∧ m' ((c.tc : Thread Cert.GlaReferenceIdeal.nD Cert.GlaReferenceIdeal.τ).loc Cert.GlaReferenceIdeal.main_arg1) = m ((c.tc : Thread Cert.GlaKernelIdeal.nD Cert.GlaKernelIdeal.τ).loc Cert.GlaKernelIdeal.main_arg1)
      ∧ m' ((c.tc : Thread Cert.GlaReferenceIdeal.nD Cert.GlaReferenceIdeal.τ).loc Cert.GlaReferenceIdeal.main_arg2) = m ((c.tc : Thread Cert.GlaKernelIdeal.nD Cert.GlaKernelIdeal.τ).loc Cert.GlaKernelIdeal.main_arg2)
      ∧ m' ((c.tc : Thread Cert.GlaReferenceIdeal.nD Cert.GlaReferenceIdeal.τ).loc Cert.GlaReferenceIdeal.main_arg3) = m ((c.tc : Thread Cert.GlaKernelIdeal.nD Cert.GlaKernelIdeal.τ).loc Cert.GlaKernelIdeal.main_arg3)
      ∧ m' ((c.tc : Thread Cert.GlaReferenceIdeal.nD Cert.GlaReferenceIdeal.τ).loc Cert.GlaReferenceIdeal.main_arg4) = m ((c.tc : Thread Cert.GlaKernelIdeal.nD Cert.GlaKernelIdeal.τ).loc Cert.GlaKernelIdeal.main_arg4)
      ∧ m' ((c.tc : Thread Cert.GlaReferenceIdeal.nD Cert.GlaReferenceIdeal.τ).loc Cert.GlaReferenceIdeal.main_arg5) = m ((c.tc : Thread Cert.GlaKernelIdeal.nD Cert.GlaKernelIdeal.τ).loc Cert.GlaKernelIdeal.main_arg5)
      ∧ m' ((c.tc : Thread Cert.GlaReferenceIdeal.nD Cert.GlaReferenceIdeal.τ).loc Cert.GlaReferenceIdeal.main_arg6) = m ((c.tc : Thread Cert.GlaKernelIdeal.nD Cert.GlaKernelIdeal.τ).loc Cert.GlaKernelIdeal.main_arg6)
      ∧ m' ((c.tc : Thread Cert.GlaReferenceIdeal.nD Cert.GlaReferenceIdeal.τ).loc Cert.GlaReferenceIdeal.main_arg7) = m ((c.tc : Thread Cert.GlaKernelIdeal.nD Cert.GlaKernelIdeal.τ).loc Cert.GlaKernelIdeal.main_arg7)) →
    ∃ (v0 : (c : Dev Cert.GlaKernelIdeal.nD) → Buf (Elt Ideal) ((c.tc : Thread Cert.GlaKernelIdeal.nD Cert.GlaKernelIdeal.τ).loc Cert.GlaKernelIdeal.main_v10)),
      θ_run (Cert.GlaKernelIdeal.defs (F := Ideal)) (onTc (τ := Cert.GlaKernelIdeal.τ) (Cert.GlaKernelIdeal.main (F := Ideal))) ⟨m, fun _ => 0, g⟩ (fun r => ∀ c : Dev Cert.GlaKernelIdeal.nD,
          r.2.mem ((c.tc : Thread Cert.GlaKernelIdeal.nD Cert.GlaKernelIdeal.τ).loc Cert.GlaKernelIdeal.main_v10) = v0 c
          ∧ r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
          ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
          ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
          ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
          ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4)
          ∧ r.2.mem ((c.tc : Thread Cert.GlaKernelIdeal.nD Cert.GlaKernelIdeal.τ).loc Cert.GlaKernelIdeal.main_arg5) = m ((c.tc : Thread Cert.GlaKernelIdeal.nD Cert.GlaKernelIdeal.τ).loc Cert.GlaKernelIdeal.main_arg5)
          ∧ r.2.mem ((c.tc : Thread Cert.GlaKernelIdeal.nD Cert.GlaKernelIdeal.τ).loc Cert.GlaKernelIdeal.main_arg6) = m ((c.tc : Thread Cert.GlaKernelIdeal.nD Cert.GlaKernelIdeal.τ).loc Cert.GlaKernelIdeal.main_arg6)
          ∧ r.2.mem ((c.tc : Thread Cert.GlaKernelIdeal.nD Cert.GlaKernelIdeal.τ).loc Cert.GlaKernelIdeal.main_arg7) = m ((c.tc : Thread Cert.GlaKernelIdeal.nD Cert.GlaKernelIdeal.τ).loc Cert.GlaKernelIdeal.main_arg7))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v17_4) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7))

def Claim : Prop :=
  ∃ (hFfnKernel : Cert.FfnKernel.Facts) (hFfnKernelIdeal : Cert.FfnKernelIdeal.Facts) (hFfnReferenceIdeal : Cert.FfnReferenceIdeal.Facts) (hFfnSampleKernel : Cert.FfnSampleKernel.Facts) (hFfnSampleKernelIdeal : Cert.FfnSampleKernelIdeal.Facts) (hFfnSampleReferenceIdeal : Cert.FfnSampleReferenceIdeal.Facts) (hEvenInKernel : Cert.EvenInKernel.Facts) (hEvenInKernelIdeal : Cert.EvenInKernelIdeal.Facts) (hEvenInReferenceIdeal : Cert.EvenInReferenceIdeal.Facts) (hEvenInSampleKernel : Cert.EvenInSampleKernel.Facts) (hEvenInSampleKernelIdeal : Cert.EvenInSampleKernelIdeal.Facts) (hEvenInSampleReferenceIdeal : Cert.EvenInSampleReferenceIdeal.Facts) (hOddInKernel : Cert.OddInKernel.Facts) (hOddInKernelIdeal : Cert.OddInKernelIdeal.Facts) (hOddInReferenceIdeal : Cert.OddInReferenceIdeal.Facts) (hOddOutKernel : Cert.OddOutKernel.Facts) (hOddOutKernelIdeal : Cert.OddOutKernelIdeal.Facts) (hOddOutReferenceIdeal : Cert.OddOutReferenceIdeal.Facts) (hEvenOutKernel : Cert.EvenOutKernel.Facts) (hEvenOutKernelIdeal : Cert.EvenOutKernelIdeal.Facts) (hEvenOutReferenceIdeal : Cert.EvenOutReferenceIdeal.Facts) (hGlaSampleKernel : Cert.GlaSampleKernel.Facts) (hGlaSampleKernelIdeal : Cert.GlaSampleKernelIdeal.Facts) (hGlaSampleReferenceIdeal : Cert.GlaSampleReferenceIdeal.Facts) (hGlaKernel : Cert.GlaKernel.Facts) (hGlaKernelIdeal : Cert.GlaKernelIdeal.Facts) (hGlaReferenceIdeal : Cert.GlaReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FfnSampleKernel (hFfnSampleKernel := hFfnSampleKernel)
    ∧ quiescent_FfnSampleKernelIdeal (hFfnSampleKernelIdeal := hFfnSampleKernelIdeal)
    ∧ quiescent_FfnSampleReferenceIdeal (hFfnSampleReferenceIdeal := hFfnSampleReferenceIdeal)
    ∧ quiescent_EvenInKernel (hEvenInKernel := hEvenInKernel)
    ∧ quiescent_EvenInKernelIdeal (hEvenInKernelIdeal := hEvenInKernelIdeal)
    ∧ quiescent_EvenInReferenceIdeal (hEvenInReferenceIdeal := hEvenInReferenceIdeal)
    ∧ quiescent_EvenInSampleKernel (hEvenInSampleKernel := hEvenInSampleKernel)
    ∧ quiescent_EvenInSampleKernelIdeal (hEvenInSampleKernelIdeal := hEvenInSampleKernelIdeal)
    ∧ quiescent_EvenInSampleReferenceIdeal (hEvenInSampleReferenceIdeal := hEvenInSampleReferenceIdeal)
    ∧ quiescent_OddInKernel (hOddInKernel := hOddInKernel)
    ∧ quiescent_OddInKernelIdeal (hOddInKernelIdeal := hOddInKernelIdeal)
    ∧ quiescent_OddInReferenceIdeal (hOddInReferenceIdeal := hOddInReferenceIdeal)
    ∧ quiescent_OddOutKernel (hOddOutKernel := hOddOutKernel)
    ∧ quiescent_OddOutKernelIdeal (hOddOutKernelIdeal := hOddOutKernelIdeal)
    ∧ quiescent_OddOutReferenceIdeal (hOddOutReferenceIdeal := hOddOutReferenceIdeal)
    ∧ quiescent_EvenOutKernel (hEvenOutKernel := hEvenOutKernel)
    ∧ quiescent_EvenOutKernelIdeal (hEvenOutKernelIdeal := hEvenOutKernelIdeal)
    ∧ quiescent_EvenOutReferenceIdeal (hEvenOutReferenceIdeal := hEvenOutReferenceIdeal)
    ∧ quiescent_GlaSampleKernel (hGlaSampleKernel := hGlaSampleKernel)
    ∧ quiescent_GlaSampleKernelIdeal (hGlaSampleKernelIdeal := hGlaSampleKernelIdeal)
    ∧ quiescent_GlaSampleReferenceIdeal (hGlaSampleReferenceIdeal := hGlaSampleReferenceIdeal)
    ∧ quiescent_GlaKernel (hGlaKernel := hGlaKernel)
    ∧ quiescent_GlaKernelIdeal (hGlaKernelIdeal := hGlaKernelIdeal)
    ∧ quiescent_GlaReferenceIdeal (hGlaReferenceIdeal := hGlaReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_FfnSampleKernel_FfnSampleKernelIdeal
    ∧ algebraic_FfnSampleKernelIdeal_FfnSampleReferenceIdeal (hFfnSampleKernelIdeal := hFfnSampleKernelIdeal) (hFfnSampleReferenceIdeal := hFfnSampleReferenceIdeal)
    ∧ preserves_EvenInKernel_EvenInKernelIdeal
    ∧ algebraic_EvenInKernelIdeal_EvenInReferenceIdeal (hEvenInKernelIdeal := hEvenInKernelIdeal) (hEvenInReferenceIdeal := hEvenInReferenceIdeal)
    ∧ preserves_EvenInSampleKernel_EvenInSampleKernelIdeal
    ∧ algebraic_EvenInSampleKernelIdeal_EvenInSampleReferenceIdeal (hEvenInSampleKernelIdeal := hEvenInSampleKernelIdeal) (hEvenInSampleReferenceIdeal := hEvenInSampleReferenceIdeal)
    ∧ preserves_OddInKernel_OddInKernelIdeal
    ∧ algebraic_OddInKernelIdeal_OddInReferenceIdeal (hOddInKernelIdeal := hOddInKernelIdeal) (hOddInReferenceIdeal := hOddInReferenceIdeal)
    ∧ preserves_OddOutKernel_OddOutKernelIdeal
    ∧ algebraic_OddOutKernelIdeal_OddOutReferenceIdeal (hOddOutKernelIdeal := hOddOutKernelIdeal) (hOddOutReferenceIdeal := hOddOutReferenceIdeal)
    ∧ preserves_EvenOutKernel_EvenOutKernelIdeal
    ∧ algebraic_EvenOutKernelIdeal_EvenOutReferenceIdeal (hEvenOutKernelIdeal := hEvenOutKernelIdeal) (hEvenOutReferenceIdeal := hEvenOutReferenceIdeal)
    ∧ preserves_GlaSampleKernel_GlaSampleKernelIdeal
    ∧ algebraic_GlaSampleKernelIdeal_GlaSampleReferenceIdeal (hGlaSampleKernelIdeal := hGlaSampleKernelIdeal) (hGlaSampleReferenceIdeal := hGlaSampleReferenceIdeal)
    ∧ preserves_GlaKernel_GlaKernelIdeal
    ∧ algebraic_GlaKernelIdeal_GlaReferenceIdeal (hGlaKernelIdeal := hGlaKernelIdeal) (hGlaReferenceIdeal := hGlaReferenceIdeal)
-- ==== FfnKernel.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S2x8192x2816 : Shape := ⟨3, ![2, 8192, 2816]⟩

abbrev nBuf : Space → Nat
  | .hbm => 16
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .f32⟩
  | .hbm, ⟨9, _⟩ => ⟨S1x1024, .f32⟩
  | .hbm, ⟨10, _⟩ => ⟨S16384x2816, .bf16⟩
  | .hbm, ⟨11, _⟩ => ⟨S2x8192x2816, .bf16⟩
  | .hbm, ⟨12, _⟩ => ⟨S16384x2816, .bf16⟩
  | .hbm, ⟨13, _⟩ => ⟨S16384x1024, .f32⟩
  | .hbm, ⟨14, _⟩ => ⟨S16384x1024, .f32⟩
  | .hbm, ⟨15, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== FfnKernelIdeal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S2x8192x2816 : Shape := ⟨3, ![2, 8192, 2816]⟩

abbrev nBuf : Space → Nat
  | .hbm => 16
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .f32⟩
  | .hbm, ⟨9, _⟩ => ⟨S1x1024, .f32⟩
  | .hbm, ⟨10, _⟩ => ⟨S16384x2816, .bf16⟩
  | .hbm, ⟨11, _⟩ => ⟨S2x8192x2816, .bf16⟩
  | .hbm, ⟨12, _⟩ => ⟨S16384x2816, .bf16⟩
  | .hbm, ⟨13, _⟩ => ⟨S16384x1024, .f32⟩
  | .hbm, ⟨14, _⟩ => ⟨S16384x1024, .f32⟩
  | .hbm, ⟨15, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== FfnReferenceIdeal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== FfnSampleKernel.lean ====
abbrev S32x8x1024 : Shape := ⟨3, ![32, 8, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S32x8x2816 : Shape := ⟨3, ![32, 8, 2816]⟩

abbrev nBuf : Space → Nat
  | .hbm => 16
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S256x1024, .f32⟩
  | .hbm, ⟨9, _⟩ => ⟨S1x1024, .f32⟩
  | .hbm, ⟨10, _⟩ => ⟨S256x2816, .bf16⟩
  | .hbm, ⟨11, _⟩ => ⟨S32x8x2816, .bf16⟩
  | .hbm, ⟨12, _⟩ => ⟨S256x2816, .bf16⟩
  | .hbm, ⟨13, _⟩ => ⟨S256x1024, .f32⟩
  | .hbm, ⟨14, _⟩ => ⟨S256x1024, .f32⟩
  | .hbm, ⟨15, _⟩ => ⟨S32x8x1024, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x2816 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]
-- ==== FfnSampleReferenceIdeal.lean ====
abbrev S32x8x1024 : Shape := ⟨3, ![32, 8, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x2816, .f32⟩
  | .hbm, ⟨22, _⟩ => ⟨S32x8x2816, .f32⟩
  | .hbm, ⟨23, _⟩ => ⟨S32x8x2816, .f32⟩
  | .hbm, ⟨24, _⟩ => ⟨S_, .f32⟩
  | .hbm, ⟨25, _⟩ => ⟨S32x8x2816, .f32⟩
  | .hbm, ⟨26, _⟩ => ⟨S32x8x2816, .f32⟩
  | .hbm, ⟨27, _⟩ => ⟨S_, .f32⟩
  | .hbm, ⟨28, _⟩ => ⟨S32x8x2816, .f32⟩
  | .hbm, ⟨29, _⟩ => ⟨S32x8x2816, .f32⟩
  | .hbm, ⟨30, _⟩ => ⟨S32x8x2816, .f32⟩
  | .hbm, ⟨31, _⟩ => ⟨S32x8x2816, .f32⟩
  | .hbm, ⟨32, _⟩ => ⟨S32x8x2816, .f32⟩
  | .hbm, ⟨33, _⟩ => ⟨S32x8x1024, .f32⟩
  | .hbm, ⟨34, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== EvenInKernel.lean ====
abbrev S2x8192x1024 : Shape := ⟨3, ![2, 8192, 1024]⟩
abbrev S1024 : Shape := ⟨1, ![1024]⟩
abbrev S1024x3096 : Shape := ⟨2, ![1024, 3096]⟩
abbrev S3x64 : Shape := ⟨2, ![3, 64]⟩
abbrev S1024x1304 : Shape := ⟨2, ![1024, 1304]⟩
abbrev S_ : Shape := ⟨0, ![]⟩
abbrev S1024x1408 : Shape := ⟨2, ![1024, 1408]⟩
abbrev S1024x1792 : Shape := ⟨2, ![1024, 1792]⟩
abbrev S1024x3200 : Shape := ⟨2, ![1024, 3200]⟩
abbrev S16384x1024 : Shape := ⟨2, ![16384, 1024]⟩
abbrev S1x1024 : Shape := ⟨2, ![1, 1024]⟩
abbrev S16384x1408 : Shape := ⟨2, ![16384, 1408]⟩
abbrev S16384x1792 : Shape := ⟨2, ![16384, 1792]⟩
abbrev S512x1024 : Shape := ⟨2, ![512, 1024]⟩
abbrev S512x1408 : Shape := ⟨2, ![512, 1408]⟩
abbrev S512x1792 : Shape := ⟨2, ![512, 1792]⟩
abbrev S512 : Shape := ⟨1, ![512]⟩
abbrev S512x1 : Shape := ⟨2, ![512, 1]⟩
abbrev S2x8192x1408 : Shape := ⟨3, ![2, 8192, 1408]⟩
abbrev S2x8192x1792 : Shape := ⟨3, ![2, 8192, 1792]⟩
abbrev S8192 : Shape := ⟨1, ![8192]⟩
abbrev S2x8192x768 : Shape := ⟨3, ![2, 8192, 768]⟩
abbrev S2x8192x3x2x2x64 : Shape := ⟨6, ![2, 8192, 3, 2, 2, 64]⟩
abbrev S2x8192x3x1x2x64 : Shape := ⟨6, ![2, 8192, 3, 1, 2, 64]⟩
abbrev S2x8192x3x2x64 : Shape := ⟨5, ![2, 8192, 3, 2, 64]⟩
abbrev S3x1x64 : Shape := ⟨3, ![3, 1, 64]⟩
abbrev S2x8192x3x2 : Shape := ⟨4, ![2, 8192, 3, 2]⟩
abbrev S2x8192x3x2x1 : Shape := ⟨5, ![2, 8192, 3, 2, 1]⟩
abbrev S1x1x3x1x64 : Shape := ⟨5, ![1, 1, 3, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x3x2x16 : Shape := ⟨5, ![2, 8192, 3, 2, 16]⟩
abbrev S2x8192x3x2x8 : Shape := ⟨5, ![2, 8192, 3, 2, 8]⟩
abbrev S1x8192x1x1x8 : Shape := ⟨5, ![1, 8192, 1, 1, 8]⟩
abbrev S2x8192x3x2x48 : Shape := ⟨5, ![2, 8192, 3, 2, 48]⟩
abbrev S2x8192x2x2x2x64 : Shape := ⟨6, ![2, 8192, 2, 2, 2, 64]⟩
abbrev S2x8192x4x2x64 : Shape := ⟨5, ![2, 8192, 4, 2, 64]⟩
abbrev S2x8192x1x2x2x64 : Shape := ⟨6, ![2, 8192, 1, 2, 2, 64]⟩
abbrev S2x8192x2x2x64 : Shape := ⟨5, ![2, 8192, 2, 2, 64]⟩
abbrev S2x8192x1304 : Shape := ⟨3, ![2, 8192, 1304]⟩
abbrev S2x512x2x2x64 : Shape := ⟨5, ![2, 512, 2, 2, 64]⟩
abbrev S2x1x1792 : Shape := ⟨3, ![2, 1, 1792]⟩
abbrev S2x1792 : Shape := ⟨2, ![2, 1792]⟩

abbrev nBuf : Space → Nat
  | .hbm => 90
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3096, .f32⟩
  | .hbm, ⟨3, _⟩ => ⟨S3x64, .f32⟩
  | .hbm, ⟨4, _⟩ => ⟨S1024x1304, .f32⟩
  | .hbm, ⟨5, _⟩ => ⟨S_, .i32⟩
  | .hbm, ⟨6, _⟩ => ⟨S_, .f32⟩
  | .hbm, ⟨7, _⟩ => ⟨S1024x1408, .f32⟩
  | .hbm, ⟨8, _⟩ => ⟨S1024x1792, .f32⟩
  | .hbm, ⟨9, _⟩ => ⟨S1024x3200, .f32⟩
  | .hbm, ⟨10, _⟩ => ⟨S1024x3200, .bf16⟩
  | .hbm, ⟨11, _⟩ => ⟨S16384x1024, .f32⟩
  | .hbm, ⟨12, _⟩ => ⟨S1x1024, .f32⟩
  | .hbm, ⟨13, _⟩ => ⟨S16384x1408, .f32⟩
  | .hbm, ⟨14, _⟩ => ⟨S16384x1792, .f32⟩
  | .hbm, ⟨15, _⟩ => ⟨S2x8192x1408, .f32⟩
  | .hbm, ⟨16, _⟩ => ⟨S2x8192x1792, .f32⟩
  | .hbm, ⟨17, _⟩ => ⟨S8192, .i32⟩
  | .hbm, ⟨18, _⟩ => ⟨S2x8192x768, .f32⟩
  | .hbm, ⟨19, _⟩ => ⟨S2x8192x3x2x2x64, .f32⟩
  | .hbm, ⟨20, _⟩ => ⟨S2x8192x3x1x2x64, .f32⟩
  | .hbm, ⟨21, _⟩ => ⟨S2x8192x3x2x64, .f32⟩
  | .hbm, ⟨22, _⟩ => ⟨S3x1x64, .f32⟩
  | .hbm, ⟨23, _⟩ => ⟨S2x8192x3x2x64, .f32⟩
  | .hbm, ⟨24, _⟩ => ⟨S_, .f32⟩
  | .hbm, ⟨25, _⟩ => ⟨S2x8192x3x2, .f32⟩
  | .hbm, ⟨26, _⟩ => ⟨S2x8192x3x2x1, .f32⟩
  | .hbm, ⟨27, _⟩ => ⟨S_, .f32⟩
  | .hbm, ⟨28, _⟩ => ⟨S2x8192x3x2x1, .f32⟩
  | .hbm, ⟨29, _⟩ => ⟨S2x8192x3x2x1, .f32⟩
  | .hbm, ⟨30, _⟩ => ⟨S_, .f32⟩
  | .hbm, ⟨31, _⟩ => ⟨S2x8192x3x2x1, .f32⟩
  | .hbm, ⟨32, _⟩ => ⟨S2x8192x3x2x1, .f32⟩
  | .hbm, ⟨33, _⟩ => ⟨S2x8192x3x2x1, .f32⟩
  | .hbm, ⟨34, _⟩ => ⟨S2x8192x3x2x64, .f32⟩
  | .hbm, ⟨35, _⟩ => ⟨S2x8192x3x2x64, .f32⟩
  | .hbm, ⟨36, _⟩ => ⟨S1x1x3x1x64, .f32⟩
  | .hbm, ⟨37, _⟩ => ⟨S2x8192x3x2x64, .f32⟩
  | .hbm, ⟨38, _⟩ => ⟨S2x8192x3x2x64, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8192, .f32⟩
  | .hbm, ⟨48, _⟩ => ⟨S8192x1, .f32⟩
  | .hbm, ⟨49, _⟩ => ⟨S1x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x1x1x8, .f32⟩
  | .hbm, ⟨55, _⟩ => ⟨S8192x8, .f32⟩
  | .hbm, ⟨56, _⟩ => ⟨S8192x1x1x8, .f32⟩
  | .hbm, ⟨57, _⟩ => ⟨S2x8192x3x2x16, .f32⟩
  | .hbm, ⟨58, _⟩ => ⟨S2x8192x3x2x8, .f32⟩
  | .hbm, ⟨59, _⟩ => ⟨S2x8192x3x2x8, .f32⟩
  | .hbm, ⟨60, _⟩ => ⟨S1x8192x1x1x8, .f32⟩
  | .hbm, ⟨61, _⟩ => ⟨S2x8192x3x2x8, .f32⟩
  | .hbm, ⟨62, _⟩ => ⟨S2x8192x3x2x8, .f32⟩
  | .hbm, ⟨63, _⟩ => ⟨S1x8192x1x1x8, .f32⟩
  | .hbm, ⟨64, _⟩ => ⟨S2x8192x3x2x8, .f32⟩
  | .hbm, ⟨65, _⟩ => ⟨S2x8192x3x2x8, .f32⟩
  | .hbm, ⟨66, _⟩ => ⟨S2x8192x3x2x8, .f32⟩
  | .hbm, ⟨67, _⟩ => ⟨S1x8192x1x1x8, .f32⟩
  | .hbm, ⟨68, _⟩ => ⟨S2x8192x3x2x8, .f32⟩
  | .hbm, ⟨69, _⟩ => ⟨S2x8192x3x2x8, .f32⟩
  | .hbm, ⟨70, _⟩ => ⟨S1x8192x1x1x8, .f32⟩
  | .hbm, ⟨71, _⟩ => ⟨S2x8192x3x2x8, .f32⟩
  | .hbm, ⟨72, _⟩ => ⟨S2x8192x3x2x8, .f32⟩
  | .hbm, ⟨73, _⟩ => ⟨S2x8192x3x2x8, .f32⟩
  | .hbm, ⟨74, _⟩ => ⟨S2x8192x3x2x16, .f32⟩
  | .hbm, ⟨75, _⟩ => ⟨S2x8192x3x2x48, .f32⟩
  | .hbm, ⟨76, _⟩ => ⟨S2x8192x3x2x64, .f32⟩
  | .hbm, ⟨77, _⟩ => ⟨S2x8192x3x1x2x64, .f32⟩
  | .hbm, ⟨78, _⟩ => ⟨S2x8192x3x2x64, .f32⟩
  | .hbm, ⟨79, _⟩ => ⟨S2x8192x3x1x2x64, .f32⟩
  | .hbm, ⟨80, _⟩ => ⟨S2x8192x3x1x2x64, .f32⟩
  | .hbm, ⟨81, _⟩ => ⟨S2x8192x3x2x2x64, .f32⟩
  | .hbm, ⟨82, _⟩ => ⟨S2x8192x2x2x2x64, .f32⟩
  | .hbm, ⟨83, _⟩ => ⟨S2x8192x4x2x64, .f32⟩
  | .hbm, ⟨84, _⟩ => ⟨S2x8192x1x2x2x64, .f32⟩
  | .hbm, ⟨85, _⟩ => ⟨S2x8192x2x2x64, .f32⟩
  | .hbm, ⟨86, _⟩ => ⟨S2x8192x1304, .f32⟩
  | .hbm, ⟨87, _⟩ => ⟨S2x512x2x2x64, .f32⟩
  | .hbm, ⟨88, _⟩ => ⟨S2x1x1792, .f32⟩
  | .hbm, ⟨89, _⟩ => ⟨S2x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1408, .f32⟩
  | .local _ .vmem, ⟨5, _⟩ => ⟨S512x1408, .f32⟩
  | .local _ .vmem, ⟨6, _⟩ => ⟨S512x1792, .f32⟩
  | .local _ .vmem, ⟨7, _⟩ => ⟨S512x1792, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EvenInReferenceIdeal.lean ====
abbrev S2x8192x1024 : Shape := ⟨3, ![2, 8192, 1024]⟩
abbrev S1024 : Shape := ⟨1, ![1024]⟩
abbrev S1024x3096 : Shape := ⟨2, ![1024, 3096]⟩
abbrev S3x64 : Shape := ⟨2, ![3, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3096 : Shape := ⟨3, ![2, 8192, 3096]⟩
abbrev S2x8192x1304 : Shape := ⟨3, ![2, 8192, 1304]⟩
abbrev S2x8192x1792 : Shape := ⟨3, ![2, 8192, 1792]⟩
abbrev S8192 : Shape := ⟨1, ![8192]⟩
abbrev S2x8192x768 : Shape := ⟨3, ![2, 8192, 768]⟩
abbrev S2x8192x3x2x2x64 : Shape := ⟨6, ![2, 8192, 3, 2, 2, 64]⟩
abbrev S2x8192x3x1x2x64 : Shape := ⟨6, ![2, 8192, 3, 1, 2, 64]⟩
abbrev S2x8192x3x2x64 : Shape := ⟨5, ![2, 8192, 3, 2, 64]⟩
abbrev S3x1x64 : Shape := ⟨3, ![3, 1, 64]⟩
abbrev S2x8192x3x2 : Shape := ⟨4, ![2, 8192, 3, 2]⟩
abbrev S2x8192x3x2x1 : Shape := ⟨5, ![2, 8192, 3, 2, 1]⟩
abbrev S1x1x3x1x64 : Shape := ⟨5, ![1, 1, 3, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x3x2x16 : Shape := ⟨5, ![2, 8192, 3, 2, 16]⟩
abbrev S2x8192x3x2x8 : Shape := ⟨5, ![2, 8192, 3, 2, 8]⟩
abbrev S1x8192x1x1x8 : Shape := ⟨5, ![1, 8192, 1, 1, 8]⟩
abbrev S2x8192x3x2x48 : Shape := ⟨5, ![2, 8192, 3, 2, 48]⟩
abbrev S2x8192x2x2x2x64 : Shape := ⟨6, ![2, 8192, 2, 2, 2, 64]⟩
abbrev S2x8192x4x2x64 : Shape := ⟨5, ![2, 8192, 4, 2, 64]⟩
abbrev S2x8192x1x2x2x64 : Shape := ⟨6, ![2, 8192, 1, 2, 2, 64]⟩
abbrev S2x8192x2x2x64 : Shape := ⟨5, ![2, 8192, 2, 2, 64]⟩
abbrev S2x512x2x2x64 : Shape := ⟨5, ![2, 512, 2, 2, 64]⟩
abbrev S2x1x1792 : Shape := ⟨3, ![2, 1, 1792]⟩
abbrev S2x1792 : Shape := ⟨2, ![2, 1792]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3096, .f32⟩
  | .hbm, ⟨3, _⟩ => ⟨S3x64, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x3096, .f32⟩
  | .hbm, ⟨21, _⟩ => ⟨S2x8192x1304, .f32⟩
  | .hbm, ⟨22, _⟩ => ⟨S2x8192x1792, .f32⟩
  | .hbm, ⟨23, _⟩ => ⟨S8192, .i32⟩
  | .hbm, ⟨24, _⟩ => ⟨S2x8192x768, .f32⟩
  | .hbm, ⟨25, _⟩ => ⟨S2x8192x3x2x2x64, .f32⟩
  | .hbm, ⟨26, _⟩ => ⟨S2x8192x3x1x2x64, .f32⟩
  | .hbm, ⟨27, _⟩ => ⟨S2x8192x3x2x64, .f32⟩
  | .hbm, ⟨28, _⟩ => ⟨S3x1x64, .f32⟩
  | .hbm, ⟨29, _⟩ => ⟨S2x8192x3x2x64, .f32⟩
  | .hbm, ⟨30, _⟩ => ⟨S_, .f32⟩
  | .hbm, ⟨31, _⟩ => ⟨S2x8192x3x2, .f32⟩
  | .hbm, ⟨32, _⟩ => ⟨S2x8192x3x2x1, .f32⟩
  | .hbm, ⟨33, _⟩ => ⟨S_, .f32⟩
  | .hbm, ⟨34, _⟩ => ⟨S2x8192x3x2x1, .f32⟩
  | .hbm, ⟨35, _⟩ => ⟨S2x8192x3x2x1, .f32⟩
  | .hbm, ⟨36, _⟩ => ⟨S_, .f32⟩
  | .hbm, ⟨37, _⟩ => ⟨S2x8192x3x2x1, .f32⟩
  | .hbm, ⟨38, _⟩ => ⟨S2x8192x3x2x1, .f32⟩
  | .hbm, ⟨39, _⟩ => ⟨S2x8192x3x2x1, .f32⟩
  | .hbm, ⟨40, _⟩ => ⟨S2x8192x3x2x64, .f32⟩
  | .hbm, ⟨41, _⟩ => ⟨S2x8192x3x2x64, .f32⟩
  | .hbm, ⟨42, _⟩ => ⟨S1x1x3x1x64, .f32⟩
  | .hbm, ⟨43, _⟩ => ⟨S2x8192x3x2x64, .f32⟩
  | .hbm, ⟨44, _⟩ => ⟨S2x8192x3x2x64, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S8192, .f32⟩
  | .hbm, ⟨54, _⟩ => ⟨S8192x1, .f32⟩
  | .hbm, ⟨55, _⟩ => ⟨S1x8, .f32⟩
  | .hbm, ⟨56, _⟩ => ⟨S8192x8, .f32⟩
  | .hbm, ⟨57, _⟩ => ⟨S8192x8, .f32⟩
  | .hbm, ⟨58, _⟩ => ⟨S8192x8, .f32⟩
  | .hbm, ⟨59, _⟩ => ⟨S8192x8, .f32⟩
  | .hbm, ⟨60, _⟩ => ⟨S8192x1x1x8, .f32⟩
  | .hbm, ⟨61, _⟩ => ⟨S8192x8, .f32⟩
  | .hbm, ⟨62, _⟩ => ⟨S8192x1x1x8, .f32⟩
  | .hbm, ⟨63, _⟩ => ⟨S2x8192x3x2x16, .f32⟩
  | .hbm, ⟨64, _⟩ => ⟨S2x8192x3x2x8, .f32⟩
  | .hbm, ⟨65, _⟩ => ⟨S2x8192x3x2x8, .f32⟩
  | .hbm, ⟨66, _⟩ => ⟨S1x8192x1x1x8, .f32⟩
  | .hbm, ⟨67, _⟩ => ⟨S2x8192x3x2x8, .f32⟩
  | .hbm, ⟨68, _⟩ => ⟨S2x8192x3x2x8, .f32⟩
  | .hbm, ⟨69, _⟩ => ⟨S1x8192x1x1x8, .f32⟩
  | .hbm, ⟨70, _⟩ => ⟨S2x8192x3x2x8, .f32⟩
  | .hbm, ⟨71, _⟩ => ⟨S2x8192x3x2x8, .f32⟩
  | .hbm, ⟨72, _⟩ => ⟨S2x8192x3x2x8, .f32⟩
  | .hbm, ⟨73, _⟩ => ⟨S1x8192x1x1x8, .f32⟩
  | .hbm, ⟨74, _⟩ => ⟨S2x8192x3x2x8, .f32⟩
  | .hbm, ⟨75, _⟩ => ⟨S2x8192x3x2x8, .f32⟩
  | .hbm, ⟨76, _⟩ => ⟨S1x8192x1x1x8, .f32⟩
  | .hbm, ⟨77, _⟩ => ⟨S2x8192x3x2x8, .f32⟩
  | .hbm, ⟨78, _⟩ => ⟨S2x8192x3x2x8, .f32⟩
  | .hbm, ⟨79, _⟩ => ⟨S2x8192x3x2x8, .f32⟩
  | .hbm, ⟨80, _⟩ => ⟨S2x8192x3x2x16, .f32⟩
  | .hbm, ⟨81, _⟩ => ⟨S2x8192x3x2x48, .f32⟩
  | .hbm, ⟨82, _⟩ => ⟨S2x8192x3x2x64, .f32⟩
  | .hbm, ⟨83, _⟩ => ⟨S2x8192x3x1x2x64, .f32⟩
  | .hbm, ⟨84, _⟩ => ⟨S2x8192x3x2x64, .f32⟩
  | .hbm, ⟨85, _⟩ => ⟨S2x8192x3x1x2x64, .f32⟩
  | .hbm, ⟨86, _⟩ => ⟨S2x8192x3x1x2x64, .f32⟩
  | .hbm, ⟨87, _⟩ => ⟨S2x8192x3x2x2x64, .f32⟩
  | .hbm, ⟨88, _⟩ => ⟨S2x8192x2x2x2x64, .f32⟩
  | .hbm, ⟨89, _⟩ => ⟨S2x8192x4x2x64, .f32⟩
  | .hbm, ⟨90, _⟩ => ⟨S2x8192x1x2x2x64, .f32⟩
  | .hbm, ⟨91, _⟩ => ⟨S2x8192x2x2x64, .f32⟩
  | .hbm, ⟨92, _⟩ => ⟨S2x512x2x2x64, .f32⟩
  | .hbm, ⟨93, _⟩ => ⟨S2x1x1792, .f32⟩
  | .hbm, ⟨94, _⟩ => ⟨S2x1792, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== EvenInSampleKernel.lean ====
abbrev S32x8x1024 : Shape := ⟨3, ![32, 8, 1024]⟩
abbrev S1024 : Shape := ⟨1, ![1024]⟩
abbrev S1024x3096 : Shape := ⟨2, ![1024, 3096]⟩
abbrev S3x64 : Shape := ⟨2, ![3, 64]⟩
abbrev S32x512x2x2x64 : Shape := ⟨5, ![32, 512, 2, 2, 64]⟩
abbrev S1024x1304 : Shape := ⟨2, ![1024, 1304]⟩
abbrev S_ : Shape := ⟨0, ![]⟩
abbrev S1024x1408 : Shape := ⟨2, ![1024, 1408]⟩
abbrev S1024x1792 : Shape := ⟨2, ![1024, 1792]⟩
abbrev S1024x3200 : Shape := ⟨2, ![1024, 3200]⟩
abbrev S256x1024 : Shape := ⟨2, ![256, 1024]⟩
abbrev S1x1024 : Shape := ⟨2, ![1, 1024]⟩
abbrev S256x1408 : Shape := ⟨2, ![256, 1408]⟩
abbrev S256x1792 : Shape := ⟨2, ![256, 1792]⟩
abbrev S256 : Shape := ⟨1, ![256]⟩
abbrev S256x1 : Shape := ⟨2, ![256, 1]⟩
abbrev S32x8x1408 : Shape := ⟨3, ![32, 8, 1408]⟩
abbrev S32x8x1792 : Shape := ⟨3, ![32, 8, 1792]⟩
abbrev S8 : Shape := ⟨1, ![8]⟩
abbrev S32x8x768 : Shape := ⟨3, ![32, 8, 768]⟩
abbrev S32x8x3x2x2x64 : Shape := ⟨6, ![32, 8, 3, 2, 2, 64]⟩
abbrev S32x8x3x1x2x64 : Shape := ⟨6, ![32, 8, 3, 1, 2, 64]⟩
abbrev S32x8x3x2x64 : Shape := ⟨5, ![32, 8, 3, 2, 64]⟩
abbrev S3x1x64 : Shape := ⟨3, ![3, 1, 64]⟩
abbrev S32x8x3x2 : Shape := ⟨4, ![32, 8, 3, 2]⟩
abbrev S32x8x3x2x1 : Shape := ⟨5, ![32, 8, 3, 2, 1]⟩
abbrev S1x1x3x1x64 : Shape := ⟨5, ![1, 1, 3, 1, 64]⟩
abbrev S8x1 : Shape := ⟨2, ![8, 1]⟩
abbrev S1x8 : Shape := ⟨2, ![1, 8]⟩
abbrev S8x8 : Shape := ⟨2, ![8, 8]⟩
abbrev S8x1x1x8 : Shape := ⟨4, ![8, 1, 1, 8]⟩
abbrev S32x8x3x2x16 : Shape := ⟨5, ![32, 8, 3, 2, 16]⟩
abbrev S32x8x3x2x8 : Shape := ⟨5, ![32, 8, 3, 2, 8]⟩
abbrev S1x8x1x1x8 : Shape := ⟨5, ![1, 8, 1, 1, 8]⟩
abbrev S32x8x3x2x48 : Shape := ⟨5, ![32, 8, 3, 2, 48]⟩
abbrev S32x8x2x2x2x64 : Shape := ⟨6, ![32, 8, 2, 2, 2, 64]⟩
abbrev S32x8x4x2x64 : Shape := ⟨5, ![32, 8, 4, 2, 64]⟩
abbrev S32x8x1x2x2x64 : Shape := ⟨6, ![32, 8, 1, 2, 2, 64]⟩
abbrev S32x8x2x2x64 : Shape := ⟨5, ![32, 8, 2, 2, 64]⟩
abbrev S32x520x2x2x64 : Shape := ⟨5, ![32, 520, 2, 2, 64]⟩
abbrev S32x1x1792 : Shape := ⟨3, ![32, 1, 1792]⟩
abbrev S32x1792 : Shape := ⟨2, ![32, 1792]⟩

abbrev nBuf : Space → Nat
  | .hbm => 94
  | .vmem => 5
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3096, .f32⟩
  | .hbm, ⟨3, _⟩ => ⟨S3x64, .f32⟩
  | .hbm, ⟨4, _⟩ => ⟨S32x512x2x2x64, .f32⟩
  | .hbm, ⟨5, _⟩ => ⟨S1024x1304, .f32⟩
  | .hbm, ⟨6, _⟩ => ⟨S_, .i32⟩
  | .hbm, ⟨7, _⟩ => ⟨S_, .f32⟩
  | .hbm, ⟨8, _⟩ => ⟨S1024x1408, .f32⟩
  | .hbm, ⟨9, _⟩ => ⟨S1024x1792, .f32⟩
  | .hbm, ⟨10, _⟩ => ⟨S1024x3200, .f32⟩
  | .hbm, ⟨11, _⟩ => ⟨S1024x3200, .bf16⟩
  | .hbm, ⟨12, _⟩ => ⟨S256x1024, .f32⟩
  | .hbm, ⟨13, _⟩ => ⟨S1x1024, .f32⟩
  | .hbm, ⟨14, _⟩ => ⟨S256x1408, .f32⟩
  | .hbm, ⟨15, _⟩ => ⟨S256x1792, .f32⟩
  | .hbm, ⟨16, _⟩ => ⟨S32x8x1408, .f32⟩
  | .hbm, ⟨17, _⟩ => ⟨S32x8x1792, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x8x768, .f32⟩
  | .hbm, ⟨23, _⟩ => ⟨S32x8x3x2x2x64, .f32⟩
  | .hbm, ⟨24, _⟩ => ⟨S32x8x3x1x2x64, .f32⟩
  | .hbm, ⟨25, _⟩ => ⟨S32x8x3x2x64, .f32⟩
  | .hbm, ⟨26, _⟩ => ⟨S3x1x64, .f32⟩
  | .hbm, ⟨27, _⟩ => ⟨S32x8x3x2x64, .f32⟩
  | .hbm, ⟨28, _⟩ => ⟨S_, .f32⟩
  | .hbm, ⟨29, _⟩ => ⟨S32x8x3x2, .f32⟩
  | .hbm, ⟨30, _⟩ => ⟨S32x8x3x2x1, .f32⟩
  | .hbm, ⟨31, _⟩ => ⟨S_, .f32⟩
  | .hbm, ⟨32, _⟩ => ⟨S32x8x3x2x1, .f32⟩
  | .hbm, ⟨33, _⟩ => ⟨S32x8x3x2x1, .f32⟩
  | .hbm, ⟨34, _⟩ => ⟨S_, .f32⟩
  | .hbm, ⟨35, _⟩ => ⟨S32x8x3x2x1, .f32⟩
  | .hbm, ⟨36, _⟩ => ⟨S32x8x3x2x1, .f32⟩
  | .hbm, ⟨37, _⟩ => ⟨S32x8x3x2x1, .f32⟩
  | .hbm, ⟨38, _⟩ => ⟨S32x8x3x2x64, .f32⟩
  | .hbm, ⟨39, _⟩ => ⟨S32x8x3x2x64, .f32⟩
  | .hbm, ⟨40, _⟩ => ⟨S1x1x3x1x64, .f32⟩
  | .hbm, ⟨41, _⟩ => ⟨S32x8x3x2x64, .f32⟩
  | .hbm, ⟨42, _⟩ => ⟨S32x8x3x2x64, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S8x1, .f32⟩
  | .hbm, ⟨53, _⟩ => ⟨S1x8, .f32⟩
  | .hbm, ⟨54, _⟩ => ⟨S8x8, .f32⟩
  | .hbm, ⟨55, _⟩ => ⟨S8x8, .f32⟩
  | .hbm, ⟨56, _⟩ => ⟨S8x8, .f32⟩
  | .hbm, ⟨57, _⟩ => ⟨S8x8, .f32⟩
  | .hbm, ⟨58, _⟩ => ⟨S8x1x1x8, .f32⟩
  | .hbm, ⟨59, _⟩ => ⟨S8x8, .f32⟩
  | .hbm, ⟨60, _⟩ => ⟨S8x1x1x8, .f32⟩
  | .hbm, ⟨61, _⟩ => ⟨S32x8x3x2x16, .f32⟩
  | .hbm, ⟨62, _⟩ => ⟨S32x8x3x2x8, .f32⟩
  | .hbm, ⟨63, _⟩ => ⟨S32x8x3x2x8, .f32⟩
  | .hbm, ⟨64, _⟩ => ⟨S1x8x1x1x8, .f32⟩
  | .hbm, ⟨65, _⟩ => ⟨S32x8x3x2x8, .f32⟩
  | .hbm, ⟨66, _⟩ => ⟨S32x8x3x2x8, .f32⟩
  | .hbm, ⟨67, _⟩ => ⟨S1x8x1x1x8, .f32⟩
  | .hbm, ⟨68, _⟩ => ⟨S32x8x3x2x8, .f32⟩
  | .hbm, ⟨69, _⟩ => ⟨S32x8x3x2x8, .f32⟩
  | .hbm, ⟨70, _⟩ => ⟨S32x8x3x2x8, .f32⟩
  | .hbm, ⟨71, _⟩ => ⟨S1x8x1x1x8, .f32⟩
  | .hbm, ⟨72, _⟩ => ⟨S32x8x3x2x8, .f32⟩
  | .hbm, ⟨73, _⟩ => ⟨S32x8x3x2x8, .f32⟩
  | .hbm, ⟨74, _⟩ => ⟨S1x8x1x1x8, .f32⟩
  | .hbm, ⟨75, _⟩ => ⟨S32x8x3x2x8, .f32⟩
  | .hbm, ⟨76, _⟩ => ⟨S32x8x3x2x8, .f32⟩
  | .hbm, ⟨77, _⟩ => ⟨S32x8x3x2x8, .f32⟩
  | .hbm, ⟨78, _⟩ => ⟨S32x8x3x2x16, .f32⟩
  | .hbm, ⟨79, _⟩ => ⟨S32x8x3x2x48, .f32⟩
  | .hbm, ⟨80, _⟩ => ⟨S32x8x3x2x64, .f32⟩
  | .hbm, ⟨81, _⟩ => ⟨S32x8x3x1x2x64, .f32⟩
  | .hbm, ⟨82, _⟩ => ⟨S32x8x3x2x64, .f32⟩
  | .hbm, ⟨83, _⟩ => ⟨S32x8x3x1x2x64, .f32⟩
  | .hbm, ⟨84, _⟩ => ⟨S32x8x3x1x2x64, .f32⟩
  | .hbm, ⟨85, _⟩ => ⟨S32x8x3x2x2x64, .f32⟩
  | .hbm, ⟨86, _⟩ => ⟨S32x8x2x2x2x64, .f32⟩
  | .hbm, ⟨87, _⟩ => ⟨S32x8x4x2x64, .f32⟩
  | .hbm, ⟨88, _⟩ => ⟨S32x8x1x2x2x64, .f32⟩
  | .hbm, ⟨89, _⟩ => ⟨S32x8x2x2x64, .f32⟩
  | .hbm, ⟨90, _⟩ => ⟨S32x520x2x2x64, .f32⟩
  | .hbm, ⟨91, _⟩ => ⟨S32x512x2x2x64, .f32⟩
  | .hbm, ⟨92, _⟩ => ⟨S32x1x1792, .f32⟩
  | .hbm, ⟨93, _⟩ => ⟨S32x1792, .f32⟩
  | .local _ .vmem, ⟨0, _⟩ => ⟨S256x1024, .f32⟩
  | .local _ .vmem, ⟨1, _⟩ => ⟨S1x1024, .f32⟩
  | .local _ .vmem, ⟨2, _⟩ => ⟨S1024x3200, .bf16⟩
  | .local _ .vmem, ⟨3, _⟩ => ⟨S256x1408, .f32⟩
  | .local _ .vmem, ⟨4, _⟩ => ⟨S256x1792, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== EvenInSampleReferenceIdeal.lean ====
abbrev S32x8x1024 : Shape := ⟨3, ![32, 8, 1024]⟩
abbrev S1024 : Shape := ⟨1, ![1024]⟩
abbrev S1024x3096 : Shape := ⟨2, ![1024, 3096]⟩
abbrev S3x64 : Shape := ⟨2, ![3, 64]⟩
abbrev S32x512x2x2x64 : Shape := ⟨5, ![32, 512, 2, 2, 64]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3096 : Shape := ⟨3, ![32, 8, 3096]⟩
abbrev S32x8x1304 : Shape := ⟨3, ![32, 8, 1304]⟩
abbrev S8 : Shape := ⟨1, ![8]⟩
abbrev S32x8x768 : Shape := ⟨3, ![32, 8, 768]⟩
abbrev S32x8x3x2x2x64 : Shape := ⟨6, ![32, 8, 3, 2, 2, 64]⟩
abbrev S32x8x3x1x2x64 : Shape := ⟨6, ![32, 8, 3, 1, 2, 64]⟩
abbrev S32x8x3x2x64 : Shape := ⟨5, ![32, 8, 3, 2, 64]⟩
abbrev S3x1x64 : Shape := ⟨3, ![3, 1, 64]⟩
abbrev S32x8x3x2 : Shape := ⟨4, ![32, 8, 3, 2]⟩
abbrev S32x8x3x2x1 : Shape := ⟨5, ![32, 8, 3, 2, 1]⟩
abbrev S1x1x3x1x64 : Shape := ⟨5, ![1, 1, 3, 1, 64]⟩
abbrev S8x1 : Shape := ⟨2, ![8, 1]⟩
abbrev S1x8 : Shape := ⟨2, ![1, 8]⟩
abbrev S8x8 : Shape := ⟨2, ![8, 8]⟩
abbrev S8x1x1x8 : Shape := ⟨4, ![8, 1, 1, 8]⟩
abbrev S32x8x3x2x16 : Shape := ⟨5, ![32, 8, 3, 2, 16]⟩
abbrev S32x8x3x2x8 : Shape := ⟨5, ![32, 8, 3, 2, 8]⟩
abbrev S1x8x1x1x8 : Shape := ⟨5, ![1, 8, 1, 1, 8]⟩
abbrev S32x8x3x2x48 : Shape := ⟨5, ![32, 8, 3, 2, 48]⟩
abbrev S32x8x2x2x2x64 : Shape := ⟨6, ![32, 8, 2, 2, 2, 64]⟩
abbrev S32x8x4x2x64 : Shape := ⟨5, ![32, 8, 4, 2, 64]⟩
abbrev S32x8x1x2x2x64 : Shape := ⟨6, ![32, 8, 1, 2, 2, 64]⟩
abbrev S32x8x2x2x64 : Shape := ⟨5, ![32, 8, 2, 2, 64]⟩
abbrev S32x520x2x2x64 : Shape := ⟨5, ![32, 520, 2, 2, 64]⟩
abbrev S32x8x1792 : Shape := ⟨3, ![32, 8, 1792]⟩
abbrev S32x1x1792 : Shape := ⟨3, ![32, 1, 1792]⟩
abbrev S32x1792 : Shape := ⟨2, ![32, 1792]⟩

abbrev nBuf : Space → Nat
  | .hbm => 100
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3096, .f32⟩
  | .hbm, ⟨3, _⟩ => ⟨S3x64, .f32⟩
  | .hbm, ⟨4, _⟩ => ⟨S32x512x2x2x64, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x3096, .f32⟩
  | .hbm, ⟨22, _⟩ => ⟨S32x8x1304, .f32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S32x8x768, .f32⟩
  | .hbm, ⟨28, _⟩ => ⟨S32x8x3x2x2x64, .f32⟩
  | .hbm, ⟨29, _⟩ => ⟨S32x8x3x1x2x64, .f32⟩
  | .hbm, ⟨30, _⟩ => ⟨S32x8x3x2x64, .f32⟩
  | .hbm, ⟨31, _⟩ => ⟨S3x1x64, .f32⟩
  | .hbm, ⟨32, _⟩ => ⟨S32x8x3x2x64, .f32⟩
  | .hbm, ⟨33, _⟩ => ⟨S_, .f32⟩
  | .hbm, ⟨34, _⟩ => ⟨S32x8x3x2, .f32⟩
  | .hbm, ⟨35, _⟩ => ⟨S32x8x3x2x1, .f32⟩
  | .hbm, ⟨36, _⟩ => ⟨S_, .f32⟩
  | .hbm, ⟨37, _⟩ => ⟨S32x8x3x2x1, .f32⟩
  | .hbm, ⟨38, _⟩ => ⟨S32x8x3x2x1, .f32⟩
  | .hbm, ⟨39, _⟩ => ⟨S_, .f32⟩
  | .hbm, ⟨40, _⟩ => ⟨S32x8x3x2x1, .f32⟩
  | .hbm, ⟨41, _⟩ => ⟨S32x8x3x2x1, .f32⟩
  | .hbm, ⟨42, _⟩ => ⟨S32x8x3x2x1, .f32⟩
  | .hbm, ⟨43, _⟩ => ⟨S32x8x3x2x64, .f32⟩
  | .hbm, ⟨44, _⟩ => ⟨S32x8x3x2x64, .f32⟩
  | .hbm, ⟨45, _⟩ => ⟨S1x1x3x1x64, .f32⟩
  | .hbm, ⟨46, _⟩ => ⟨S32x8x3x2x64, .f32⟩
  | .hbm, ⟨47, _⟩ => ⟨S32x8x3x2x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S8x1, .f32⟩
  | .hbm, ⟨58, _⟩ => ⟨S1x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S8x8, .f32⟩
  | .hbm, ⟨63, _⟩ => ⟨S8x1x1x8, .f32⟩
  | .hbm, ⟨64, _⟩ => ⟨S8x8, .f32⟩
  | .hbm, ⟨65, _⟩ => ⟨S8x1x1x8, .f32⟩
  | .hbm, ⟨66, _⟩ => ⟨S32x8x3x2x16, .f32⟩
  | .hbm, ⟨67, _⟩ => ⟨S32x8x3x2x8, .f32⟩
  | .hbm, ⟨68, _⟩ => ⟨S32x8x3x2x8, .f32⟩
  | .hbm, ⟨69, _⟩ => ⟨S1x8x1x1x8, .f32⟩
  | .hbm, ⟨70, _⟩ => ⟨S32x8x3x2x8, .f32⟩
  | .hbm, ⟨71, _⟩ => ⟨S32x8x3x2x8, .f32⟩
  | .hbm, ⟨72, _⟩ => ⟨S1x8x1x1x8, .f32⟩
  | .hbm, ⟨73, _⟩ => ⟨S32x8x3x2x8, .f32⟩
  | .hbm, ⟨74, _⟩ => ⟨S32x8x3x2x8, .f32⟩
  | .hbm, ⟨75, _⟩ => ⟨S32x8x3x2x8, .f32⟩
  | .hbm, ⟨76, _⟩ => ⟨S1x8x1x1x8, .f32⟩
  | .hbm, ⟨77, _⟩ => ⟨S32x8x3x2x8, .f32⟩
  | .hbm, ⟨78, _⟩ => ⟨S32x8x3x2x8, .f32⟩
  | .hbm, ⟨79, _⟩ => ⟨S1x8x1x1x8, .f32⟩
  | .hbm, ⟨80, _⟩ => ⟨S32x8x3x2x8, .f32⟩
  | .hbm, ⟨81, _⟩ => ⟨S32x8x3x2x8, .f32⟩
  | .hbm, ⟨82, _⟩ => ⟨S32x8x3x2x8, .f32⟩
  | .hbm, ⟨83, _⟩ => ⟨S32x8x3x2x16, .f32⟩
  | .hbm, ⟨84, _⟩ => ⟨S32x8x3x2x48, .f32⟩
  | .hbm, ⟨85, _⟩ => ⟨S32x8x3x2x64, .f32⟩
  | .hbm, ⟨86, _⟩ => ⟨S32x8x3x1x2x64, .f32⟩
  | .hbm, ⟨87, _⟩ => ⟨S32x8x3x2x64, .f32⟩
  | .hbm, ⟨88, _⟩ => ⟨S32x8x3x1x2x64, .f32⟩
  | .hbm, ⟨89, _⟩ => ⟨S32x8x3x1x2x64, .f32⟩
  | .hbm, ⟨90, _⟩ => ⟨S32x8x3x2x2x64, .f32⟩
  | .hbm, ⟨91, _⟩ => ⟨S32x8x2x2x2x64, .f32⟩
  | .hbm, ⟨92, _⟩ => ⟨S32x8x4x2x64, .f32⟩
  | .hbm, ⟨93, _⟩ => ⟨S32x8x1x2x2x64, .f32⟩
  | .hbm, ⟨94, _⟩ => ⟨S32x8x2x2x64, .f32⟩
  | .hbm, ⟨95, _⟩ => ⟨S32x520x2x2x64, .f32⟩
  | .hbm, ⟨96, _⟩ => ⟨S32x512x2x2x64, .f32⟩
  | .hbm, ⟨97, _⟩ => ⟨S32x8x1792, .f32⟩
  | .hbm, ⟨98, _⟩ => ⟨S32x1x1792, .f32⟩
  | .hbm, ⟨99, _⟩ => ⟨S32x1792, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== OddInKernel.lean ====
abbrev S2x8192x1024 : Shape := ⟨3, ![2, 8192, 1024]⟩
abbrev S1024 : Shape := ⟨1, ![1024]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S16384x1024 : Shape := ⟨2, ![16384, 1024]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S2x8192x128 : Shape := ⟨3, ![2, 8192, 128]⟩
abbrev S2x8192x16 : Shape := ⟨3, ![2, 8192, 16]⟩

abbrev nBuf : Space → Nat
  | .hbm => 22
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S1024x2048, .f32⟩
  | .hbm, ⟨4, _⟩ => ⟨S1024x1024, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x3200, .f32⟩
  | .hbm, ⟨10, _⟩ => ⟨S1024x3200, .bf16⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x128, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x128, .f32⟩
  | .hbm, ⟨21, _⟩ => ⟨S2x8192x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddInReferenceIdeal.lean ====
abbrev S2x8192x1024 : Shape := ⟨3, ![2, 8192, 1024]⟩
abbrev S1024 : Shape := ⟨1, ![1024]⟩
abbrev S1024x3088 : Shape := ⟨2, ![1024, 3088]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3088 : Shape := ⟨3, ![2, 8192, 3088]⟩
abbrev S2x8192x16 : Shape := ⟨3, ![2, 8192, 16]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3088, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x16, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OddOutKernel.lean ====
abbrev S2x8192x1024 : Shape := ⟨3, ![2, 8192, 1024]⟩
abbrev S1024x1024 : Shape := ⟨2, ![1024, 1024]⟩
abbrev S16384x1024 : Shape := ⟨2, ![16384, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024x1024, .bf16⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutReferenceIdeal.lean ====
abbrev S2x8192x1024 : Shape := ⟨3, ![2, 8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== EvenOutKernel.lean ====
abbrev S2x8192x512 : Shape := ⟨3, ![2, 8192, 512]⟩
abbrev S1024x1024 : Shape := ⟨2, ![1024, 1024]⟩
abbrev S2x8192x1024 : Shape := ⟨3, ![2, 8192, 1024]⟩
abbrev S512x1024 : Shape := ⟨2, ![512, 1024]⟩
abbrev S16384x512 : Shape := ⟨2, ![16384, 512]⟩
abbrev S16384x1024 : Shape := ⟨2, ![16384, 1024]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S2x8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutReferenceIdeal.lean ====
abbrev S2x8192x512 : Shape := ⟨3, ![2, 8192, 512]⟩
abbrev S1024x1024 : Shape := ⟨2, ![1024, 1024]⟩
abbrev S2x8192x1024 : Shape := ⟨3, ![2, 8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== GlaSampleKernel.lean ====
abbrev S32x8x1024 : Shape := ⟨3, ![32, 8, 1024]⟩
abbrev S32x8x16 : Shape := ⟨3, ![32, 8, 16]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S32x8x512 : Shape := ⟨3, ![32, 8, 512]⟩
abbrev S1x1x512 : Shape := ⟨3, ![1, 1, 512]⟩
abbrev S_ : Shape := ⟨0, ![]⟩
abbrev S32x16x1024 : Shape := ⟨3, ![32, 16, 1024]⟩
abbrev S32x16x512 : Shape := ⟨3, ![32, 16, 512]⟩
abbrev S1x256 : Shape := ⟨2, ![1, 256]⟩
abbrev S32x4x256x128 : Shape := ⟨4, ![32, 4, 256, 128]⟩
abbrev S1x16x512 : Shape := ⟨3, ![1, 16, 512]⟩
abbrev S1x16x1024 : Shape := ⟨3, ![1, 16, 1024]⟩
abbrev S1x4x256x128 : Shape := ⟨4, ![1, 4, 256, 128]⟩
abbrev S16x16 : Shape := ⟨2, ![16, 16]⟩
abbrev S16x1 : Shape := ⟨2, ![16, 1]⟩
abbrev S1x16x128 : Shape := ⟨3, ![1, 16, 128]⟩
abbrev S16x128 : Shape := ⟨2, ![16, 128]⟩
abbrev S1x16x256 : Shape := ⟨3, ![1, 16, 256]⟩
abbrev S16x256 : Shape := ⟨2, ![16, 256]⟩
abbrev S1x128 : Shape := ⟨2, ![1, 128]⟩
abbrev S16 : Shape := ⟨1, ![16]⟩
abbrev S1x1x256x128 : Shape := ⟨4, ![1, 1, 256, 128]⟩
abbrev S256x128 : Shape := ⟨2, ![256, 128]⟩

abbrev nBuf : Space → Nat
  | .hbm => 48
  | .vmem => 17
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x16, .f32⟩
  | .hbm, ⟨3, _⟩ => ⟨S32x8x1024, .f32⟩
  | .hbm, ⟨4, _⟩ => ⟨S32x4x128x256, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S32x8x512, .f32⟩
  | .hbm, ⟨9, _⟩ => ⟨S1x1x512, .f32⟩
  | .hbm, ⟨10, _⟩ => ⟨S32x8x512, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x512, .f32⟩
  | .hbm, ⟨17, _⟩ => ⟨S32x8x512, .f32⟩
  | .hbm, ⟨18, _⟩ => ⟨S32x8x512, .i1⟩
  | .hbm, ⟨19, _⟩ => ⟨S32x8x512, .f32⟩
  | .hbm, ⟨20, _⟩ => ⟨S32x8x512, .f32⟩
  | .hbm, ⟨21, _⟩ => ⟨S32x8x512, .f32⟩
  | .hbm, ⟨22, _⟩ => ⟨S32x8x512, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S_, .f32⟩
  | .hbm, ⟨29, _⟩ => ⟨S32x8x512, .f32⟩
  | .hbm, ⟨30, _⟩ => ⟨S32x8x512, .f32⟩
  | .hbm, ⟨31, _⟩ => ⟨S_, .i32⟩
  | .hbm, ⟨32, _⟩ => ⟨S_, .f32⟩
  | .hbm, ⟨33, _⟩ => ⟨S32x16x1024, .f32⟩
  | .hbm, ⟨34, _⟩ => ⟨S_, .i32⟩
  | .hbm, ⟨35, _⟩ => ⟨S_, .f32⟩
  | .hbm, ⟨36, _⟩ => ⟨S32x16x1024, .f32⟩
  | .hbm, ⟨37, _⟩ => ⟨S_, .i32⟩
  | .hbm, ⟨38, _⟩ => ⟨S_, .f32⟩
  | .hbm, ⟨39, _⟩ => ⟨S32x16x1024, .f32⟩
  | .hbm, ⟨40, _⟩ => ⟨S_, .i32⟩
  | .hbm, ⟨41, _⟩ => ⟨S_, .f32⟩
  | .hbm, ⟨42, _⟩ => ⟨S32x16x512, .f32⟩
  | .hbm, ⟨43, _⟩ => ⟨S1x256, .f32⟩
  | .hbm, ⟨44, _⟩ => ⟨S32x4x256x128, .f32⟩
  | .hbm, ⟨45, _⟩ => ⟨S32x16x1024, .f32⟩
  | .hbm, ⟨46, _⟩ => ⟨S32x4x256x128, .f32⟩
  | .hbm, ⟨47, _⟩ => ⟨S32x4x128x256, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .f32⟩
  | .local _ .vmem, ⟨7, _⟩ => ⟨S1x16x512, .f32⟩
  | .local _ .vmem, ⟨8, _⟩ => ⟨S1x16x1024, .f32⟩
  | .local _ .vmem, ⟨9, _⟩ => ⟨S1x16x1024, .f32⟩
  | .local _ .vmem, ⟨10, _⟩ => ⟨S1x256, .f32⟩
  | .local _ .vmem, ⟨11, _⟩ => ⟨S1x4x256x128, .f32⟩
  | .local _ .vmem, ⟨12, _⟩ => ⟨S1x4x256x128, .f32⟩
  | .local _ .vmem, ⟨13, _⟩ => ⟨S1x16x1024, .f32⟩
  | .local _ .vmem, ⟨14, _⟩ => ⟨S1x16x1024, .f32⟩
  | .local _ .vmem, ⟨15, _⟩ => ⟨S1x4x256x128, .f32⟩
  | .local _ .vmem, ⟨16, _⟩ => ⟨S1x4x256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_call1_v0 : Ref sig .tc := ⟨.hbm, 32, rfl⟩
abbrev main_v7 : Ref sig .tc := ⟨.hbm, 33, rfl⟩
abbrev main_c_0 : Ref sig .tc := ⟨.hbm, 34, rfl⟩
abbrev main_call2_v0 : Ref sig .tc := ⟨.hbm, 35, rfl⟩
abbrev main_v8 : Ref sig .tc := ⟨.hbm, 36, rfl⟩
abbrev main_c_1 : Ref sig .tc := ⟨.hbm, 37, rfl⟩
abbrev main_call3_v0 : Ref sig .tc := ⟨.hbm, 38, rfl⟩
abbrev main_v9 : Ref sig .tc := ⟨.hbm, 39, rfl⟩
abbrev main_c_2 : Ref sig .tc := ⟨.hbm, 40, rfl⟩
abbrev main_call4_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaSampleKernelIdeal.lean ====
abbrev S32x8x1024 : Shape := ⟨3, ![32, 8, 1024]⟩
abbrev S32x8x16 : Shape := ⟨3, ![32, 8, 16]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S32x8x512 : Shape := ⟨3, ![32, 8, 512]⟩
abbrev S1x1x512 : Shape := ⟨3, ![1, 1, 512]⟩
abbrev S_ : Shape := ⟨0, ![]⟩
abbrev S32x16x1024 : Shape := ⟨3, ![32, 16, 1024]⟩
abbrev S32x16x512 : Shape := ⟨3, ![32, 16, 512]⟩
abbrev S1x256 : Shape := ⟨2, ![1, 256]⟩
abbrev S32x4x256x128 : Shape := ⟨4, ![32, 4, 256, 128]⟩
abbrev S1x16x512 : Shape := ⟨3, ![1, 16, 512]⟩
abbrev S1x16x1024 : Shape := ⟨3, ![1, 16, 1024]⟩
abbrev S1x4x256x128 : Shape := ⟨4, ![1, 4, 256, 128]⟩
abbrev S16x16 : Shape := ⟨2, ![16, 16]⟩
abbrev S16x1 : Shape := ⟨2, ![16, 1]⟩
abbrev S1x16x128 : Shape := ⟨3, ![1, 16, 128]⟩
abbrev S16x128 : Shape := ⟨2, ![16, 128]⟩
abbrev S1x16x256 : Shape := ⟨3, ![1, 16, 256]⟩
abbrev S16x256 : Shape := ⟨2, ![16, 256]⟩
abbrev S1x128 : Shape := ⟨2, ![1, 128]⟩
abbrev S16 : Shape := ⟨1, ![16]⟩
abbrev S1x1x256x128 : Shape := ⟨4, ![1, 1, 256, 128]⟩
abbrev S256x128 : Shape := ⟨2, ![256, 128]⟩

abbrev nBuf : Space → Nat
  | .hbm => 48
  | .vmem => 17
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x16, .f32⟩
  | .hbm, ⟨3, _⟩ => ⟨S32x8x1024, .f32⟩
  | .hbm, ⟨4, _⟩ => ⟨S32x4x128x256, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S32x8x512, .f32⟩
  | .hbm, ⟨9, _⟩ => ⟨S1x1x512, .f32⟩
  | .hbm, ⟨10, _⟩ => ⟨S32x8x512, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x512, .f32⟩
  | .hbm, ⟨17, _⟩ => ⟨S32x8x512, .f32⟩
  | .hbm, ⟨18, _⟩ => ⟨S32x8x512, .i1⟩
  | .hbm, ⟨19, _⟩ => ⟨S32x8x512, .f32⟩
  | .hbm, ⟨20, _⟩ => ⟨S32x8x512, .f32⟩
  | .hbm, ⟨21, _⟩ => ⟨S32x8x512, .f32⟩
  | .hbm, ⟨22, _⟩ => ⟨S32x8x512, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S_, .f32⟩
  | .hbm, ⟨29, _⟩ => ⟨S32x8x512, .f32⟩
  | .hbm, ⟨30, _⟩ => ⟨S32x8x512, .f32⟩
  | .hbm, ⟨31, _⟩ => ⟨S_, .i32⟩
  | .hbm, ⟨32, _⟩ => ⟨S_, .f32⟩
  | .hbm, ⟨33, _⟩ => ⟨S32x16x1024, .f32⟩
  | .hbm, ⟨34, _⟩ => ⟨S_, .i32⟩
  | .hbm, ⟨35, _⟩ => ⟨S_, .f32⟩
  | .hbm, ⟨36, _⟩ => ⟨S32x16x1024, .f32⟩
  | .hbm, ⟨37, _⟩ => ⟨S_, .i32⟩
  | .hbm, ⟨38, _⟩ => ⟨S_, .f32⟩
  | .hbm, ⟨39, _⟩ => ⟨S32x16x1024, .f32⟩
  | .hbm, ⟨40, _⟩ => ⟨S_, .i32⟩
  | .hbm, ⟨41, _⟩ => ⟨S_, .f32⟩
  | .hbm, ⟨42, _⟩ => ⟨S32x16x512, .f32⟩
  | .hbm, ⟨43, _⟩ => ⟨S1x256, .f32⟩
  | .hbm, ⟨44, _⟩ => ⟨S32x4x256x128, .f32⟩
  | .hbm, ⟨45, _⟩ => ⟨S32x16x1024, .f32⟩
  | .hbm, ⟨46, _⟩ => ⟨S32x4x256x128, .f32⟩
  | .hbm, ⟨47, _⟩ => ⟨S32x4x128x256, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .f32⟩
  | .local _ .vmem, ⟨7, _⟩ => ⟨S1x16x512, .f32⟩
  | .local _ .vmem, ⟨8, _⟩ => ⟨S1x16x1024, .f32⟩
  | .local _ .vmem, ⟨9, _⟩ => ⟨S1x16x1024, .f32⟩
  | .local _ .vmem, ⟨10, _⟩ => ⟨S1x256, .f32⟩
  | .local _ .vmem, ⟨11, _⟩ => ⟨S1x4x256x128, .f32⟩
  | .local _ .vmem, ⟨12, _⟩ => ⟨S1x4x256x128, .f32⟩
  | .local _ .vmem, ⟨13, _⟩ => ⟨S1x16x1024, .f32⟩
  | .local _ .vmem, ⟨14, _⟩ => ⟨S1x16x1024, .f32⟩
  | .local _ .vmem, ⟨15, _⟩ => ⟨S1x4x256x128, .f32⟩
  | .local _ .vmem, ⟨16, _⟩ => ⟨S1x4x256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_call1_v0 : Ref sig .tc := ⟨.hbm, 32, rfl⟩
abbrev main_v7 : Ref sig .tc := ⟨.hbm, 33, rfl⟩
abbrev main_c_0 : Ref sig .tc := ⟨.hbm, 34, rfl⟩
abbrev main_call2_v0 : Ref sig .tc := ⟨.hbm, 35, rfl⟩
abbrev main_v8 : Ref sig .tc := ⟨.hbm, 36, rfl⟩
abbrev main_c_1 : Ref sig .tc := ⟨.hbm, 37, rfl⟩
abbrev main_call3_v0 : Ref sig .tc := ⟨.hbm, 38, rfl⟩
abbrev main_v9 : Ref sig .tc := ⟨.hbm, 39, rfl⟩
abbrev main_c_2 : Ref sig .tc := ⟨.hbm, 40, rfl⟩
abbrev main_call4_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaSampleReferenceIdeal.lean ====
abbrev S32x8x1024 : Shape := ⟨3, ![32, 8, 1024]⟩
abbrev S32x8x16 : Shape := ⟨3, ![32, 8, 16]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S32x8x512 : Shape := ⟨3, ![32, 8, 512]⟩
abbrev S32x8x4x128 : Shape := ⟨4, ![32, 8, 4, 128]⟩
abbrev S32x8x4x256 : Shape := ⟨4, ![32, 8, 4, 256]⟩
abbrev S1x1x512 : Shape := ⟨3, ![1, 1, 512]⟩
abbrev S_ : Shape := ⟨0, ![]⟩
abbrev S32x1x8x4x128 : Shape := ⟨5, ![32, 1, 8, 4, 128]⟩
abbrev S1x32x4x8x128 : Shape := ⟨5, ![1, 32, 4, 8, 128]⟩
abbrev S32x1x8x4x256 : Shape := ⟨5, ![32, 1, 8, 4, 256]⟩
abbrev S1x32x4x8x256 : Shape := ⟨5, ![1, 32, 4, 8, 256]⟩
abbrev S32x4x8x128 : Shape := ⟨4, ![32, 4, 8, 128]⟩
abbrev S32x4x8x256 : Shape := ⟨4, ![32, 4, 8, 256]⟩
abbrev S32x4x1x128 : Shape := ⟨4, ![32, 4, 1, 128]⟩
abbrev S32x4x128 : Shape := ⟨3, ![32, 4, 128]⟩
abbrev S32x4x128x1 : Shape := ⟨4, ![32, 4, 128, 1]⟩

abbrev nBuf : Space → Nat
  | .hbm => 84
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x16, .f32⟩
  | .hbm, ⟨3, _⟩ => ⟨S32x8x1024, .f32⟩
  | .hbm, ⟨4, _⟩ => ⟨S32x4x128x256, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S32x8x512, .f32⟩
  | .hbm, ⟨9, _⟩ => ⟨S32x8x4x128, .f32⟩
  | .hbm, ⟨10, _⟩ => ⟨S32x8x4x256, .f32⟩
  | .hbm, ⟨11, _⟩ => ⟨S32x8x512, .f32⟩
  | .hbm, ⟨12, _⟩ => ⟨S1x1x512, .f32⟩
  | .hbm, ⟨13, _⟩ => ⟨S32x8x512, .f32⟩
  | .hbm, ⟨14, _⟩ => ⟨S32x8x512, .f32⟩
  | .hbm, ⟨15, _⟩ => ⟨S32x8x512, .f32⟩
  | .hbm, ⟨16, _⟩ => ⟨S_, .f32⟩
  | .hbm, ⟨17, _⟩ => ⟨S32x8x512, .f32⟩
  | .hbm, ⟨18, _⟩ => ⟨S32x8x512, .f32⟩
  | .hbm, ⟨19, _⟩ => ⟨S32x8x512, .f32⟩
  | .hbm, ⟨20, _⟩ => ⟨S32x8x512, .f32⟩
  | .hbm, ⟨21, _⟩ => ⟨S32x8x512, .i1⟩
  | .hbm, ⟨22, _⟩ => ⟨S32x8x512, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S32x8x512, .f32⟩
  | .hbm, ⟨30, _⟩ => ⟨S32x8x512, .f32⟩
  | .hbm, ⟨31, _⟩ => ⟨S_, .f32⟩
  | .hbm, ⟨32, _⟩ => ⟨S32x8x512, .f32⟩
  | .hbm, ⟨33, _⟩ => ⟨S32x8x512, .f32⟩
  | .hbm, ⟨34, _⟩ => ⟨S32x8x4x128, .f32⟩
  | .hbm, ⟨35, _⟩ => ⟨S32x1x8x4x128, .f32⟩
  | .hbm, ⟨36, _⟩ => ⟨S1x32x4x8x128, .f32⟩
  | .hbm, ⟨37, _⟩ => ⟨S32x1x8x4x256, .f32⟩
  | .hbm, ⟨38, _⟩ => ⟨S1x32x4x8x256, .f32⟩
  | .hbm, ⟨39, _⟩ => ⟨S32x1x8x4x128, .f32⟩
  | .hbm, ⟨40, _⟩ => ⟨S1x32x4x8x128, .f32⟩
  | .hbm, ⟨41, _⟩ => ⟨S_, .i32⟩
  | .hbm, ⟨42, _⟩ => ⟨S1x32x4x8x128, .f32⟩
  | .hbm, ⟨43, _⟩ => ⟨S1x32x4x8x256, .f32⟩
  | .hbm, ⟨44, _⟩ => ⟨S1x32x4x8x128, .f32⟩
  | .hbm, ⟨45, _⟩ => ⟨S_, .i32⟩
  | .hbm, ⟨46, _⟩ => ⟨S32x4x128x256, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x32x4x8x128, .f32⟩
  | .hbm, ⟨54, _⟩ => ⟨S32x4x8x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x32x4x8x256, .f32⟩
  | .hbm, ⟨60, _⟩ => ⟨S32x4x8x256, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x32x4x8x128, .f32⟩
  | .hbm, ⟨66, _⟩ => ⟨S32x4x8x128, .f32⟩
  | .hbm, ⟨67, _⟩ => ⟨S_, .f32⟩
  | .hbm, ⟨68, _⟩ => ⟨S_, .f32⟩
  | .hbm, ⟨69, _⟩ => ⟨S32x4x8x128, .f32⟩
  | .hbm, ⟨70, _⟩ => ⟨S32x4x1x128, .f32⟩
  | .hbm, ⟨71, _⟩ => ⟨S32x4x128, .f32⟩
  | .hbm, ⟨72, _⟩ => ⟨S32x4x128, .f32⟩
  | .hbm, ⟨73, _⟩ => ⟨S32x4x128x1, .f32⟩
  | .hbm, ⟨74, _⟩ => ⟨S32x4x128x256, .f32⟩
  | .hbm, ⟨75, _⟩ => ⟨S32x4x128x256, .f32⟩
  | .hbm, ⟨76, _⟩ => ⟨S32x4x8x128, .f32⟩
  | .hbm, ⟨77, _⟩ => ⟨S32x4x8x128, .f32⟩
  | .hbm, ⟨78, _⟩ => ⟨S32x4x8x128, .f32⟩
  | .hbm, ⟨79, _⟩ => ⟨S32x4x8x128, .f32⟩
  | .hbm, ⟨80, _⟩ => ⟨S32x4x128x256, .f32⟩
  | .hbm, ⟨81, _⟩ => ⟨S32x4x128x256, .f32⟩
  | .hbm, ⟨82, _⟩ => ⟨S_, .i32⟩
  | .hbm, ⟨83, _⟩ => ⟨S_, .i32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev main_v17_3 : Ref sig .tc := ⟨.hbm, 45, rfl⟩
abbrev main_v17_4 : Ref sig .tc := ⟨.hbm, 46, rfl⟩
abbrev main_while0c_c_4 : Ref sig .tc := ⟨.hbm, 47, rfl⟩
abbrev main_while0c_v18 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v18 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v19 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v20 : Ref sig .tc := ⟨.hbm, 66, rfl⟩
abbrev main_while0b_call4_call0_cst : Ref sig .tc := ⟨.hbm, 67, rfl⟩
abbrev main_while0b_call4_call0_v0 : Ref sig .tc := ⟨.hbm, 68, rfl⟩
abbrev main_while0b_v21 : Ref sig .tc := ⟨.hbm, 69, rfl⟩
abbrev main_while0b_v22 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_v28 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_c_4 : Ref sig .tc := ⟨.hbm, 82, rfl⟩
abbrev main_while0b_v34 : Ref sig .tc := ⟨.hbm, 83, rfl⟩

abbrev nD : Nat := 1
abbrev τ : Topo := Topo.v7x

variable {F : FTy → Type} [FloatOps F]

abbrev main_while0_count : Scf.Loop 32 := ⟨0#32, 1#32, 1#32⟩
-- ==== GlaKernel.lean ====
abbrev S2x8192x1024 : Shape := ⟨3, ![2, 8192, 1024]⟩
abbrev S2x8192x16 : Shape := ⟨3, ![2, 8192, 16]⟩
abbrev S2x4x128x256 : Shape := ⟨4, ![2, 4, 128, 256]⟩
abbrev S16x512 : Shape := ⟨2, ![16, 512]⟩
abbrev S512 : Shape := ⟨1, ![512]⟩
abbrev S256 : Shape := ⟨1, ![256]⟩
abbrev S2x8192x512 : Shape := ⟨3, ![2, 8192, 512]⟩
abbrev S1x1x512 : Shape := ⟨3, ![1, 1, 512]⟩
abbrev S_ : Shape := ⟨0, ![]⟩
abbrev S1x256 : Shape := ⟨2, ![1, 256]⟩
abbrev S2x4x256x128 : Shape := ⟨4, ![2, 4, 256, 128]⟩
abbrev S1x64x512 : Shape := ⟨3, ![1, 64, 512]⟩
abbrev S1x64x1024 : Shape := ⟨3, ![1, 64, 1024]⟩
abbrev S1x4x256x128 : Shape := ⟨4, ![1, 4, 256, 128]⟩
abbrev S64x64 : Shape := ⟨2, ![64, 64]⟩
abbrev S16x1 : Shape := ⟨2, ![16, 1]⟩
abbrev S16x16 : Shape := ⟨2, ![16, 16]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S1x128 : Shape := ⟨2, ![1, 128]⟩
abbrev S16x128 : Shape := ⟨2, ![16, 128]⟩
abbrev S16 : Shape := ⟨1, ![16]⟩
abbrev S16x48 : Shape := ⟨2, ![16, 48]⟩
abbrev S16x64 : Shape := ⟨2, ![16, 64]⟩
abbrev S16x32 : Shape := ⟨2, ![16, 32]⟩
abbrev S32x128 : Shape := ⟨2, ![32, 128]⟩
abbrev S48x128 : Shape := ⟨2, ![48, 128]⟩
abbrev S1x1x256x128 : Shape := ⟨4, ![1, 1, 256, 128]⟩
abbrev S256x128 : Shape := ⟨2, ![256, 128]⟩
abbrev S64 : Shape := ⟨1, ![64]⟩
abbrev S64x1 : Shape := ⟨2, ![64, 1]⟩

abbrev nBuf : Space → Nat
  | .hbm => 36
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x16, .f32⟩
  | .hbm, ⟨3, _⟩ => ⟨S2x8192x1024, .f32⟩
  | .hbm, ⟨4, _⟩ => ⟨S2x4x128x256, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S2x8192x512, .f32⟩
  | .hbm, ⟨9, _⟩ => ⟨S1x1x512, .f32⟩
  | .hbm, ⟨10, _⟩ => ⟨S2x8192x512, .f32⟩
  | .hbm, ⟨11, _⟩ => ⟨S2x8192x512, .f32⟩
  | .hbm, ⟨12, _⟩ => ⟨S2x8192x512, .f32⟩
  | .hbm, ⟨13, _⟩ => ⟨S_, .f32⟩
  | .hbm, ⟨14, _⟩ => ⟨S2x8192x512, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S2x8192x512, .i1⟩
  | .hbm, ⟨19, _⟩ => ⟨S2x8192x512, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S1x256, .f32⟩
  | .hbm, ⟨32, _⟩ => ⟨S2x4x256x128, .f32⟩
  | .hbm, ⟨33, _⟩ => ⟨S2x8192x1024, .f32⟩
  | .hbm, ⟨34, _⟩ => ⟨S2x4x256x128, .f32⟩
  | .hbm, ⟨35, _⟩ => ⟨S2x4x128x256, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x64x512, .f32⟩
  | .local _ .vmem, ⟨7, _⟩ => ⟨S1x64x512, .f32⟩
  | .local _ .vmem, ⟨8, _⟩ => ⟨S1x64x1024, .f32⟩
  | .local _ .vmem, ⟨9, _⟩ => ⟨S1x64x1024, .f32⟩
  | .local _ .vmem, ⟨10, _⟩ => ⟨S1x256, .f32⟩
  | .local _ .vmem, ⟨11, _⟩ => ⟨S1x4x256x128, .f32⟩
  | .local _ .vmem, ⟨12, _⟩ => ⟨S1x4x256x128, .f32⟩
  | .local _ .vmem, ⟨13, _⟩ => ⟨S1x64x1024, .f32⟩
  | .local _ .vmem, ⟨14, _⟩ => ⟨S1x64x1024, .f32⟩
  | .local _ .vmem, ⟨15, _⟩ => ⟨S1x4x256x128, .f32⟩
  | .local _ .vmem, ⟨16, _⟩ => ⟨S1x4x256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9_0 : Ref sig .tc := ⟨.hbm, 33, rfl⟩
abbrev main_v9_1 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaReferenceIdeal.lean ====
abbrev S2x8192x1024 : Shape := ⟨3, ![2, 8192, 1024]⟩
abbrev S2x8192x16 : Shape := ⟨3, ![2, 8192, 16]⟩
abbrev S2x4x128x256 : Shape := ⟨4, ![2, 4, 128, 256]⟩
abbrev S16x512 : Shape := ⟨2, ![16, 512]⟩
abbrev S512 : Shape := ⟨1, ![512]⟩
abbrev S256 : Shape := ⟨1, ![256]⟩
abbrev S2x8192x512 : Shape := ⟨3, ![2, 8192, 512]⟩
abbrev S2x8192x4x128 : Shape := ⟨4, ![2, 8192, 4, 128]⟩
abbrev S2x8192x4x256 : Shape := ⟨4, ![2, 8192, 4, 256]⟩
abbrev S1x1x512 : Shape := ⟨3, ![1, 1, 512]⟩
abbrev S_ : Shape := ⟨0, ![]⟩
abbrev S2x128x64x4x128 : Shape := ⟨5, ![2, 128, 64, 4, 128]⟩
abbrev S128x2x4x64x128 : Shape := ⟨5, ![128, 2, 4, 64, 128]⟩
abbrev S2x128x64x4x256 : Shape := ⟨5, ![2, 128, 64, 4, 256]⟩
abbrev S128x2x4x64x256 : Shape := ⟨5, ![128, 2, 4, 64, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S2x4x1x128 : Shape := ⟨4, ![2, 4, 1, 128]⟩
abbrev S2x4x128 : Shape := ⟨3, ![2, 4, 128]⟩
abbrev S2x4x128x1 : Shape := ⟨4, ![2, 4, 128, 1]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x16, .f32⟩
  | .hbm, ⟨3, _⟩ => ⟨S2x8192x1024, .f32⟩
  | .hbm, ⟨4, _⟩ => ⟨S2x4x128x256, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S2x8192x512, .f32⟩
  | .hbm, ⟨9, _⟩ => ⟨S2x8192x4x128, .f32⟩
  | .hbm, ⟨10, _⟩ => ⟨S2x8192x4x256, .f32⟩
  | .hbm, ⟨11, _⟩ => ⟨S2x8192x512, .f32⟩
  | .hbm, ⟨12, _⟩ => ⟨S1x1x512, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S2x8192x512, .i1⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S_, .f32⟩
  | .hbm, ⟨32, _⟩ => ⟨S2x8192x512, .f32⟩
  | .hbm, ⟨33, _⟩ => ⟨S2x8192x512, .f32⟩
  | .hbm, ⟨34, _⟩ => ⟨S2x8192x4x128, .f32⟩
  | .hbm, ⟨35, _⟩ => ⟨S2x128x64x4x128, .f32⟩
  | .hbm, ⟨36, _⟩ => ⟨S128x2x4x64x128, .f32⟩
  | .hbm, ⟨37, _⟩ => ⟨S2x128x64x4x256, .f32⟩
  | .hbm, ⟨38, _⟩ => ⟨S128x2x4x64x256, .f32⟩
  | .hbm, ⟨39, _⟩ => ⟨S2x128x64x4x128, .f32⟩
  | .hbm, ⟨40, _⟩ => ⟨S128x2x4x64x128, .f32⟩
  | .hbm, ⟨41, _⟩ => ⟨S_, .i32⟩
  | .hbm, ⟨42, _⟩ => ⟨S128x2x4x64x128, .f32⟩
  | .hbm, ⟨43, _⟩ => ⟨S128x2x4x64x256, .f32⟩
  | .hbm, ⟨44, _⟩ => ⟨S128x2x4x64x128, .f32⟩
  | .hbm, ⟨45, _⟩ => ⟨S_, .i32⟩
  | .hbm, ⟨46, _⟩ => ⟨S2x4x128x256, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x4x64x128, .f32⟩
  | .hbm, ⟨54, _⟩ => ⟨S2x4x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x2x4x64x256, .f32⟩
  | .hbm, ⟨60, _⟩ => ⟨S2x4x64x256, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x4x64x128, .f32⟩
  | .hbm, ⟨66, _⟩ => ⟨S2x4x64x128, .f32⟩
  | .hbm, ⟨67, _⟩ => ⟨S_, .f32⟩
  | .hbm, ⟨68, _⟩ => ⟨S_, .f32⟩
  | .hbm, ⟨69, _⟩ => ⟨S2x4x64x128, .f32⟩
  | .hbm, ⟨70, _⟩ => ⟨S2x4x1x128, .f32⟩
  | .hbm, ⟨71, _⟩ => ⟨S2x4x128, .f32⟩
  | .hbm, ⟨72, _⟩ => ⟨S2x4x128, .f32⟩
  | .hbm, ⟨73, _⟩ => ⟨S2x4x128x1, .f32⟩
  | .hbm, ⟨74, _⟩ => ⟨S2x4x128x256, .f32⟩
  | .hbm, ⟨75, _⟩ => ⟨S2x4x128x256, .f32⟩
  | .hbm, ⟨76, _⟩ => ⟨S2x4x64x128, .f32⟩
  | .hbm, ⟨77, _⟩ => ⟨S2x4x64x128, .f32⟩
  | .hbm, ⟨78, _⟩ => ⟨S2x4x64x128, .f32⟩
  | .hbm, ⟨79, _⟩ => ⟨S2x4x64x128, .f32⟩
  | .hbm, ⟨80, _⟩ => ⟨S2x4x128x256, .f32⟩
  | .hbm, ⟨81, _⟩ => ⟨S2x4x128x256, .f32⟩
  | .hbm, ⟨82, _⟩ => ⟨S_, .i32⟩
  | .hbm, ⟨83, _⟩ => ⟨S_, .i32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev main_v17_3 : Ref sig .tc := ⟨.hbm, 45, rfl⟩
abbrev main_v17_4 : Ref sig .tc := ⟨.hbm, 46, rfl⟩
abbrev main_while0c_c_4 : Ref sig .tc := ⟨.hbm, 47, rfl⟩
abbrev main_while0c_v18 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v18 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v19 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v20 : Ref sig .tc := ⟨.hbm, 66, rfl⟩
abbrev main_while0b_call4_call0_cst : Ref sig .tc := ⟨.hbm, 67, rfl⟩
abbrev main_while0b_call4_call0_v0 : Ref sig .tc := ⟨.hbm, 68, rfl⟩
abbrev main_while0b_v21 : Ref sig .tc := ⟨.hbm, 69, rfl⟩
abbrev main_while0b_v22 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_v28 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_c_4 : Ref sig .tc := ⟨.hbm, 82, rfl⟩
abbrev main_while0b_v34 : Ref sig .tc := ⟨.hbm, 83, rfl⟩

abbrev nD : Nat := 1
abbrev τ : Topo := Topo.v7x

variable {F : FTy → Type} [FloatOps F]

abbrev main_while0_count : Scf.Loop 32 := ⟨0#32, 128#32, 1#32⟩
-- ==== Proof.Rows.lean ====
module

public import Idealize.ShloMosaic.Lib.Pipeline.ValueKit

@[expose] public section

/-! The arithmetic the projection and feed-forward calls share, one row at a time: the scaled root-mean-square row, its
    product with a column of weights, and the gated hidden value of the feed-forward. -/

noncomputable section

open Idealize.ShloMosaic

namespace Cert.Rows

/-- Entry `k` of the row `x` divided by its root mean square and multiplied by the gain `g`. -/
def normed (x g : Fin 1024 → EReal) (k : Fin 1024) : EReal :=
  x k * Ideal.rsqrt (Ideal.div (∑ l, x l * x l) (Ideal.ofBits FTy.f32 1149239296#32) + Ideal.ofBits FTy.f32 897988541#32) * g k

/-- The scaled row against one column of weights. -/
def proj (x g w : Fin 1024 → EReal) : EReal := ∑ k, normed x g k * w k

/-- One hidden value of the gated feed-forward: the gate column through the logistic, times the up column. -/
def gatedUp (x g wg wu : Fin 1024 → EReal) : EReal := proj x g wg * Ideal.logistic (proj x g wg) * proj x g wu

end Cert.Rows
end
-- ==== Proof.FfnValue.lean ====
module

public import proofs.«01_k».proof.Proof.Gen.FfnKernelIdeal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen Cert.Rows

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ t.val < 32 :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![t.val, 0] ∧ t.val < 32 :=
  (by decide +kernel : ∀ t : Fin grid1.N, _)

/-- The hidden array over the rows `x`, the gain row `g` and the two weight arrays. -/
abbrev HID (x : FVec Ideal S16384x1024 .f32) (g : FVec Ideal S1x1024 .f32) (wg wu : FVec Ideal S1024x2816 .bf16) : FVec Ideal S16384x2816 .bf16 :=
  fun i => gatedUp (fun k => x (ix2 (i 0) k)) (fun k => g (ix2 0 k)) (fun k => wg (ix2 k (i 1))) (fun k => wu (ix2 k (i 1)))

/-- The rows `y` plus the hidden array against the down weights. -/
abbrev DOWN (h : FVec Ideal S16384x2816 .bf16) (w : FVec Ideal S2816x1024 .bf16) (y : FVec Ideal S16384x1024 .f32) : FVec Ideal S16384x1024 .f32 :=
  fun i => y i + ∑ k : Fin 2816, h (ix2 (i 0) k) * w (ix2 k (i 1))

variable (V : (c : Dev nD) → (b : Ref sig .tc) → Buf (Elt Ideal) ((c : Thread nD τ).loc b))

theorem point0 (c : Dev nD) (t : Fin cfg0.N) (y : S512x2816.Idx) :
    out0_4 (F := Ideal) (iblk0 V c 0 t) (iblk0 V c 1 t) (iblk0 V c 2 t) (iblk0 V c 3 t) y
      = HID (V c main_v3) (V c main_v4) (V c main_v0) (V c main_v1) (((cfg0.win 4).blk t).view.emb y) := by
  unfold out0_4
  canon_tiles x h
  · pointwise [k0_pay1, k0_pay4, k0_pay2, HID, gatedUp, proj, normed]
    blk_point [iblk0, idx0 t]
  · pointwise [k0_pay3, k0_pay2, HID, gatedUp, proj, normed]
    blk_point [iblk0, idx0 t]

theorem final0 (c : Dev nD) : (dat0 V c).arrAt 4 cfg0.N = HID (V c main_v3) (V c main_v4) (V c main_v0) (V c main_v1) := by
  refine (dat0 V c).arrAt_eq_of_covers 4 _ (by decide +kernel) fun t _ y => ?_
  blk_simp
  rw [after0_4]
  exact point0 V c t y

theorem point1 (c : Dev nD) (t : Fin cfg1.N) (y : S512x1024.Idx) :
    k1_pay1 (F := Ideal) (iblk1 V c 2 t) (iblk1 V c 0 t) (iblk1 V c 1 t) y
      = DOWN (V c main_v7) (V c main_v2) (V c main_v8) (((cfg1.win 3).blk t).view.emb y) := by
  pointwise [k1_pay1, DOWN]
  blk_point [iblk1, idx1 t]

theorem final1 (c : Dev nD) : (dat1 V c).arrAt 3 cfg1.N = DOWN (V c main_v7) (V c main_v2) (V c main_v8) := by
  refine (dat1 V c).arrAt_eq_of_covers 3 _ (by decide +kernel) fun t _ y => ?_
  blk_simp
  rw [after1_3]; frame_out
  exact point1 V c t y

end Cert.FfnKernelIdeal.Value
end
-- ==== Proof.FfnRun.lean ====
module

public import proofs.«01_k».proof.Proof.FfnValue
public import proofs.«01_k».proof.Proof.Gen.FfnReferenceIdeal
public import Idealize.ShloMosaic.Lib.StableHlo.Run

@[expose] public section

set_option maxRecDepth 16384

noncomputable section

namespace Cert.FfnKernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.FfnKernelIdeal Cert.FfnKernelIdeal.Gen Cert.Rows

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch read at every buffer that outlives it: each holds what the last boundary says. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

theorem V1_v0 (c : Dev nD) : V1 m ρ c main_v0 = (truncf .bf16 (m ((c : Thread nD τ).loc main_arg2)) bitsLt_bf16_f32 : FVec Ideal S1024x2816 .bf16) := by
  change StableHlo.after hostOps0 (W0 m ρ c) (Proc.devRef .tc main_v0) = _; after_results
theorem V1_v1 (c : Dev nD) : V1 m ρ c main_v1 = (truncf .bf16 (m ((c : Thread nD τ).loc main_arg3)) bitsLt_bf16_f32 : FVec Ideal S1024x2816 .bf16) := by
  change StableHlo.after hostOps0 (W0 m ρ c) (Proc.devRef .tc main_v1) = _; after_results
theorem V1_v2 (c : Dev nD) : V1 m ρ c main_v2 = (truncf .bf16 (m ((c : Thread nD τ).loc main_arg4)) bitsLt_bf16_f32 : FVec Ideal S2816x1024 .bf16) := by
  change StableHlo.after hostOps0 (W0 m ρ c) (Proc.devRef .tc main_v2) = _; after_results
theorem V1_v3 (c : Dev nD) : V1 m ρ c main_v3 = (shapeCast S16384x1024 (m ((c : Thread nD τ).loc main_arg0)) shapeCasts_S2x8192x1024_S16384x1024 : FVec Ideal S16384x1024 .f32) := by
  change StableHlo.after hostOps0 (W0 m ρ c) (Proc.devRef .tc main_v3) = _; after_results; rfl
theorem V1_v4 (c : Dev nD) : V1 m ρ c main_v4 = (shapeCast S1x1024 (m ((c : Thread nD τ).loc main_arg1)) shapeCasts_S1024_S1x1024 : FVec Ideal S1x1024 .f32) := by
  change StableHlo.after hostOps0 (W0 m ρ c) (Proc.devRef .tc main_v4) = _; after_results; rfl

theorem W2_v5 (c : Dev nD) : W2 m ρ c (Proc.devRef .tc main_v5) = HID (V1 m ρ c main_v3) (V1 m ρ c main_v4) (V1 m ρ c main_v0) (V1 m ρ c main_v1) :=
  (W2_arr m ρ c 4).trans (final0 (V1 m ρ) c)

theorem V3_v7 (c : Dev nD) : V3 m ρ c main_v7
    = (shapeCast S16384x2816 (shapeCast S2x8192x2816 (W2 m ρ c (Proc.devRef .tc main_v5)) shapeCasts_S16384x2816_S2x8192x2816) shapeCasts_S2x8192x2816_S16384x2816 : FVec Ideal S16384x2816 .bf16) := by
  change StableHlo.after hostOps1 (W2 m ρ c) (Proc.devRef .tc main_v7) = _; after_results; rfl
theorem V3_v8 (c : Dev nD) : V3 m ρ c main_v8 = (shapeCast S16384x1024 (m ((c : Thread nD τ).loc main_arg0)) shapeCasts_S2x8192x1024_S16384x1024 : FVec Ideal S16384x1024 .f32) := by
  rw [← W2_args m ρ c main_arg0 (by decide)]
  change StableHlo.after hostOps1 (W2 m ρ c) (Proc.devRef .tc main_v8) = _; after_results; rfl
theorem V3_v2 (c : Dev nD) : V3 m ρ c main_v2 = V1 m ρ c main_v2 :=
  (W3_of m ρ c main_v2 (by decide)).trans (W2_of m ρ c main_v2 (by decide))

theorem W4_v9 (c : Dev nD) : W4 m ρ c (Proc.devRef .tc main_v9) = DOWN (V3 m ρ c main_v7) (V3 m ρ c main_v2) (V3 m ρ c main_v8) :=
  (W4_arr m ρ c 3).trans (final1 (V3 m ρ) c)

theorem W5_v10 (c : Dev nD) : W5 m ρ c (Proc.devRef .tc main_v10)
    = (shapeCast S2x8192x1024 (W4 m ρ c (Proc.devRef .tc main_v9)) shapeCasts_S16384x1024_S2x8192x1024 : FVec Ideal S2x8192x1024 .f32) := by
  after_results; rfl

/-- The call's result over its arguments. -/
abbrev OUT (y : FVec Ideal S2x8192x1024 .f32) (g : FVec Ideal S1024 .f32) (wg wu : FVec Ideal S1024x2816 .f32) (wd : FVec Ideal S2816x1024 .f32) :
    FVec Ideal S2x8192x1024 .f32 :=
  fun i => y i + ∑ k : Fin 2816, gatedUp (fun l => y (ix3 (i 0) (i 1) l)) (fun l => g (ix1 l)) (fun l => wg (ix2 l k)) (fun l => wu (ix2 l k)) * wd (ix2 k (i 2))

theorem flat_eq (y : FVec Ideal S2x8192x1024 .f32) (g : FVec Ideal S1024 .f32) (wg wu : FVec Ideal S1024x2816 .f32) (wd : FVec Ideal S2816x1024 .f32) :
    (shapeCast S2x8192x1024 (DOWN (shapeCast S16384x2816 (shapeCast S2x8192x2816
        (HID (shapeCast S16384x1024 y shapeCasts_S2x8192x1024_S16384x1024) (shapeCast S1x1024 g shapeCasts_S1024_S1x1024)
          (truncf .bf16 wg bitsLt_bf16_f32) (truncf .bf16 wu bitsLt_bf16_f32))
        shapeCasts_S16384x2816_S2x8192x2816) shapeCasts_S2x8192x2816_S16384x2816)
      (truncf .bf16 wd bitsLt_bf16_f32) (shapeCast S16384x1024 y shapeCasts_S2x8192x1024_S16384x1024))
      shapeCasts_S16384x1024_S2x8192x1024 : FVec Ideal S2x8192x1024 .f32) = OUT y g wg wu wd := by
  funext j
  pointwise
  pointwise [DOWN, HID, OUT, gatedUp, proj, normed]

theorem out_eq (c : Dev nD) : W5 m ρ c (Proc.devRef .tc main_v10)
    = OUT (m ((c : Thread nD τ).loc main_arg0)) (m ((c : Thread nD τ).loc main_arg1)) (m ((c : Thread nD τ).loc main_arg2)) (m ((c : Thread nD τ).loc main_arg3)) (m ((c : Thread nD τ).loc main_arg4)) := by
  rw [W5_v10, W4_v9, V3_v7, V3_v2, V3_v8, W2_v5, V1_v0, V1_v1, V1_v2, V1_v3, V1_v4]
  exact flat_eq ..

end Cert.FfnKernelIdeal.Value
end
-- ==== Proof.FfnRef.lean ====
module

public import proofs.«01_k».proof.Proof.FfnRun
public import proofs.«01_k».proof.Proof.Gen.FfnReferenceIdeal.Run

@[expose] public section

set_option maxRecDepth 16384

noncomputable section

open Idealize.ShloMosaic Idealize.ShloMosaic.TcCoe Idealize.SL.Sem

namespace Cert.FfnReferenceIdeal.Value
open Cert.FfnReferenceIdeal Cert.FfnReferenceIdeal.Gen Cert.Rows

/-- The reference's run, its result in the rows' arithmetic. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Cert.FfnKernelIdeal.Value.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  generalize m ((c.tc : Thread nD τ).loc main_arg0) = y
  generalize m ((c.tc : Thread nD τ).loc main_arg1) = g
  generalize m ((c.tc : Thread nD τ).loc main_arg2) = wg
  generalize m ((c.tc : Thread nD τ).loc main_arg3) = wu
  generalize m ((c.tc : Thread nD τ).loc main_arg4) = wd
  funext j
  pointwise [Cert.FfnKernelIdeal.Value.OUT, gatedUp, proj, normed]
  rfl
end Cert.FfnReferenceIdeal.Value
end
-- ==== Proof.FfnClaim.lean ====
module

public import proofs.«01_k».proof.Defs
public import proofs.«01_k».proof.Proof.FfnRef

@[expose] public section

noncomputable section

open Idealize.ShloMosaic Idealize.ShloMosaic.TcCoe Idealize.SL.Sem

namespace Cert.Proof

theorem ffn_reference_frame : Cert.quiescent_FfnReferenceIdeal (hFfnReferenceIdeal := Cert.FfnReferenceIdeal.Gen.facts) := fun m g _ =>
  (θ_run _ _ _).mono (fun r h => ⟨fun c => (h c).2, sem_eq_zero_of_no_sems (by decide) r.2⟩) (Cert.FfnReferenceIdeal.Value.run m g)

open Cert.FfnKernelIdeal.Gen in
theorem ffn : Cert.algebraic_FfnKernelIdeal_FfnReferenceIdeal (hFfnKernelIdeal := Cert.FfnKernelIdeal.Gen.facts) (hFfnReferenceIdeal := Cert.FfnReferenceIdeal.Gen.facts) := by
  intro m g m' g' _ agree
  refine ⟨fun c => Cert.FfnKernelIdeal.Value.OUT (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)), ?_, ?_⟩
  rotate_left
  · exact (θ_run _ _ _).mono (fun r h c => by
      obtain ⟨h0, h1, h2, h3, h4⟩ := agree c
      refine ⟨(h c).1.trans ?_, (h c).2⟩; rw [h0, h1, h2, h3, h4]) (Cert.FfnReferenceIdeal.Value.run_out m' g')
  · exact (θ_run _ _ _).mono (fun r h c =>
      ⟨(h c _ (mem_uc _ (by decide))).trans (Cert.FfnKernelIdeal.Value.out_eq m g c),
       (h c _ (mem_uc _ (by decide))).trans (W5_main_arg0 m g c), (h c _ (mem_uc _ (by decide))).trans (W5_main_arg1 m g c),
       (h c _ (mem_uc _ (by decide))).trans (W5_main_arg2 m g c), (h c _ (mem_uc _ (by decide))).trans (W5_main_arg3 m g c),
       (h c _ (mem_uc _ (by decide))).trans (W5_main_arg4 m g c)⟩) (Cert.FfnKernelIdeal.Value.run_all m g)

end Cert.Proof
end
-- ==== Proof.FfnSampleValue.lean ====
module

public import proofs.«01_k».proof.Proof.Gen.FfnSampleKernelIdeal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FfnSampleKernelIdeal.Value

open Cert.FfnSampleKernelIdeal Cert.FfnSampleKernelIdeal.Gen Cert.Rows

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ t.val < 1 :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![t.val, 0] ∧ t.val < 1 :=
  (by decide +kernel : ∀ t : Fin grid1.N, _)

/-- The hidden array over the rows `x`, the gain row `g` and the two weight arrays. -/
abbrev HID (x : FVec Ideal S256x1024 .f32) (g : FVec Ideal S1x1024 .f32) (wg wu : FVec Ideal S1024x2816 .bf16) : FVec Ideal S256x2816 .bf16 :=
  fun i => gatedUp (fun k => x (ix2 (i 0) k)) (fun k => g (ix2 0 k)) (fun k => wg (ix2 k (i 1))) (fun k => wu (ix2 k (i 1)))

/-- The rows `y` plus the hidden array against the down weights. -/
abbrev DOWN (h : FVec Ideal S256x2816 .bf16) (w : FVec Ideal S2816x1024 .bf16) (y : FVec Ideal S256x1024 .f32) : FVec Ideal S256x1024 .f32 :=
  fun i => y i + ∑ k : Fin 2816, h (ix2 (i 0) k) * w (ix2 k (i 1))

variable (V : (c : Dev nD) → (b : Ref sig .tc) → Buf (Elt Ideal) ((c : Thread nD τ).loc b))

theorem point0 (c : Dev nD) (t : Fin cfg0.N) (y : S256x2816.Idx) :
    out0_4 (F := Ideal) (iblk0 V c 0 t) (iblk0 V c 1 t) (iblk0 V c 2 t) (iblk0 V c 3 t) y
      = HID (V c main_v3) (V c main_v4) (V c main_v0) (V c main_v1) (((cfg0.win 4).blk t).view.emb y) := by
  unfold out0_4
  canon_tiles x h
  · pointwise [k0_pay1, k0_pay4, k0_pay2, HID, gatedUp, proj, normed]
    blk_point [iblk0, idx0 t]
  · pointwise [k0_pay3, k0_pay2, HID, gatedUp, proj, normed]
    blk_point [iblk0, idx0 t]

theorem final0 (c : Dev nD) : (dat0 V c).arrAt 4 cfg0.N = HID (V c main_v3) (V c main_v4) (V c main_v0) (V c main_v1) := by
  refine (dat0 V c).arrAt_eq_of_covers 4 _ (by decide +kernel) fun t _ y => ?_
  blk_simp
  rw [after0_4]
  exact point0 V c t y

theorem point1 (c : Dev nD) (t : Fin cfg1.N) (y : S256x1024.Idx) :
    k1_pay1 (F := Ideal) (iblk1 V c 2 t) (iblk1 V c 0 t) (iblk1 V c 1 t) y
      = DOWN (V c main_v7) (V c main_v2) (V c main_v8) (((cfg1.win 3).blk t).view.emb y) := by
  pointwise [k1_pay1, DOWN]
  blk_point [iblk1, idx1 t]

theorem final1 (c : Dev nD) : (dat1 V c).arrAt 3 cfg1.N = DOWN (V c main_v7) (V c main_v2) (V c main_v8) := by
  refine (dat1 V c).arrAt_eq_of_covers 3 _ (by decide +kernel) fun t _ y => ?_
  blk_simp
  rw [after1_3]; frame_out
  exact point1 V c t y

end Cert.FfnSampleKernelIdeal.Value
end
-- ==== Proof.FfnSampleRun.lean ====
module

public import proofs.«01_k».proof.Proof.FfnSampleValue
public import proofs.«01_k».proof.Proof.Gen.FfnSampleReferenceIdeal
public import Idealize.ShloMosaic.Lib.StableHlo.Run

@[expose] public section

set_option maxRecDepth 16384

noncomputable section

namespace Cert.FfnSampleKernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.FfnSampleKernelIdeal Cert.FfnSampleKernelIdeal.Gen Cert.Rows

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch read at every buffer that outlives it: each holds what the last boundary says. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

theorem V1_v0 (c : Dev nD) : V1 m ρ c main_v0 = (truncf .bf16 (m ((c : Thread nD τ).loc main_arg2)) bitsLt_bf16_f32 : FVec Ideal S1024x2816 .bf16) := by
  change StableHlo.after hostOps0 (W0 m ρ c) (Proc.devRef .tc main_v0) = _; after_results
theorem V1_v1 (c : Dev nD) : V1 m ρ c main_v1 = (truncf .bf16 (m ((c : Thread nD τ).loc main_arg3)) bitsLt_bf16_f32 : FVec Ideal S1024x2816 .bf16) := by
  change StableHlo.after hostOps0 (W0 m ρ c) (Proc.devRef .tc main_v1) = _; after_results
theorem V1_v2 (c : Dev nD) : V1 m ρ c main_v2 = (truncf .bf16 (m ((c : Thread nD τ).loc main_arg4)) bitsLt_bf16_f32 : FVec Ideal S2816x1024 .bf16) := by
  change StableHlo.after hostOps0 (W0 m ρ c) (Proc.devRef .tc main_v2) = _; after_results
theorem V1_v3 (c : Dev nD) : V1 m ρ c main_v3 = (shapeCast S256x1024 (m ((c : Thread nD τ).loc main_arg0)) shapeCasts_S32x8x1024_S256x1024 : FVec Ideal S256x1024 .f32) := by
  change StableHlo.after hostOps0 (W0 m ρ c) (Proc.devRef .tc main_v3) = _; after_results; rfl
theorem V1_v4 (c : Dev nD) : V1 m ρ c main_v4 = (shapeCast S1x1024 (m ((c : Thread nD τ).loc main_arg1)) shapeCasts_S1024_S1x1024 : FVec Ideal S1x1024 .f32) := by
  change StableHlo.after hostOps0 (W0 m ρ c) (Proc.devRef .tc main_v4) = _; after_results; rfl

theorem W2_v5 (c : Dev nD) : W2 m ρ c (Proc.devRef .tc main_v5) = HID (V1 m ρ c main_v3) (V1 m ρ c main_v4) (V1 m ρ c main_v0) (V1 m ρ c main_v1) :=
  (W2_arr m ρ c 4).trans (final0 (V1 m ρ) c)

theorem V3_v7 (c : Dev nD) : V3 m ρ c main_v7
    = (shapeCast S256x2816 (shapeCast S32x8x2816 (W2 m ρ c (Proc.devRef .tc main_v5)) shapeCasts_S256x2816_S32x8x2816) shapeCasts_S32x8x2816_S256x2816 : FVec Ideal S256x2816 .bf16) := by
  change StableHlo.after hostOps1 (W2 m ρ c) (Proc.devRef .tc main_v7) = _; after_results; rfl
theorem V3_v8 (c : Dev nD) : V3 m ρ c main_v8 = (shapeCast S256x1024 (m ((c : Thread nD τ).loc main_arg0)) shapeCasts_S32x8x1024_S256x1024 : FVec Ideal S256x1024 .f32) := by
  rw [← W2_args m ρ c main_arg0 (by decide)]
  change StableHlo.after hostOps1 (W2 m ρ c) (Proc.devRef .tc main_v8) = _; after_results; rfl
theorem V3_v2 (c : Dev nD) : V3 m ρ c main_v2 = V1 m ρ c main_v2 :=
  (W3_of m ρ c main_v2 (by decide)).trans (W2_of m ρ c main_v2 (by decide))

theorem W4_v9 (c : Dev nD) : W4 m ρ c (Proc.devRef .tc main_v9) = DOWN (V3 m ρ c main_v7) (V3 m ρ c main_v2) (V3 m ρ c main_v8) :=
  (W4_arr m ρ c 3).trans (final1 (V3 m ρ) c)

theorem W5_v10 (c : Dev nD) : W5 m ρ c (Proc.devRef .tc main_v10)
    = (shapeCast S32x8x1024 (W4 m ρ c (Proc.devRef .tc main_v9)) shapeCasts_S256x1024_S32x8x1024 : FVec Ideal S32x8x1024 .f32) := by
  after_results; rfl

/-- The call's result over its arguments. -/
abbrev OUT (y : FVec Ideal S32x8x1024 .f32) (g : FVec Ideal S1024 .f32) (wg wu : FVec Ideal S1024x2816 .f32) (wd : FVec Ideal S2816x1024 .f32) :
    FVec Ideal S32x8x1024 .f32 :=
  fun i => y i + ∑ k : Fin 2816, gatedUp (fun l => y (ix3 (i 0) (i 1) l)) (fun l => g (ix1 l)) (fun l => wg (ix2 l k)) (fun l => wu (ix2 l k)) * wd (ix2 k (i 2))

theorem flat_eq (y : FVec Ideal S32x8x1024 .f32) (g : FVec Ideal S1024 .f32) (wg wu : FVec Ideal S1024x2816 .f32) (wd : FVec Ideal S2816x1024 .f32) :
    (shapeCast S32x8x1024 (DOWN (shapeCast S256x2816 (shapeCast S32x8x2816
        (HID (shapeCast S256x1024 y shapeCasts_S32x8x1024_S256x1024) (shapeCast S1x1024 g shapeCasts_S1024_S1x1024)
          (truncf .bf16 wg bitsLt_bf16_f32) (truncf .bf16 wu bitsLt_bf16_f32))
        shapeCasts_S256x2816_S32x8x2816) shapeCasts_S32x8x2816_S256x2816)
      (truncf .bf16 wd bitsLt_bf16_f32) (shapeCast S256x1024 y shapeCasts_S32x8x1024_S256x1024))
      shapeCasts_S256x1024_S32x8x1024 : FVec Ideal S32x8x1024 .f32) = OUT y g wg wu wd := by
  funext j
  pointwise
  pointwise [DOWN, HID, OUT, gatedUp, proj, normed]

theorem out_eq (c : Dev nD) : W5 m ρ c (Proc.devRef .tc main_v10)
    = OUT (m ((c : Thread nD τ).loc main_arg0)) (m ((c : Thread nD τ).loc main_arg1)) (m ((c : Thread nD τ).loc main_arg2)) (m ((c : Thread nD τ).loc main_arg3)) (m ((c : Thread nD τ).loc main_arg4)) := by
  rw [W5_v10, W4_v9, V3_v7, V3_v2, V3_v8, W2_v5, V1_v0, V1_v1, V1_v2, V1_v3, V1_v4]
  exact flat_eq ..

end Cert.FfnSampleKernelIdeal.Value
end
-- ==== Proof.FfnSampleRef.lean ====
module

public import proofs.«01_k».proof.Proof.FfnSampleRun
public import proofs.«01_k».proof.Proof.Gen.FfnSampleReferenceIdeal.Run

@[expose] public section

set_option maxRecDepth 16384

noncomputable section

open Idealize.ShloMosaic Idealize.ShloMosaic.TcCoe Idealize.SL.Sem

namespace Cert.FfnSampleReferenceIdeal.Value
open Cert.FfnSampleReferenceIdeal Cert.FfnSampleReferenceIdeal.Gen Cert.Rows

/-- The reference's run, its result in the rows' arithmetic. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Cert.FfnSampleKernelIdeal.Value.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  generalize m ((c.tc : Thread nD τ).loc main_arg0) = y
  generalize m ((c.tc : Thread nD τ).loc main_arg1) = g
  generalize m ((c.tc : Thread nD τ).loc main_arg2) = wg
  generalize m ((c.tc : Thread nD τ).loc main_arg3) = wu
  generalize m ((c.tc : Thread nD τ).loc main_arg4) = wd
  funext j
  pointwise [Cert.FfnSampleKernelIdeal.Value.OUT, gatedUp, proj, normed]
  rfl
end Cert.FfnSampleReferenceIdeal.Value
end
-- ==== Proof.FfnSampleClaim.lean ====
module

public import proofs.«01_k».proof.Defs
public import proofs.«01_k».proof.Proof.FfnSampleRef

@[expose] public section

noncomputable section

open Idealize.ShloMosaic Idealize.ShloMosaic.TcCoe Idealize.SL.Sem

namespace Cert.Proof

theorem ffn_sample_reference_frame : Cert.quiescent_FfnSampleReferenceIdeal (hFfnSampleReferenceIdeal := Cert.FfnSampleReferenceIdeal.Gen.facts) := fun m g _ =>
  (θ_run _ _ _).mono (fun r h => ⟨fun c => (h c).2, sem_eq_zero_of_no_sems (by decide) r.2⟩) (Cert.FfnSampleReferenceIdeal.Value.run m g)

open Cert.FfnSampleKernelIdeal.Gen in
theorem ffn_sample : Cert.algebraic_FfnSampleKernelIdeal_FfnSampleReferenceIdeal (hFfnSampleKernelIdeal := Cert.FfnSampleKernelIdeal.Gen.facts) (hFfnSampleReferenceIdeal := Cert.FfnSampleReferenceIdeal.Gen.facts) := by
  intro m g m' g' _ agree
  refine ⟨fun c => Cert.FfnSampleKernelIdeal.Value.OUT (m ((c.tc : Thread Cert.FfnSampleKernelIdeal.nD Cert.FfnSampleKernelIdeal.τ).loc Cert.FfnSampleKernelIdeal.main_arg0)) (m ((c.tc : Thread Cert.FfnSampleKernelIdeal.nD Cert.FfnSampleKernelIdeal.τ).loc Cert.FfnSampleKernelIdeal.main_arg1)) (m ((c.tc : Thread Cert.FfnSampleKernelIdeal.nD Cert.FfnSampleKernelIdeal.τ).loc Cert.FfnSampleKernelIdeal.main_arg2)) (m ((c.tc : Thread Cert.FfnSampleKernelIdeal.nD Cert.FfnSampleKernelIdeal.τ).loc Cert.FfnSampleKernelIdeal.main_arg3)) (m ((c.tc : Thread Cert.FfnSampleKernelIdeal.nD Cert.FfnSampleKernelIdeal.τ).loc Cert.FfnSampleKernelIdeal.main_arg4)), ?_, ?_⟩
  rotate_left
  · exact (θ_run _ _ _).mono (fun r h c => by
      obtain ⟨h0, h1, h2, h3, h4⟩ := agree c
      refine ⟨(h c).1.trans ?_, (h c).2⟩; rw [h0, h1, h2, h3, h4]) (Cert.FfnSampleReferenceIdeal.Value.run_out m' g')
  · exact (θ_run _ _ _).mono (fun r h c =>
      ⟨(h c _ (mem_uc _ (by decide))).trans (Cert.FfnSampleKernelIdeal.Value.out_eq m g c),
       (h c _ (mem_uc _ (by decide))).trans (W5_main_arg0 m g c), (h c _ (mem_uc _ (by decide))).trans (W5_main_arg1 m g c),
       (h c _ (mem_uc _ (by decide))).trans (W5_main_arg2 m g c), (h c _ (mem_uc _ (by decide))).trans (W5_main_arg3 m g c),
       (h c _ (mem_uc _ (by decide))).trans (W5_main_arg4 m g c)⟩) (Cert.FfnSampleKernelIdeal.Value.run_all m g)

end Cert.Proof
end
-- ==== Proof.EvenInValue.lean ====
module

public import proofs.«01_k».proof.Proof.Gen.EvenInKernelIdeal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.EvenInKernelIdeal.Value

open Cert.EvenInKernelIdeal Cert.EvenInKernelIdeal.Gen Cert.Rows

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 32 :=
  (by decide +kernel : ∀ t : Fin grid0.N, _)

/-- The first 1,408 columns of the projected rows. -/
abbrev LOW (x : FVec Ideal S16384x1024 .f32) (g : FVec Ideal S1x1024 .f32) (w : FVec Ideal S1024x3200 .bf16) : FVec Ideal S16384x1408 .f32 :=
  fun i => proj (fun k => x (ix2 (i 0) k)) (fun k => g (ix2 0 k)) (fun k => w (ix2 k ⟨(i 1).val, by have : (i 1).val < 1408 := (i 1).isLt; omega⟩))

/-- The columns after them. -/
abbrev HIGH (x : FVec Ideal S16384x1024 .f32) (g : FVec Ideal S1x1024 .f32) (w : FVec Ideal S1024x3200 .bf16) : FVec Ideal S16384x1792 .f32 :=
  fun i => proj (fun k => x (ix2 (i 0) k)) (fun k => g (ix2 0 k)) (fun k => w (ix2 k ⟨1408 + (i 1).val, by have : (i 1).val < 1792 := (i 1).isLt; omega⟩))

/-- The weights as the kernel is given them: the first 1,304 columns, zero columns up to 1,408, then the rest. -/
abbrev PADDED (w : FVec Ideal S1024x3096 .f32) : FVec Ideal S1024x3200 .bf16 :=
  truncf .bf16 (concatenate S1024x3200 1 [⟨S1024x1408, pad S1024x1408 ![0, 0] ![0, 104] ![0, 0] (extractStridedSlice S1024x1304 ![0, 0] w slices_S1024x3096_S1024x1304_0_0) (sitofp .f32 (constantI S_ 32 0#32)) pads_S1024x1304_S1024x1408_000_01040 h_S_⟩,
    ⟨S1024x1792, extractStridedSlice S1024x1792 ![0, 1304] w slices_S1024x3096_S1024x1792_0_1304⟩] concatenates_S1024x1408_S1024x1792_S1024x3200_d1) bitsLt_bf16_f32

/-- The first columns of the given weights are the weights' own. -/
theorem padded_low (w : FVec Ideal S1024x3096 .f32) (l : Fin 1024) (j : Nat) (h : j < 1304) :
    PADDED w (ix2 l ⟨j, by omega⟩) = w (ix2 l ⟨j, by omega⟩) := by
  pointwise [PADDED]
  rw [dif_pos (by omega), dif_pos h]

/-- The columns from 1,408 on are the weights' columns from 1,304 on. -/
theorem padded_high (w : FVec Ideal S1024x3096 .f32) (l : Fin 1024) (j : Nat) (h : j < 1792) :
    PADDED w (ix2 l ⟨1408 + j, by omega⟩) = w (ix2 l ⟨1304 + j, by omega⟩) := by
  pointwise [PADDED]

/-- The host's slice of the low columns, entry by entry. -/
theorem low_tail (y : FVec Ideal S2x8192x1024 .f32) (g : FVec Ideal S1024 .f32) (w : FVec Ideal S1024x3096 .f32) (i : S2x8192x1304.Idx) :
    extractStridedSlice S2x8192x1304 ![0, 0, 0] (shapeCast S2x8192x1408 (LOW (shapeCast S16384x1024 y shapeCasts_S2x8192x1024_S16384x1024) (shapeCast S1x1024 g shapeCasts_S1024_S1x1024) (PADDED w)) shapeCasts_S16384x1408_S2x8192x1408) slices_S2x8192x1408_S2x8192x1304_0_0_0 i
      = proj (fun k => y (ix3 (i 0) (i 1) k)) (fun k => g (ix1 k)) (fun k => w (ix2 k ⟨(i 2).val, by have : (i 2).val < 1304 := (i 2).isLt; omega⟩)) := by
  simp only [← padded_low w _ (i 2).val (i 2).isLt]
  generalize PADDED w = W
  pointwise [LOW]

/-- The host's view of the high columns, entry by entry. -/
theorem high_tail (y : FVec Ideal S2x8192x1024 .f32) (g : FVec Ideal S1024 .f32) (w : FVec Ideal S1024x3096 .f32) (i : S2x8192x1792.Idx) :
    shapeCast S2x8192x1792 (HIGH (shapeCast S16384x1024 y shapeCasts_S2x8192x1024_S16384x1024) (shapeCast S1x1024 g shapeCasts_S1024_S1x1024) (PADDED w)) shapeCasts_S16384x1792_S2x8192x1792 i
      = proj (fun k => y (ix3 (i 0) (i 1) k)) (fun k => g (ix1 k)) (fun k => w (ix2 k ⟨1304 + (i 2).val, by have : (i 2).val < 1792 := (i 2).isLt; omega⟩)) := by
  simp only [← padded_high w _ (i 2).val (i 2).isLt]
  generalize PADDED w = W
  pointwise [HIGH]

variable (m : (ℓ : Loc nD τ sig) → Buf (Elt Ideal) ℓ)

theorem point3 (c : Dev nD) (t : Fin cfg0.N) (y : S512x1408.Idx) :
    out0_3 (F := Ideal) (iblk m c 0 t) (iblk m c 1 t) (iblk m c 2 t) y
      = LOW (V m c main_v5) (V m c main_v6) (V m c main_v4) (((cfg0.win 3).blk t).view.emb y) := by
  unfold out0_3
  canon_tiles x h
  pointwise [k0_pay2, k0_pay1, LOW, proj, normed]
  blk_point [iblk, idx t]

theorem point4 (c : Dev nD) (t : Fin cfg0.N) (y : S512x1792.Idx) :
    out0_4 (F := Ideal) (iblk m c 0 t) (iblk m c 1 t) (iblk m c 2 t) y
      = HIGH (V m c main_v5) (V m c main_v6) (V m c main_v4) (((cfg0.win 4).blk t).view.emb y) := by
  unfold out0_4
  canon_tiles x h
  pointwise [k0_pay3, k0_pay1, HIGH, proj, normed]
  blk_point [iblk, idx t]

theorem final3 (c : Dev nD) : (dats m 0 c).arrAt 3 cfg0.N = LOW (V m c main_v5) (V m c main_v6) (V m c main_v4) := by
  refine (dats m 0 c).arrAt_eq_of_covers 3 _ (by decide +kernel) fun t _ y => ?_
  blk_simp
  rw [after0_3]
  exact point3 m c t y

theorem final4 (c : Dev nD) : (dats m 0 c).arrAt 4 cfg0.N = HIGH (V m c main_v5) (V m c main_v6) (V m c main_v4) := by
  refine (dats m 0 c).arrAt_eq_of_covers 4 _ (by decide +kernel) fun t _ y => ?_
  blk_simp
  rw [after0_4]
  exact point4 m c t y

theorem rows_eq (c : Dev nD) : V m c main_v5 = shapeCast S16384x1024 (m ((c : Thread nD τ).loc main_arg0)) shapeCasts_S2x8192x1024_S16384x1024 := by
  entry_read
  simp only [hostOps0, hostOps0_1, hostOps0_2, List.flatten_cons, List.flatten_nil, List.append_nil, List.cons_append, List.nil_append]
  after_results
  rfl

theorem gain_eq (c : Dev nD) : V m c main_v6 = shapeCast S1x1024 (m ((c : Thread nD τ).loc main_arg1)) shapeCasts_S1024_S1x1024 := by
  entry_read
  simp only [hostOps0, hostOps0_1, hostOps0_2, List.flatten_cons, List.flatten_nil, List.append_nil, List.cons_append, List.nil_append]
  after_results
  rfl

theorem weights_eq (c : Dev nD) : V m c main_v4 = PADDED (m ((c : Thread nD τ).loc main_arg2)) := by
  entry_read
  simp only [hostOps0, hostOps0_1, hostOps0_2, List.flatten_cons, List.flatten_nil, List.append_nil, List.cons_append, List.nil_append]
  after_results
  rfl

/-- What the region leaves in its first result. -/
theorem arr3 (c : Dev nD) : Pipeline.withArrays (cfgs 0).spec c (V0 m c) (fun w => (dats m 0 c).arrAt w (cfgs 0).N) (Proc.devRef .tc main_v7_0)
    = LOW (V m c main_v5) (V m c main_v6) (V m c main_v4) :=
  (Pipeline.withArrays_arr spec0 launch0.win.arr_inj c _ _ 3).trans (final3 m c)

/-- What the region leaves in its second result. -/
theorem arr4 (c : Dev nD) : Pipeline.withArrays (cfgs 0).spec c (V0 m c) (fun w => (dats m 0 c).arrAt w (cfgs 0).N) (Proc.devRef .tc main_v7_1)
    = HIGH (V m c main_v5) (V m c main_v6) (V m c main_v4) :=
  (Pipeline.withArrays_arr spec0 launch0.win.arr_inj c _ _ 4).trans (final4 m c)

theorem tail_v74 (c : Dev nD) : Pipeline.afterTail₀ cfgs (dats m) 0 (V0 m) [hostOps1] c main_v74
    = extractStridedSlice S2x8192x1304 ![0, 0, 0] (shapeCast S2x8192x1408 (LOW (V m c main_v5) (V m c main_v6) (V m c main_v4)) shapeCasts_S16384x1408_S2x8192x1408) slices_S2x8192x1408_S2x8192x1304_0_0_0 := by
  unfold Pipeline.afterTail₀
  simp only [hostOps1, List.flatten_cons, List.flatten_nil, List.append_nil, List.cons_append, List.nil_append]
  after_results
  rw [arr3]
  rfl

theorem tail_v9 (c : Dev nD) : Pipeline.afterTail₀ cfgs (dats m) 0 (V0 m) [hostOps1] c main_v9
    = shapeCast S2x8192x1792 (HIGH (V m c main_v5) (V m c main_v6) (V m c main_v4)) shapeCasts_S16384x1792_S2x8192x1792 := by
  unfold Pipeline.afterTail₀
  simp only [hostOps1, List.flatten_cons, List.flatten_nil, List.append_nil, List.cons_append, List.nil_append]
  after_results
  rw [arr4]
  rfl

theorem tail_v77 (c : Dev nD) : Pipeline.afterTail₀ cfgs (dats m) 0 (V0 m) [hostOps1] c main_v77
    = shapeCast S2x1792 (extractStridedSlice S2x1x1792 ![0, 8191, 0] (shapeCast S2x8192x1792 (HIGH (V m c main_v5) (V m c main_v6) (V m c main_v4)) shapeCasts_S16384x1792_S2x8192x1792) slices_S2x8192x1792_S2x1x1792_0_8191_0) shapeCasts_S2x1x1792_S2x1792 := by
  unfold Pipeline.afterTail₀
  simp only [hostOps1, List.flatten_cons, List.flatten_nil, List.append_nil, List.cons_append, List.nil_append]
  after_results
  rw [arr4]
  rfl

end Cert.EvenInKernelIdeal.Value
end
-- ==== Proof.EvenInClaim.lean ====
module

public import proofs.«01_k».proof.Defs
public import proofs.«01_k».proof.Proof.EvenInValue
public import proofs.«01_k».proof.Proof.Gen.EvenInReferenceIdeal.Run

@[expose] public section

set_option maxRecDepth 16384

noncomputable section

open Idealize.ShloMosaic Idealize.ShloMosaic.TcCoe Idealize.SL.Sem
open Cert.Rows

namespace Cert.Proof

theorem even_in_reference_frame : Cert.quiescent_EvenInReferenceIdeal (hEvenInReferenceIdeal := Cert.EvenInReferenceIdeal.Gen.facts) := fun m g _ =>
  (θ_run _ _ _).mono (fun r h => ⟨fun c => (h c).2.2.2.2.2, sem_eq_zero_of_no_sems (by decide) r.2⟩) (Cert.EvenInReferenceIdeal.Value.run m g)

open Cert.EvenInReferenceIdeal Cert.EvenInReferenceIdeal.Gen in
/-- The reference's projection of the normalized rows. -/
abbrev PROJECTED (y : FVec Ideal Cert.EvenInReferenceIdeal.S2x8192x1024 .f32) (g : FVec Ideal Cert.EvenInReferenceIdeal.S1024 .f32) (w : FVec Ideal Cert.EvenInReferenceIdeal.S1024x3096 .f32) : FVec Ideal Cert.EvenInReferenceIdeal.S2x8192x3096 .f32 :=
  Host.dotGeneral dot_S2x8192x1024_S1024x3096_S2x8192x3096_2_0_01_1_n_n none (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

/-- The low columns of the kernel's projection are the reference's. -/
theorem even_in_low (y : FVec Ideal Cert.EvenInKernelIdeal.S2x8192x1024 .f32) (g : FVec Ideal Cert.EvenInKernelIdeal.S1024 .f32) (w : FVec Ideal Cert.EvenInKernelIdeal.S1024x3096 .f32) :
    extractStridedSlice Cert.EvenInKernelIdeal.S2x8192x1304 ![0, 0, 0] (shapeCast Cert.EvenInKernelIdeal.S2x8192x1408 (Cert.EvenInKernelIdeal.Value.LOW (shapeCast _ y Cert.EvenInKernelIdeal.Gen.shapeCasts_S2x8192x1024_S16384x1024) (shapeCast _ g Cert.EvenInKernelIdeal.Gen.shapeCasts_S1024_S1x1024) (Cert.EvenInKernelIdeal.Value.PADDED w)) Cert.EvenInKernelIdeal.Gen.shapeCasts_S16384x1408_S2x8192x1408) Cert.EvenInKernelIdeal.Gen.slices_S2x8192x1408_S2x8192x1304_0_0_0
      = extractStridedSlice Cert.EvenInReferenceIdeal.S2x8192x1304 ![0, 0, 0] (PROJECTED y g w) Cert.EvenInReferenceIdeal.Gen.slices_S2x8192x3096_S2x8192x1304_0_0_0 := by
  funext i
  refine (Cert.EvenInKernelIdeal.Value.low_tail _ _ _ i).trans ?_
  pointwise [proj, normed, PROJECTED]

/-- The high columns of the kernel's projection are the reference's. -/
theorem even_in_high (y : FVec Ideal Cert.EvenInKernelIdeal.S2x8192x1024 .f32) (g : FVec Ideal Cert.EvenInKernelIdeal.S1024 .f32) (w : FVec Ideal Cert.EvenInKernelIdeal.S1024x3096 .f32) :
    shapeCast Cert.EvenInKernelIdeal.S2x8192x1792 (Cert.EvenInKernelIdeal.Value.HIGH (shapeCast _ y Cert.EvenInKernelIdeal.Gen.shapeCasts_S2x8192x1024_S16384x1024) (shapeCast _ g Cert.EvenInKernelIdeal.Gen.shapeCasts_S1024_S1x1024) (Cert.EvenInKernelIdeal.Value.PADDED w)) Cert.EvenInKernelIdeal.Gen.shapeCasts_S16384x1792_S2x8192x1792
      = extractStridedSlice Cert.EvenInReferenceIdeal.S2x8192x1792 ![0, 0, 1304] (PROJECTED y g w) Cert.EvenInReferenceIdeal.Gen.slices_S2x8192x3096_S2x8192x1792_0_0_1304 := by
  funext i
  refine (Cert.EvenInKernelIdeal.Value.high_tail _ _ _ i).trans ?_
  pointwise [proj, normed, PROJECTED]

/-- The columns of keys and values are the same whether the low columns are first cut out or not. -/
theorem even_in_cut (v : FVec Ideal Cert.EvenInKernelIdeal.S2x8192x1408 .f32) :
    extractStridedSlice Cert.EvenInKernelIdeal.S2x8192x768 ![0, 0, 512] v Cert.EvenInKernelIdeal.Gen.slices_S2x8192x1408_S2x8192x768_0_0_512
      = extractStridedSlice Cert.EvenInReferenceIdeal.S2x8192x768 ![0, 0, 512] (extractStridedSlice Cert.EvenInKernelIdeal.S2x8192x1304 ![0, 0, 0] v Cert.EvenInKernelIdeal.Gen.slices_S2x8192x1408_S2x8192x1304_0_0_0) Cert.EvenInReferenceIdeal.Gen.slices_S2x8192x1304_S2x8192x768_0_0_512 := by
  funext i
  pointwise

open Cert.EvenInKernelIdeal.Value Cert.EvenInKernelIdeal Cert.EvenInKernelIdeal.Gen in
/-- The rows written for the attention's memory. -/
theorem even_in_rows (m : (ℓ : Loc nD τ sig) → Buf (Elt Ideal) ℓ) (c : Dev nD)
    (m' : (ℓ : Loc Cert.EvenInReferenceIdeal.nD Cert.EvenInReferenceIdeal.τ Cert.EvenInReferenceIdeal.sig) → Buf (Elt Ideal) ℓ)
    (h0 : m' ((c.tc : Thread _ _).loc Cert.EvenInReferenceIdeal.main_arg0) = m ((c.tc : Thread nD τ).loc main_arg0))
    (h1 : m' ((c.tc : Thread _ _).loc Cert.EvenInReferenceIdeal.main_arg1) = m ((c.tc : Thread nD τ).loc main_arg1))
    (h2 : m' ((c.tc : Thread _ _).loc Cert.EvenInReferenceIdeal.main_arg2) = m ((c.tc : Thread nD τ).loc main_arg2))
    (h3 : m' ((c.tc : Thread _ _).loc Cert.EvenInReferenceIdeal.main_arg3) = m ((c.tc : Thread nD τ).loc main_arg3)) :
    Pipeline.afterTail₀ cfgs (dats m) 0 (V0 m) [hostOps1] c main_v71 = Cert.EvenInReferenceIdeal.Value.res_main_v77 m' c := by
  unfold Pipeline.afterTail₀
  simp only [hostOps1, List.flatten_cons, List.flatten_nil, List.append_nil, List.cons_append, List.nil_append]
  after_results
  rw [arr3, rows_eq, gain_eq, weights_eq]
  unfold Cert.EvenInReferenceIdeal.Value.res_main_v77
  rw [h0, h1, h2, h3]
  rw [← even_in_low, ← even_in_cut]
  generalize LOW _ _ _ = L
  rfl

open Cert.EvenInKernelIdeal.Value Cert.EvenInKernelIdeal Cert.EvenInKernelIdeal.Gen in
/-- The last rows of the attention's window. -/
theorem even_in_win (m : (ℓ : Loc nD τ sig) → Buf (Elt Ideal) ℓ) (c : Dev nD)
    (m' : (ℓ : Loc Cert.EvenInReferenceIdeal.nD Cert.EvenInReferenceIdeal.τ Cert.EvenInReferenceIdeal.sig) → Buf (Elt Ideal) ℓ)
    (h0 : m' ((c.tc : Thread _ _).loc Cert.EvenInReferenceIdeal.main_arg0) = m ((c.tc : Thread nD τ).loc main_arg0))
    (h1 : m' ((c.tc : Thread _ _).loc Cert.EvenInReferenceIdeal.main_arg1) = m ((c.tc : Thread nD τ).loc main_arg1))
    (h2 : m' ((c.tc : Thread _ _).loc Cert.EvenInReferenceIdeal.main_arg2) = m ((c.tc : Thread nD τ).loc main_arg2))
    (h3 : m' ((c.tc : Thread _ _).loc Cert.EvenInReferenceIdeal.main_arg3) = m ((c.tc : Thread nD τ).loc main_arg3)) :
    Pipeline.afterTail₀ cfgs (dats m) 0 (V0 m) [hostOps1] c main_v75 = Cert.EvenInReferenceIdeal.Value.res_main_v80 m' c := by
  unfold Pipeline.afterTail₀
  simp only [hostOps1, List.flatten_cons, List.flatten_nil, List.append_nil, List.cons_append, List.nil_append]
  after_results
  rw [arr3, rows_eq, gain_eq, weights_eq]
  unfold Cert.EvenInReferenceIdeal.Value.res_main_v80
  rw [h0, h1, h2, h3]
  rw [← even_in_low, ← even_in_cut]
  generalize LOW _ _ _ = L
  rfl

open Cert.EvenInKernelIdeal.Value Cert.EvenInKernelIdeal Cert.EvenInKernelIdeal.Gen in
theorem even_in : Cert.algebraic_EvenInKernelIdeal_EvenInReferenceIdeal (hEvenInKernelIdeal := Cert.EvenInKernelIdeal.Gen.facts) (hEvenInReferenceIdeal := Cert.EvenInReferenceIdeal.Gen.facts) := by
  pair_intro
  · run_from Cert.EvenInKernelIdeal.Gen.run_main m g
    · exact W_main_arg0 m (dats m) c
    · exact W_main_arg1 m (dats m) c
    · exact W_main_arg2 m (dats m) c
    · exact W_main_arg3 m (dats m) c
  · refine θ_run_mono (Cert.EvenInReferenceIdeal.Value.run m' g') fun r h c => ?_
    obtain ⟨a0, a1, a2, a3⟩ := hagree c
    obtain ⟨r0, r1, r2, r3, r4, kept⟩ := h c
    refine ⟨r0.trans ?_, r1.trans ?_, r2.trans (even_in_rows m c m' a0 a1 a2 a3).symm, r3.trans (even_in_win m c m' a0 a1 a2 a3).symm, r4.trans ?_, kept⟩
    · rw [tail_v74, rows_eq, gain_eq, weights_eq, a0, a1, a2]
      exact (even_in_low _ _ _).symm
    · rw [tail_v9, rows_eq, gain_eq, weights_eq, a0, a1, a2]
      exact (even_in_high _ _ _).symm
    · rw [tail_v77, rows_eq, gain_eq, weights_eq, even_in_high, a0, a1, a2]

end Cert.Proof
end
-- ==== Proof.EvenInSampleValue.lean ====
module

public import proofs.«01_k».proof.Proof.Gen.EvenInSampleKernelIdeal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.EvenInSampleKernelIdeal.Value

open Cert.EvenInSampleKernelIdeal Cert.EvenInSampleKernelIdeal.Gen Cert.Rows

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 1 :=
  (by decide +kernel : ∀ t : Fin grid0.N, _)

/-- The first 1,408 columns of the projected rows. -/
abbrev LOW (x : FVec Ideal S256x1024 .f32) (g : FVec Ideal S1x1024 .f32) (w : FVec Ideal S1024x3200 .bf16) : FVec Ideal S256x1408 .f32 :=
  fun i => proj (fun k => x (ix2 (i 0) k)) (fun k => g (ix2 0 k)) (fun k => w (ix2 k ⟨(i 1).val, by have : (i 1).val < 1408 := (i 1).isLt; omega⟩))

/-- The columns after them. -/
abbrev HIGH (x : FVec Ideal S256x1024 .f32) (g : FVec Ideal S1x1024 .f32) (w : FVec Ideal S1024x3200 .bf16) : FVec Ideal S256x1792 .f32 :=
  fun i => proj (fun k => x (ix2 (i 0) k)) (fun k => g (ix2 0 k)) (fun k => w (ix2 k ⟨1408 + (i 1).val, by have : (i 1).val < 1792 := (i 1).isLt; omega⟩))

/-- The weights as the kernel is given them: the first 1,304 columns, zero columns up to 1,408, then the rest. -/
abbrev PADDED (w : FVec Ideal S1024x3096 .f32) : FVec Ideal S1024x3200 .bf16 :=
  truncf .bf16 (concatenate S1024x3200 1 [⟨S1024x1408, pad S1024x1408 ![0, 0] ![0, 104] ![0, 0] (extractStridedSlice S1024x1304 ![0, 0] w slices_S1024x3096_S1024x1304_0_0) (sitofp .f32 (constantI S_ 32 0#32)) pads_S1024x1304_S1024x1408_000_01040 h_S_⟩,
    ⟨S1024x1792, extractStridedSlice S1024x1792 ![0, 1304] w slices_S1024x3096_S1024x1792_0_1304⟩] concatenates_S1024x1408_S1024x1792_S1024x3200_d1) bitsLt_bf16_f32

/-- The first columns of the given weights are the weights' own. -/
theorem padded_low (w : FVec Ideal S1024x3096 .f32) (l : Fin 1024) (j : Nat) (h : j < 1304) :
    PADDED w (ix2 l ⟨j, by omega⟩) = w (ix2 l ⟨j, by omega⟩) := by
  pointwise [PADDED]
  rw [dif_pos (by omega), dif_pos h]

/-- The columns from 1,408 on are the weights' columns from 1,304 on. -/
theorem padded_high (w : FVec Ideal S1024x3096 .f32) (l : Fin 1024) (j : Nat) (h : j < 1792) :
    PADDED w (ix2 l ⟨1408 + j, by omega⟩) = w (ix2 l ⟨1304 + j, by omega⟩) := by
  pointwise [PADDED]

/-- The host's slice of the columns of keys and values, entry by entry. -/
theorem low_tail (y : FVec Ideal S32x8x1024 .f32) (g : FVec Ideal S1024 .f32) (w : FVec Ideal S1024x3096 .f32) (i : S32x8x768.Idx) :
    extractStridedSlice S32x8x768 ![0, 0, 512] (shapeCast S32x8x1408 (LOW (shapeCast S256x1024 y shapeCasts_S32x8x1024_S256x1024) (shapeCast S1x1024 g shapeCasts_S1024_S1x1024) (PADDED w)) shapeCasts_S256x1408_S32x8x1408) slices_S32x8x1408_S32x8x768_0_0_512 i
      = proj (fun k => y (ix3 (i 0) (i 1) k)) (fun k => g (ix1 k)) (fun k => w (ix2 k ⟨512 + (i 2).val, by have : (i 2).val < 768 := (i 2).isLt; omega⟩)) := by
  have h : 512 + (i 2).val < 1304 := by have : (i 2).val < 768 := (i 2).isLt; omega
  simp only [← padded_low w _ (512 + (i 2).val) h]
  generalize PADDED w = W
  pointwise [LOW]

/-- The host's view of the high columns, entry by entry. -/
theorem high_tail (y : FVec Ideal S32x8x1024 .f32) (g : FVec Ideal S1024 .f32) (w : FVec Ideal S1024x3096 .f32) (i : S32x8x1792.Idx) :
    shapeCast S32x8x1792 (HIGH (shapeCast S256x1024 y shapeCasts_S32x8x1024_S256x1024) (shapeCast S1x1024 g shapeCasts_S1024_S1x1024) (PADDED w)) shapeCasts_S256x1792_S32x8x1792 i
      = proj (fun k => y (ix3 (i 0) (i 1) k)) (fun k => g (ix1 k)) (fun k => w (ix2 k ⟨1304 + (i 2).val, by have : (i 2).val < 1792 := (i 2).isLt; omega⟩)) := by
  simp only [← padded_high w _ (i 2).val (i 2).isLt]
  generalize PADDED w = W
  pointwise [HIGH]

variable (m : (ℓ : Loc nD τ sig) → Buf (Elt Ideal) ℓ)

theorem point3 (c : Dev nD) (t : Fin cfg0.N) (y : S256x1408.Idx) :
    out0_3 (F := Ideal) (iblk m c 0 t) (iblk m c 1 t) (iblk m c 2 t) y
      = LOW (V m c main_v5) (V m c main_v6) (V m c main_v4) (((cfg0.win 3).blk t).view.emb y) := by
  unfold out0_3
  canon_tiles x h
  pointwise [k0_pay2, k0_pay1, LOW, proj, normed]
  blk_point [iblk, idx t]

theorem point4 (c : Dev nD) (t : Fin cfg0.N) (y : S256x1792.Idx) :
    out0_4 (F := Ideal) (iblk m c 0 t) (iblk m c 1 t) (iblk m c 2 t) y
      = HIGH (V m c main_v5) (V m c main_v6) (V m c main_v4) (((cfg0.win 4).blk t).view.emb y) := by
  unfold out0_4
  canon_tiles x h
  pointwise [k0_pay3, k0_pay1, HIGH, proj, normed]
  blk_point [iblk, idx t]

theorem final3 (c : Dev nD) : (dats m 0 c).arrAt 3 cfg0.N = LOW (V m c main_v5) (V m c main_v6) (V m c main_v4) := by
  refine (dats m 0 c).arrAt_eq_of_covers 3 _ (by decide +kernel) fun t _ y => ?_
  blk_simp
  rw [after0_3]
  exact point3 m c t y

theorem final4 (c : Dev nD) : (dats m 0 c).arrAt 4 cfg0.N = HIGH (V m c main_v5) (V m c main_v6) (V m c main_v4) := by
  refine (dats m 0 c).arrAt_eq_of_covers 4 _ (by decide +kernel) fun t _ y => ?_
  blk_simp
  rw [after0_4]
  exact point4 m c t y

theorem rows_eq (c : Dev nD) : V m c main_v5 = shapeCast S256x1024 (m ((c : Thread nD τ).loc main_arg0)) shapeCasts_S32x8x1024_S256x1024 := by
  entry_read
  simp only [hostOps0, hostOps0_1, hostOps0_2, List.flatten_cons, List.flatten_nil, List.append_nil, List.cons_append, List.nil_append]
  after_results
  rfl

theorem gain_eq (c : Dev nD) : V m c main_v6 = shapeCast S1x1024 (m ((c : Thread nD τ).loc main_arg1)) shapeCasts_S1024_S1x1024 := by
  entry_read
  simp only [hostOps0, hostOps0_1, hostOps0_2, List.flatten_cons, List.flatten_nil, List.append_nil, List.cons_append, List.nil_append]
  after_results
  rfl

theorem weights_eq (c : Dev nD) : V m c main_v4 = PADDED (m ((c : Thread nD τ).loc main_arg2)) := by
  entry_read
  simp only [hostOps0, hostOps0_1, hostOps0_2, List.flatten_cons, List.flatten_nil, List.append_nil, List.cons_append, List.nil_append]
  after_results
  rfl

/-- What the region leaves in its first result. -/
theorem arr3 (c : Dev nD) : Pipeline.withArrays (cfgs 0).spec c (V0 m c) (fun w => (dats m 0 c).arrAt w (cfgs 0).N) (Proc.devRef .tc main_v7_0)
    = LOW (V m c main_v5) (V m c main_v6) (V m c main_v4) :=
  (Pipeline.withArrays_arr spec0 launch0.win.arr_inj c _ _ 3).trans (final3 m c)

/-- What the region leaves in its second result. -/
theorem arr4 (c : Dev nD) : Pipeline.withArrays (cfgs 0).spec c (V0 m c) (fun w => (dats m 0 c).arrAt w (cfgs 0).N) (Proc.devRef .tc main_v7_1)
    = HIGH (V m c main_v5) (V m c main_v6) (V m c main_v4) :=
  (Pipeline.withArrays_arr spec0 launch0.win.arr_inj c _ _ 4).trans (final4 m c)

theorem tail_v79 (c : Dev nD) : Pipeline.afterTail₀ cfgs (dats m) 0 (V0 m) [hostOps1] c main_v79
    = shapeCast S32x1792 (extractStridedSlice S32x1x1792 ![0, 7, 0] (shapeCast S32x8x1792 (HIGH (V m c main_v5) (V m c main_v6) (V m c main_v4)) shapeCasts_S256x1792_S32x8x1792) slices_S32x8x1792_S32x1x1792_0_7_0) shapeCasts_S32x1x1792_S32x1792 := by
  unfold Pipeline.afterTail₀
  simp only [hostOps1, List.flatten_cons, List.flatten_nil, List.append_nil, List.cons_append, List.nil_append]
  after_results
  rw [arr4]
  rfl

end Cert.EvenInSampleKernelIdeal.Value
end
-- ==== Proof.EvenInSampleClaim.lean ====
module

public import proofs.«01_k».proof.Defs
public import proofs.«01_k».proof.Proof.EvenInSampleValue
public import proofs.«01_k».proof.Proof.Gen.EvenInSampleReferenceIdeal.Run

@[expose] public section

set_option maxRecDepth 16384

noncomputable section

open Idealize.ShloMosaic Idealize.ShloMosaic.TcCoe Idealize.SL.Sem
open Cert.Rows

namespace Cert.Proof

theorem even_in_sample_reference_frame : Cert.quiescent_EvenInSampleReferenceIdeal (hEvenInSampleReferenceIdeal := Cert.EvenInSampleReferenceIdeal.Gen.facts) := fun m g _ =>
  (θ_run _ _ _).mono (fun r h => ⟨fun c => (h c).2.2.2, sem_eq_zero_of_no_sems (by decide) r.2⟩) (Cert.EvenInSampleReferenceIdeal.Value.run m g)

open Cert.EvenInSampleReferenceIdeal Cert.EvenInSampleReferenceIdeal.Gen in
/-- The reference's projection of the normalized rows. -/
abbrev PROJECTED_SAMPLE (y : FVec Ideal Cert.EvenInSampleReferenceIdeal.S32x8x1024 .f32) (g : FVec Ideal Cert.EvenInSampleReferenceIdeal.S1024 .f32) (w : FVec Ideal Cert.EvenInSampleReferenceIdeal.S1024x3096 .f32) : FVec Ideal Cert.EvenInSampleReferenceIdeal.S32x8x3096 .f32 :=
  Host.dotGeneral dot_S32x8x1024_S1024x3096_S32x8x3096_2_0_01_1_n_n none (mulf (mulf y (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf y y) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) w

/-- The columns of keys and values of the kernel's projection are the reference's. -/
theorem even_in_sample_low (y : FVec Ideal Cert.EvenInSampleKernelIdeal.S32x8x1024 .f32) (g : FVec Ideal Cert.EvenInSampleKernelIdeal.S1024 .f32) (w : FVec Ideal Cert.EvenInSampleKernelIdeal.S1024x3096 .f32) :
    extractStridedSlice Cert.EvenInSampleKernelIdeal.S32x8x768 ![0, 0, 512] (shapeCast Cert.EvenInSampleKernelIdeal.S32x8x1408 (Cert.EvenInSampleKernelIdeal.Value.LOW (shapeCast _ y Cert.EvenInSampleKernelIdeal.Gen.shapeCasts_S32x8x1024_S256x1024) (shapeCast _ g Cert.EvenInSampleKernelIdeal.Gen.shapeCasts_S1024_S1x1024) (Cert.EvenInSampleKernelIdeal.Value.PADDED w)) Cert.EvenInSampleKernelIdeal.Gen.shapeCasts_S256x1408_S32x8x1408) Cert.EvenInSampleKernelIdeal.Gen.slices_S32x8x1408_S32x8x768_0_0_512
      = extractStridedSlice Cert.EvenInSampleReferenceIdeal.S32x8x768 ![0, 0, 512] (extractStridedSlice Cert.EvenInSampleReferenceIdeal.S32x8x1304 ![0, 0, 0] (PROJECTED_SAMPLE y g w) Cert.EvenInSampleReferenceIdeal.Gen.slices_S32x8x3096_S32x8x1304_0_0_0) Cert.EvenInSampleReferenceIdeal.Gen.slices_S32x8x1304_S32x8x768_0_0_512 := by
  funext i
  refine (Cert.EvenInSampleKernelIdeal.Value.low_tail _ _ _ i).trans ?_
  pointwise [proj, normed, PROJECTED_SAMPLE]

/-- The high columns of the kernel's projection are the reference's. -/
theorem even_in_sample_high (y : FVec Ideal Cert.EvenInSampleKernelIdeal.S32x8x1024 .f32) (g : FVec Ideal Cert.EvenInSampleKernelIdeal.S1024 .f32) (w : FVec Ideal Cert.EvenInSampleKernelIdeal.S1024x3096 .f32) :
    shapeCast Cert.EvenInSampleKernelIdeal.S32x8x1792 (Cert.EvenInSampleKernelIdeal.Value.HIGH (shapeCast _ y Cert.EvenInSampleKernelIdeal.Gen.shapeCasts_S32x8x1024_S256x1024) (shapeCast _ g Cert.EvenInSampleKernelIdeal.Gen.shapeCasts_S1024_S1x1024) (Cert.EvenInSampleKernelIdeal.Value.PADDED w)) Cert.EvenInSampleKernelIdeal.Gen.shapeCasts_S256x1792_S32x8x1792
      = extractStridedSlice Cert.EvenInSampleReferenceIdeal.S32x8x1792 ![0, 0, 1304] (PROJECTED_SAMPLE y g w) Cert.EvenInSampleReferenceIdeal.Gen.slices_S32x8x3096_S32x8x1792_0_0_1304 := by
  funext i
  refine (Cert.EvenInSampleKernelIdeal.Value.high_tail _ _ _ i).trans ?_
  pointwise [proj, normed, PROJECTED_SAMPLE]

open Cert.EvenInSampleKernelIdeal.Value Cert.EvenInSampleKernelIdeal Cert.EvenInSampleKernelIdeal.Gen in
/-- The rows written for the attention's memory. -/
theorem even_in_sample_rows (m : (ℓ : Loc nD τ sig) → Buf (Elt Ideal) ℓ) (c : Dev nD)
    (m' : (ℓ : Loc Cert.EvenInSampleReferenceIdeal.nD Cert.EvenInSampleReferenceIdeal.τ Cert.EvenInSampleReferenceIdeal.sig) → Buf (Elt Ideal) ℓ)
    (h0 : m' ((c.tc : Thread _ _).loc Cert.EvenInSampleReferenceIdeal.main_arg0) = m ((c.tc : Thread nD τ).loc main_arg0))
    (h1 : m' ((c.tc : Thread _ _).loc Cert.EvenInSampleReferenceIdeal.main_arg1) = m ((c.tc : Thread nD τ).loc main_arg1))
    (h2 : m' ((c.tc : Thread _ _).loc Cert.EvenInSampleReferenceIdeal.main_arg2) = m ((c.tc : Thread nD τ).loc main_arg2))
    (h3 : m' ((c.tc : Thread _ _).loc Cert.EvenInSampleReferenceIdeal.main_arg3) = m ((c.tc : Thread nD τ).loc main_arg3)) :
    Pipeline.afterTail₀ cfgs (dats m) 0 (V0 m) [hostOps1] c main_v73 = Cert.EvenInSampleReferenceIdeal.Value.res_main_v78 m' c := by
  unfold Pipeline.afterTail₀
  simp only [hostOps1, List.flatten_cons, List.flatten_nil, List.append_nil, List.cons_append, List.nil_append]
  after_results
  rw [arr3, rows_eq, gain_eq, weights_eq]
  unfold Cert.EvenInSampleReferenceIdeal.Value.res_main_v78
  rw [h0, h1, h2, h3]
  rw [← even_in_sample_low]
  generalize LOW _ _ _ = L
  rfl

open Cert.EvenInSampleKernelIdeal.Value Cert.EvenInSampleKernelIdeal Cert.EvenInSampleKernelIdeal.Gen in
/-- The attention's window with the new rows appended. -/
theorem even_in_sample_win (m : (ℓ : Loc nD τ sig) → Buf (Elt Ideal) ℓ) (c : Dev nD)
    (m' : (ℓ : Loc Cert.EvenInSampleReferenceIdeal.nD Cert.EvenInSampleReferenceIdeal.τ Cert.EvenInSampleReferenceIdeal.sig) → Buf (Elt Ideal) ℓ)
    (h0 : m' ((c.tc : Thread _ _).loc Cert.EvenInSampleReferenceIdeal.main_arg0) = m ((c.tc : Thread nD τ).loc main_arg0))
    (h1 : m' ((c.tc : Thread _ _).loc Cert.EvenInSampleReferenceIdeal.main_arg1) = m ((c.tc : Thread nD τ).loc main_arg1))
    (h2 : m' ((c.tc : Thread _ _).loc Cert.EvenInSampleReferenceIdeal.main_arg2) = m ((c.tc : Thread nD τ).loc main_arg2))
    (h3 : m' ((c.tc : Thread _ _).loc Cert.EvenInSampleReferenceIdeal.main_arg3) = m ((c.tc : Thread nD τ).loc main_arg3))
    (h4 : m' ((c.tc : Thread _ _).loc Cert.EvenInSampleReferenceIdeal.main_arg4) = m ((c.tc : Thread nD τ).loc main_arg4)) :
    Pipeline.afterTail₀ cfgs (dats m) 0 (V0 m) [hostOps1] c main_v77 = Cert.EvenInSampleReferenceIdeal.Value.res_main_v82 m' c := by
  unfold Pipeline.afterTail₀
  simp only [hostOps1, List.flatten_cons, List.flatten_nil, List.append_nil, List.cons_append, List.nil_append]
  after_results
  rw [arr3, rows_eq, gain_eq, weights_eq]
  unfold Cert.EvenInSampleReferenceIdeal.Value.res_main_v82
  rw [h0, h1, h2, h3, h4]
  rw [← even_in_sample_low]
  generalize LOW _ _ _ = L
  rfl

open Cert.EvenInSampleKernelIdeal.Value Cert.EvenInSampleKernelIdeal Cert.EvenInSampleKernelIdeal.Gen in
theorem even_in_sample : Cert.algebraic_EvenInSampleKernelIdeal_EvenInSampleReferenceIdeal (hEvenInSampleKernelIdeal := Cert.EvenInSampleKernelIdeal.Gen.facts) (hEvenInSampleReferenceIdeal := Cert.EvenInSampleReferenceIdeal.Gen.facts) := by
  pair_intro
  · run_from Cert.EvenInSampleKernelIdeal.Gen.run_main m g
    · exact W_main_arg0 m (dats m) c
    · exact W_main_arg1 m (dats m) c
    · exact W_main_arg2 m (dats m) c
    · exact W_main_arg3 m (dats m) c
    · exact W_main_arg4 m (dats m) c
  · refine θ_run_mono (Cert.EvenInSampleReferenceIdeal.Value.run m' g') fun r h c => ?_
    obtain ⟨a0, a1, a2, a3, a4⟩ := hagree c
    obtain ⟨r0, r1, r2, kept⟩ := h c
    refine ⟨r0.trans (even_in_sample_rows m c m' a0 a1 a2 a3).symm, r1.trans (even_in_sample_win m c m' a0 a1 a2 a3 a4).symm, r2.trans ?_, kept⟩
    rw [tail_v79, rows_eq, gain_eq, weights_eq, even_in_sample_high, a0, a1, a2]

end Cert.Proof
end
-- ==== Proof.OddInValue.lean ====
module

public import proofs.«01_k».proof.Proof.Gen.OddInKernelIdeal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.OddInKernelIdeal.Value

open Cert.OddInKernelIdeal Cert.OddInKernelIdeal.Gen Cert.Rows

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ t.val < 32 :=
  (by decide +kernel : ∀ t : Fin grid0.N, _)

/-- The 1,024 projected columns that begin at column `o`. -/
abbrev COLS (o : Nat) (ho : o ≤ 2048) (x : FVec Ideal S16384x1024 .f32) (g : FVec Ideal S1x1024 .f32) (w : FVec Ideal S1024x3200 .bf16) : FVec Ideal S16384x1024 .f32 :=
  fun i => proj (fun k => x (ix2 (i 0) k)) (fun k => g (ix2 0 k)) (fun k => w (ix2 k ⟨o + (i 1).val, by have : (i 1).val < 1024 := (i 1).isLt; omega⟩))

/-- The 128 projected columns at the end. -/
abbrev LAST (x : FVec Ideal S16384x1024 .f32) (g : FVec Ideal S1x1024 .f32) (w : FVec Ideal S1024x3200 .bf16) : FVec Ideal S16384x128 .f32 :=
  fun i => proj (fun k => x (ix2 (i 0) k)) (fun k => g (ix2 0 k)) (fun k => w (ix2 k ⟨3072 + (i 1).val, by have : (i 1).val < 128 := (i 1).isLt; omega⟩))

/-- The weights as the kernel is given them: the gate's 16 columns moved to the end and filled up with zero columns. -/
abbrev MOVED (w : FVec Ideal S1024x3088 .f32) : FVec Ideal S1024x3200 .bf16 :=
  truncf .bf16 (concatenate S1024x3200 1 [⟨S1024x2048, extractStridedSlice S1024x2048 ![0, 0] w slices_S1024x3088_S1024x2048_0_0⟩,
    ⟨S1024x1024, extractStridedSlice S1024x1024 ![0, 2064] w slices_S1024x3088_S1024x1024_0_2064⟩,
    ⟨S1024x128, pad S1024x128 ![0, 0] ![0, 112] ![0, 0] (extractStridedSlice S1024x16 ![0, 2048] w slices_S1024x3088_S1024x16_0_2048) (sitofp .f32 (constantI S_ 32 0#32)) pads_S1024x16_S1024x128_000_01120 h_S_⟩] concatenates_S1024x2048_S1024x1024_S1024x128_S1024x3200_d1) bitsLt_bf16_f32

/-- Below column 2,048 the given weights are the weights' own. -/
theorem moved_low (w : FVec Ideal S1024x3088 .f32) (l : Fin 1024) (j : Nat) (h : j < 2048) :
    MOVED w (ix2 l ⟨j, by omega⟩) = w (ix2 l ⟨j, by omega⟩) := by
  pointwise [MOVED]
  rw [dif_pos h]

/-- The next 1,024 columns are the weights' last ones. -/
theorem moved_mid (w : FVec Ideal S1024x3088 .f32) (l : Fin 1024) (j : Nat) (h : j < 1024) :
    MOVED w (ix2 l ⟨2048 + j, by omega⟩) = w (ix2 l ⟨2064 + j, by omega⟩) := by
  pointwise [MOVED]
  rw [dif_pos h]

/-- Then come the gate's 16 columns. -/
theorem moved_end (w : FVec Ideal S1024x3088 .f32) (l : Fin 1024) (j : Nat) (h : j < 16) :
    MOVED w (ix2 l ⟨3072 + j, by omega⟩) = w (ix2 l ⟨2048 + j, by omega⟩) := by
  pointwise [MOVED]
  have e : 3072 + j - 2048 - 1024 = j := by omega
  rw [dif_neg (by omega), dif_neg (by omega), dif_pos (by omega)]
  simp only [e]

/-- The host's view of one of the three wide results, entry by entry. -/
theorem cols_tail (o : Nat) (ho : o ≤ 2048) (y : FVec Ideal S2x8192x1024 .f32) (g : FVec Ideal S1024 .f32) (W : FVec Ideal S1024x3200 .bf16) (i : S2x8192x1024.Idx) :
    shapeCast S2x8192x1024 (COLS o ho (shapeCast S16384x1024 y shapeCasts_S2x8192x1024_S16384x1024) (shapeCast S1x1024 g shapeCasts_S1024_S1x1024) W) shapeCasts_S16384x1024_S2x8192x1024 i
      = proj (fun k => y (ix3 (i 0) (i 1) k)) (fun k => g (ix1 k)) (fun k => W (ix2 k ⟨o + (i 2).val, by have : (i 2).val < 1024 := (i 2).isLt; omega⟩)) := by
  pointwise [COLS]

/-- The host's slice of the last result, entry by entry. -/
theorem last_tail (y : FVec Ideal S2x8192x1024 .f32) (g : FVec Ideal S1024 .f32) (W : FVec Ideal S1024x3200 .bf16) (i : S2x8192x16.Idx) :
    extractStridedSlice S2x8192x16 ![0, 0, 0] (shapeCast S2x8192x128 (LAST (shapeCast S16384x1024 y shapeCasts_S2x8192x1024_S16384x1024) (shapeCast S1x1024 g shapeCasts_S1024_S1x1024) W) shapeCasts_S16384x128_S2x8192x128) slices_S2x8192x128_S2x8192x16_0_0_0 i
      = proj (fun k => y (ix3 (i 0) (i 1) k)) (fun k => g (ix1 k)) (fun k => W (ix2 k ⟨3072 + (i 2).val, by have : (i 2).val < 16 := (i 2).isLt; omega⟩)) := by
  pointwise [LAST]

variable (m : (ℓ : Loc nD τ sig) → Buf (Elt Ideal) ℓ)

theorem point3 (c : Dev nD) (t : Fin cfg0.N) (y : S512x1024.Idx) :
    out0_3 (F := Ideal) (iblk m c 0 t) (iblk m c 1 t) (iblk m c 2 t) y
      = COLS 0 (by omega) (V m c main_v6) (V m c main_v7) (V m c main_v5) (((cfg0.win 3).blk t).view.emb y) := by
  unfold out0_3
  canon_tiles x h
  pointwise [k0_pay3, k0_pay2, COLS, proj, normed]
  blk_point [iblk, idx t]

theorem point4 (c : Dev nD) (t : Fin cfg0.N) (y : S512x1024.Idx) :
    out0_4 (F := Ideal) (iblk m c 0 t) (iblk m c 1 t) (iblk m c 2 t) y
      = COLS 1024 (by omega) (V m c main_v6) (V m c main_v7) (V m c main_v5) (((cfg0.win 4).blk t).view.emb y) := by
  unfold out0_4
  canon_tiles x h
  pointwise [k0_pay4, k0_pay2, COLS, proj, normed]
  blk_point [iblk, idx t]

theorem point5 (c : Dev nD) (t : Fin cfg0.N) (y : S512x1024.Idx) :
    out0_5 (F := Ideal) (iblk m c 0 t) (iblk m c 1 t) (iblk m c 2 t) y
      = COLS 2048 (by omega) (V m c main_v6) (V m c main_v7) (V m c main_v5) (((cfg0.win 5).blk t).view.emb y) := by
  unfold out0_5
  canon_tiles x h
  pointwise [k0_pay5, k0_pay2, COLS, proj, normed]
  blk_point [iblk, idx t]

theorem point6 (c : Dev nD) (t : Fin cfg0.N) (y : S512x128.Idx) :
    out0_6 (F := Ideal) (iblk m c 0 t) (iblk m c 1 t) (iblk m c 2 t) y
      = LAST (V m c main_v6) (V m c main_v7) (V m c main_v5) (((cfg0.win 6).blk t).view.emb y) := by
  unfold out0_6
  canon_tiles x h
  pointwise [k0_pay1, k0_pay6, k0_pay2, LAST, proj, normed]
  blk_point [iblk, idx t]

theorem final3 (c : Dev nD) : (dats m 0 c).arrAt 3 cfg0.N = COLS 0 (by omega) (V m c main_v6) (V m c main_v7) (V m c main_v5) := by
  refine (dats m 0 c).arrAt_eq_of_covers 3 _ (by decide +kernel) fun t _ y => ?_
  blk_simp
  rw [after0_3]
  exact point3 m c t y

theorem final4 (c : Dev nD) : (dats m 0 c).arrAt 4 cfg0.N = COLS 1024 (by omega) (V m c main_v6) (V m c main_v7) (V m c main_v5) := by
  refine (dats m 0 c).arrAt_eq_of_covers 4 _ (by decide +kernel) fun t _ y => ?_
  blk_simp
  rw [after0_4]
  exact point4 m c t y

theorem final5 (c : Dev nD) : (dats m 0 c).arrAt 5 cfg0.N = COLS 2048 (by omega) (V m c main_v6) (V m c main_v7) (V m c main_v5) := by
  refine (dats m 0 c).arrAt_eq_of_covers 5 _ (by decide +kernel) fun t _ y => ?_
  blk_simp
  rw [after0_5]
  exact point5 m c t y

theorem final6 (c : Dev nD) : (dats m 0 c).arrAt 6 cfg0.N = LAST (V m c main_v6) (V m c main_v7) (V m c main_v5) := by
  refine (dats m 0 c).arrAt_eq_of_covers 6 _ (by decide +kernel) fun t _ y => ?_
  blk_simp
  rw [after0_6]
  exact point6 m c t y

theorem rows_eq (c : Dev nD) : V m c main_v6 = shapeCast S16384x1024 (m ((c : Thread nD τ).loc main_arg0)) shapeCasts_S2x8192x1024_S16384x1024 := by
  entry_read
  simp only [hostOps0, hostOps0_1, hostOps0_2, List.flatten_cons, List.flatten_nil, List.append_nil, List.cons_append, List.nil_append]
  after_results
  rfl

theorem gain_eq (c : Dev nD) : V m c main_v7 = shapeCast S1x1024 (m ((c : Thread nD τ).loc main_arg1)) shapeCasts_S1024_S1x1024 := by
  entry_read
  simp only [hostOps0, hostOps0_1, hostOps0_2, List.flatten_cons, List.flatten_nil, List.append_nil, List.cons_append, List.nil_append]
  after_results
  rfl

theorem weights_eq (c : Dev nD) : V m c main_v5 = MOVED (m ((c : Thread nD τ).loc main_arg2)) := by
  entry_read
  simp only [hostOps0, hostOps0_1, hostOps0_2, List.flatten_cons, List.flatten_nil, List.append_nil, List.cons_append, List.nil_append]
  after_results
  rfl

/-- What the region leaves in the array of window `w`. -/
theorem arr (c : Dev nD) (w : Fin 7) : Pipeline.withArrays (cfgs 0).spec c (V0 m c) (fun w => (dats m 0 c).arrAt w (cfgs 0).N) (Proc.devRef .tc (Pipeline.arrRef spec0 w))
    = (dats m 0 c).arrAt w cfg0.N :=
  Pipeline.withArrays_arr spec0 launch0.win.arr_inj c _ _ w

theorem tail_v9 (c : Dev nD) : Pipeline.afterTail₀ cfgs (dats m) 0 (V0 m) [hostOps1] c main_v9
    = shapeCast S2x8192x1024 (COLS 0 (by omega) (V m c main_v6) (V m c main_v7) (V m c main_v5)) shapeCasts_S16384x1024_S2x8192x1024 := by
  unfold Pipeline.afterTail₀
  simp only [hostOps1, List.flatten_cons, List.flatten_nil, List.append_nil, List.cons_append, List.nil_append]
  after_results
  rw [show Pipeline.withArrays _ c _ _ (Proc.devRef .tc main_v8_0) = _ from (arr m c 3).trans (final3 m c)]
  rfl

theorem tail_v10 (c : Dev nD) : Pipeline.afterTail₀ cfgs (dats m) 0 (V0 m) [hostOps1] c main_v10
    = shapeCast S2x8192x1024 (COLS 1024 (by omega) (V m c main_v6) (V m c main_v7) (V m c main_v5)) shapeCasts_S16384x1024_S2x8192x1024 := by
  unfold Pipeline.afterTail₀
  simp only [hostOps1, List.flatten_cons, List.flatten_nil, List.append_nil, List.cons_append, List.nil_append]
  after_results
  rw [show Pipeline.withArrays _ c _ _ (Proc.devRef .tc main_v8_1) = _ from (arr m c 4).trans (final4 m c)]
  rfl

theorem tail_v11 (c : Dev nD) : Pipeline.afterTail₀ cfgs (dats m) 0 (V0 m) [hostOps1] c main_v11
    = shapeCast S2x8192x1024 (COLS 2048 (by omega) (V m c main_v6) (V m c main_v7) (V m c main_v5)) shapeCasts_S16384x1024_S2x8192x1024 := by
  unfold Pipeline.afterTail₀
  simp only [hostOps1, List.flatten_cons, List.flatten_nil, List.append_nil, List.cons_append, List.nil_append]
  after_results
  rw [show Pipeline.withArrays _ c _ _ (Proc.devRef .tc main_v8_2) = _ from (arr m c 5).trans (final5 m c)]
  rfl

theorem tail_v13 (c : Dev nD) : Pipeline.afterTail₀ cfgs (dats m) 0 (V0 m) [hostOps1] c main_v13
    = extractStridedSlice S2x8192x16 ![0, 0, 0] (shapeCast S2x8192x128 (LAST (V m c main_v6) (V m c main_v7) (V m c main_v5)) shapeCasts_S16384x128_S2x8192x128) slices_S2x8192x128_S2x8192x16_0_0_0 := by
  unfold Pipeline.afterTail₀
  simp only [hostOps1, List.flatten_cons, List.flatten_nil, List.append_nil, List.cons_append, List.nil_append]
  after_results
  rw [show Pipeline.withArrays _ c _ _ (Proc.devRef .tc main_v8_3) = _ from (arr m c 6).trans (final6 m c)]
  rfl

end Cert.OddInKernelIdeal.Value
end
-- ==== Proof.OddInClaim.lean ====
module

public import proofs.«01_k».proof.Defs
public import proofs.«01_k».proof.Proof.OddInValue
public import proofs.«01_k».proof.Proof.Gen.OddInReferenceIdeal.Run

@[expose] public section

set_option maxRecDepth 16384

noncomputable section

open Idealize.ShloMosaic Idealize.ShloMosaic.TcCoe Idealize.SL.Sem
open Cert.Rows

namespace Cert.Proof

theorem odd_in_reference_frame : Cert.quiescent_OddInReferenceIdeal (hOddInReferenceIdeal := Cert.OddInReferenceIdeal.Gen.facts) := fun m g _ =>
  (θ_run _ _ _).mono (fun r h => ⟨fun c => (h c).2.2.2.2, sem_eq_zero_of_no_sems (by decide) r.2⟩) (Cert.OddInReferenceIdeal.Value.run m g)

open Cert.OddInKernelIdeal.Value Cert.OddInKernelIdeal Cert.OddInKernelIdeal.Gen in
theorem odd_in : Cert.algebraic_OddInKernelIdeal_OddInReferenceIdeal (hOddInKernelIdeal := Cert.OddInKernelIdeal.Gen.facts) (hOddInReferenceIdeal := Cert.OddInReferenceIdeal.Gen.facts) := by
  pair_intro
  · run_from Cert.OddInKernelIdeal.Gen.run_main m g
    · exact W_main_arg0 m (dats m) c
    · exact W_main_arg1 m (dats m) c
    · exact W_main_arg2 m (dats m) c
  · run_from Cert.OddInReferenceIdeal.Value.run m' g'
    · rw [tail_v9, rows_eq, gain_eq, weights_eq]
      funext i
      refine Eq.trans ?_ (cols_tail 0 _ _ _ _ i).symm
      simp only [Nat.zero_add, moved_low _ _ (i 2).val (Nat.lt_of_lt_of_le (i 2).isLt (by decide))]
      pointwise [proj, normed]
    · rw [tail_v10, rows_eq, gain_eq, weights_eq]
      funext i
      refine Eq.trans ?_ (cols_tail 1024 _ _ _ _ i).symm
      have hi : (i 2).val < 1024 := (i 2).isLt
      simp only [moved_low _ _ (1024 + (i 2).val) (by omega)]
      pointwise [proj, normed]
    · rw [tail_v11, rows_eq, gain_eq, weights_eq]
      funext i
      refine Eq.trans ?_ (cols_tail 2048 _ _ _ _ i).symm
      simp only [moved_mid _ _ (i 2).val (i 2).isLt]
      pointwise [proj, normed]
    · rw [tail_v13, rows_eq, gain_eq, weights_eq]
      funext i
      refine Eq.trans ?_ (last_tail _ _ _ i).symm
      simp only [moved_end _ _ (i 2).val (i 2).isLt]
      pointwise [proj, normed]

end Cert.Proof
end
-- ==== Proof.OddOutClaim.lean ====
module

public import Idealize.ShloMosaic.Lib.Pipeline.ValueKit
public import proofs.«01_k».proof.Defs
public import proofs.«01_k».proof.Proof.Gen.OddOutKernelIdeal.Frame
public import proofs.«01_k».proof.Proof.Gen.OddOutReferenceIdeal.Run

@[expose] public section

set_option maxRecDepth 16384

noncomputable section

open Idealize.ShloMosaic Idealize.ShloMosaic.TcCoe Idealize.SL.Sem
open Idealize.ShloMosaic.Pipeline (Dat)

namespace Cert.OddOutKernelIdeal.Value

open Cert.OddOutKernelIdeal Cert.OddOutKernelIdeal.Gen

theorem idx : ∀ t : Fin cfg0.N, win0_0.index t = ![t.val, 0] ∧ win0_1.index t = ![0, 0] ∧ win0_2.index t = ![t.val, 0]
    ∧ win0_3.index t = ![t.val, 0] ∧ t.val < 32 :=
  (by decide +kernel : ∀ t : Fin grid0.N, _)

/-- The rows `y` plus the mixed rows against the output weights. -/
abbrev SUM (o : FVec Ideal S16384x1024 .f32) (w : FVec Ideal S1024x1024 .bf16) (y : FVec Ideal S16384x1024 .f32) : FVec Ideal S16384x1024 .f32 :=
  fun i => y i + ∑ k : Fin 1024, o (ix2 (i 0) k) * w (ix2 k (i 1))

variable (m : (ℓ : Loc nD τ sig) → Buf (Elt Ideal) ℓ)

theorem point3 (c : Dev nD) (t : Fin cfg0.N) (y : S512x1024.Idx) :
    out0_3 (F := Ideal) (iblk m c 0 t) (iblk m c 1 t) (iblk m c 2 t) y
      = SUM (V m c main_v1) (V m c main_v0) (V m c main_v2) (((cfg0.win 3).blk t).view.emb y) := by
  unfold out0_3
  canon_tiles x h
  pointwise [k0_pay1, SUM]
  blk_point [iblk, idx t]

theorem final3 (c : Dev nD) : (dats m 0 c).arrAt 3 cfg0.N = SUM (V m c main_v1) (V m c main_v0) (V m c main_v2) := by
  refine (dats m 0 c).arrAt_eq_of_covers 3 _ (by decide +kernel) fun t _ y => ?_
  blk_simp
  rw [after0_3]
  exact point3 m c t y

/-- What the host's reshape leaves. -/
theorem tail_out (c : Dev nD) : Pipeline.afterTail₀ cfgs (dats m) 0 (V0 m) [hostOps1] c main_v4
    = shapeCast S2x8192x1024 (SUM (V m c main_v1) (V m c main_v0) (V m c main_v2)) shapeCasts_S16384x1024_S2x8192x1024 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v3) = _ from (Pipeline.withArrays_arr spec0 launch0.win.arr_inj c _ _ 3).trans (final3 m c)]
  rfl

/-- The host's view of the summed rows, entry by entry. -/
theorem sum_tail (o : FVec Ideal S2x8192x1024 .f32) (w : FVec Ideal S1024x1024 .f32) (y : FVec Ideal S2x8192x1024 .f32) (i : S2x8192x1024.Idx) :
    shapeCast S2x8192x1024 (SUM (shapeCast S16384x1024 o shapeCasts_S2x8192x1024_S16384x1024) (truncf .bf16 w bitsLt_bf16_f32) (shapeCast S16384x1024 y shapeCasts_S2x8192x1024_S16384x1024)) shapeCasts_S16384x1024_S2x8192x1024 i
      = y i + ∑ k : Fin 1024, o (ix3 (i 0) (i 1) k) * w (ix2 k (i 2)) := by
  pointwise [SUM]

end Cert.OddOutKernelIdeal.Value

namespace Cert.Proof

theorem odd_out_reference_frame : Cert.quiescent_OddOutReferenceIdeal (hOddOutReferenceIdeal := Cert.OddOutReferenceIdeal.Gen.facts) := fun m g _ =>
  (θ_run _ _ _).mono (fun r h => ⟨fun c => (h c).2, sem_eq_zero_of_no_sems (by decide) r.2⟩) (Cert.OddOutReferenceIdeal.Value.run m g)

open Cert.OddOutKernelIdeal.Value Cert.OddOutKernelIdeal Cert.OddOutKernelIdeal.Gen in
theorem odd_out : Cert.algebraic_OddOutKernelIdeal_OddOutReferenceIdeal (hOddOutKernelIdeal := Cert.OddOutKernelIdeal.Gen.facts) (hOddOutReferenceIdeal := Cert.OddOutReferenceIdeal.Gen.facts) := by
  pair_intro
  · run_from Cert.OddOutKernelIdeal.Gen.run_main m g
    · exact W_main_arg0 m (dats m) c
    · exact W_main_arg1 m (dats m) c
    · exact W_main_arg2 m (dats m) c
  · run_from Cert.OddOutReferenceIdeal.Value.run m' g'
    rw [tail_out]
    entry_read
    funext i
    refine Eq.trans ?_ (sum_tail _ _ _ i).symm
    pointwise

end Cert.Proof
end
-- ==== Proof.EvenOutClaim.lean ====
module

public import Idealize.ShloMosaic.Lib.Pipeline.ValueKit
public import proofs.«01_k».proof.Defs
public import proofs.«01_k».proof.Proof.Gen.EvenOutKernelIdeal.Frame
public import proofs.«01_k».proof.Proof.Gen.EvenOutReferenceIdeal.Run

@[expose] public section

set_option maxRecDepth 16384

noncomputable section

open Idealize.ShloMosaic Idealize.ShloMosaic.TcCoe Idealize.SL.Sem
open Idealize.ShloMosaic.Pipeline (Dat)

namespace Cert.EvenOutKernelIdeal.Value

open Cert.EvenOutKernelIdeal Cert.EvenOutKernelIdeal.Gen

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 32 :=
  (by decide +kernel : ∀ t : Fin grid0.N, _)

/-- The rows `y` plus the two mixed halves, each against its half of the output weights. -/
abbrev SUM (a b : FVec Ideal S16384x512 .f32) (u v : FVec Ideal S512x1024 .bf16) (y : FVec Ideal S16384x1024 .f32) : FVec Ideal S16384x1024 .f32 :=
  fun i => y i + (∑ k : Fin 512, a (ix2 (i 0) k) * u (ix2 k (i 1))) + ∑ k : Fin 512, b (ix2 (i 0) k) * v (ix2 k (i 1))

variable (m : (ℓ : Loc nD τ sig) → Buf (Elt Ideal) ℓ)

theorem point5 (c : Dev nD) (t : Fin cfg0.N) (y : S512x1024.Idx) :
    out0_5 (F := Ideal) (iblk m c 0 t) (iblk m c 1 t) (iblk m c 2 t) (iblk m c 3 t) (iblk m c 4 t) y
      = SUM (V m c main_v3) (V m c main_v4) (V m c main_v1) (V m c main_v2) (V m c main_v5) (((cfg0.win 5).blk t).view.emb y) := by
  unfold out0_5
  canon_tiles x h
  pointwise [k0_pay1, SUM]
  blk_point [iblk, idx t]

theorem final5 (c : Dev nD) : (dats m 0 c).arrAt 5 cfg0.N = SUM (V m c main_v3) (V m c main_v4) (V m c main_v1) (V m c main_v2) (V m c main_v5) := by
  refine (dats m 0 c).arrAt_eq_of_covers 5 _ (by decide +kernel) fun t _ y => ?_
  blk_simp
  rw [after0_5]
  exact point5 m c t y

/-- What the host's reshape leaves. -/
theorem tail_out (c : Dev nD) : Pipeline.afterTail₀ cfgs (dats m) 0 (V0 m) [hostOps1] c main_v7
    = shapeCast S2x8192x1024 (SUM (V m c main_v3) (V m c main_v4) (V m c main_v1) (V m c main_v2) (V m c main_v5)) shapeCasts_S16384x1024_S2x8192x1024 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v6) = _ from (Pipeline.withArrays_arr spec0 launch0.win.arr_inj c _ _ 5).trans (final5 m c)]
  rfl

/-- The host's view of the summed rows, entry by entry. -/
theorem sum_tail (a b : FVec Ideal S2x8192x512 .f32) (w : FVec Ideal S1024x1024 .f32) (y : FVec Ideal S2x8192x1024 .f32) (i : S2x8192x1024.Idx) :
    shapeCast S2x8192x1024 (SUM (shapeCast S16384x512 a shapeCasts_S2x8192x512_S16384x512) (shapeCast S16384x512 b shapeCasts_S2x8192x512_S16384x512)
        (extractStridedSlice S512x1024 ![0, 0] (truncf .bf16 w bitsLt_bf16_f32) slices_S1024x1024_S512x1024_0_0) (extractStridedSlice S512x1024 ![512, 0] (truncf .bf16 w bitsLt_bf16_f32) slices_S1024x1024_S512x1024_512_0)
        (shapeCast S16384x1024 y shapeCasts_S2x8192x1024_S16384x1024)) shapeCasts_S16384x1024_S2x8192x1024 i
      = y i + ((∑ k : Fin 512, a (ix3 (i 0) (i 1) k) * w (ix2 ⟨k.val, by omega⟩ (i 2))) + ∑ k : Fin 512, b (ix3 (i 0) (i 1) k) * w (ix2 ⟨512 + k.val, by omega⟩ (i 2))) := by
  rw [← add_assoc]
  pointwise [SUM]

end Cert.EvenOutKernelIdeal.Value

namespace Cert.Proof

theorem even_out_reference_frame : Cert.quiescent_EvenOutReferenceIdeal (hEvenOutReferenceIdeal := Cert.EvenOutReferenceIdeal.Gen.facts) := fun m g _ =>
  (θ_run _ _ _).mono (fun r h => ⟨fun c => (h c).2, sem_eq_zero_of_no_sems (by decide) r.2⟩) (Cert.EvenOutReferenceIdeal.Value.run m g)

open Cert.EvenOutKernelIdeal.Value Cert.EvenOutKernelIdeal Cert.EvenOutKernelIdeal.Gen in
theorem even_out : Cert.algebraic_EvenOutKernelIdeal_EvenOutReferenceIdeal (hEvenOutKernelIdeal := Cert.EvenOutKernelIdeal.Gen.facts) (hEvenOutReferenceIdeal := Cert.EvenOutReferenceIdeal.Gen.facts) := by
  pair_intro
  · run_from Cert.EvenOutKernelIdeal.Gen.run_main m g
    · exact W_main_arg0 m (dats m) c
    · exact W_main_arg1 m (dats m) c
    · exact W_main_arg2 m (dats m) c
    · exact W_main_arg3 m (dats m) c
  · run_from Cert.EvenOutReferenceIdeal.Value.run m' g'
    rw [tail_out]
    entry_read
    funext i
    refine Eq.trans ?_ (sum_tail _ _ _ _ i).symm
    pointwise

end Cert.Proof
end
-- ==== Proof.GlaMath.lean ====
module

public import Idealize.ShloMosaic.Lib.Pipeline.ValueKit
public import Idealize.ShloMosaic.Lib.WordCmp

@[expose] public section

/-! One chunk of the gated linear attention's state, for one feature of the keys and one of the values, over the extended reals. -/

noncomputable section

open Idealize.ShloMosaic

namespace Cert.Gla

/-- The running sum of the logarithms of the gates, up to and including step `t`. -/
def upTo {C : ℕ} (g : Fin C → EReal) (t : Fin C) : EReal := ∑ s, if s ≤ t then g s else 0

/-- The state after a chunk: the old one faded by all gates, and every step's product faded by the gates after it. -/
def next {C : ℕ} (k v g : Fin C → EReal) (S : EReal) : EReal :=
  Ideal.exp (∑ s, g s) * S + ∑ s, k s * Ideal.exp ((∑ r, g r) - upTo g s) * v s

theorem upTo_last {n : ℕ} (g : Fin (n + 1) → EReal) : upTo g (Fin.last n) = ∑ s, g s :=
  Finset.sum_congr rfl fun s _ => if_pos (Fin.le_last s)

/-- A number below infinity is the sum of itself, what is left of it, and what is left of that. -/
theorem three_parts (x : EReal) (h : x ≠ ⊤) : x + (x - x) + (x - x - (x - x)) = x := by
  induction x with
  | bot => simp
  | top => exact absurd rfl h
  | coe r => rw [← EReal.coe_sub, sub_self, ← EReal.coe_sub, sub_self, ← EReal.coe_add, ← EReal.coe_add, add_zero, add_zero]

/-- The running sum as three products with the triangle of ones. -/
theorem upTo_parts {C : ℕ} (g : Fin C → EReal) (h : ∀ s, g s ≠ ⊤) (t : Fin C) (b : Fin C → EReal) (hb : ∀ s, b s = if s ≤ t then 1 else 0) :
    (∑ s, b s * g s) + (∑ s, b s * (g s - g s)) + (∑ s, b s * (g s - g s - (g s - g s))) = upTo g t := by
  rw [← Finset.sum_add_distrib, ← Finset.sum_add_distrib]
  refine Finset.sum_congr rfl fun s _ => ?_
  rw [hb]
  split_ifs
  · rw [one_mul, one_mul, one_mul, three_parts _ (h s)]
  · rw [zero_mul, zero_mul, zero_mul, add_zero, add_zero]

/-- The kernel's order of the factors gives the same state. -/
theorem next_of_kernel {C : ℕ} (k v g : Fin C → EReal) (S : EReal) :
    S * Ideal.exp (∑ s, g s) + ∑ s, v s * (k s * Ideal.exp ((∑ r, g r) - upTo g s)) = next k v g S := by
  unfold next
  rw [mul_comm S]
  exact congrArg _ (Finset.sum_congr rfl fun s _ => mul_comm _ _)

/-- Steps of zeros after the last change nothing. -/
theorem next_padded {n p : ℕ} (k v g : Fin (n + p) → EReal) (S : EReal) (hk : ∀ j, k (Fin.natAdd n j) = 0)
    (hg : ∀ j, g (Fin.natAdd n j) = 0) :
    next k v g S = next (fun s => k (Fin.castAdd p s)) (fun s => v (Fin.castAdd p s)) (fun s => g (Fin.castAdd p s)) S := by
  have e : ∑ s, g s = ∑ s, g (Fin.castAdd p s) := by rw [Fin.sum_univ_add, Finset.sum_eq_zero (fun j _ => hg j), add_zero]
  unfold next
  rw [e, Fin.sum_univ_add (fun s => k s * _ * v s), Finset.sum_eq_zero (s := Finset.univ) (f := fun j : Fin p => _) (fun j _ => by rw [hk, zero_mul, zero_mul]), add_zero]
  congr 1
  refine Finset.sum_congr rfl fun s _ => ?_
  congr 3
  unfold upTo
  rw [Fin.sum_univ_add, Finset.sum_eq_zero (s := Finset.univ) (f := fun j : Fin p => _) (fun j _ => by rw [hg, ite_self]), add_zero]
  rfl

theorem foldl_sum {n : ℕ} (f : Fin n → EReal) (v : EReal) : (List.finRange n).foldl (fun r k => r + f k) v = v + ∑ k, f k := by
  rw [← List.sum_ofFn, List.ofFn_eq_map]
  induction List.finRange n generalizing v with
  | nil => simp
  | cons a l ih => rw [List.foldl_cons, ih, List.map_cons, List.sum_cons, add_assoc]

/-- A sum over a window that ends at step `t` is the sum of the steps up to `t`. -/
theorem window {n : ℕ} (X : ℕ → EReal) (t : Fin (n + 1)) :
    (∑ k : Fin (n + 1), if n ≤ t.val + k.val then X (t.val + k.val - n) else 0) = ∑ s : Fin (n + 1), if s ≤ t then X s.val else 0 := by
  rw [← Finset.sum_filter, ← Finset.sum_filter]
  refine Finset.sum_bij' (fun k hk => ⟨t.val + k.val - n, by have := t.isLt; have := k.isLt; omega⟩)
    (fun s hs => ⟨s.val + n - t.val, by have := Fin.le_def.1 (Finset.mem_filter.1 hs).2; omega⟩) ?_ ?_ ?_ ?_ ?_
  · intro k hk
    rw [Finset.mem_filter]; refine ⟨Finset.mem_univ _, Fin.le_def.2 ?_⟩
    show t.val + k.val - n ≤ t.val
    have := k.isLt; omega
  · intro s hs
    rw [Finset.mem_filter]; refine ⟨Finset.mem_univ _, ?_⟩
    show n ≤ t.val + (s.val + n - t.val)
    omega
  · intro k hk
    have := (Finset.mem_filter.1 hk).2
    apply Fin.ext
    show t.val + k.val - n + n - t.val = k.val
    omega
  · intro s hs
    have := Fin.le_def.1 (Finset.mem_filter.1 hs).2
    have := t.isLt
    apply Fin.ext
    show t.val + (s.val + n - t.val) - n = s.val
    omega
  · intro k hk; rfl

/-- The host's running sum along the third axis, entry by entry. -/
theorem running {A B n D : ℕ} (x : FVec Ideal ⟨4, ![A, B, n + 1, D]⟩ .f32) {u : Shape} (z : FVec Ideal u .f32)
    (h : (⟨4, ![A, B, n + 1, D]⟩ : Shape).ReduceWindows ![1, 1, n + 1, 1] ![1, 1, 1, 1] ![0, 0, n, 0] ![0, 0, 0, 0] ⟨4, ![A, B, n + 1, D]⟩)
    (hu : 0 < u.numel) (hz : z (Shape.Idx.first hu) = 0) (i : (⟨4, ![A, B, n + 1, D]⟩ : Shape).Idx) :
    Host.reduceWindowAdd ![1, 1, n + 1, 1] ![1, 1, 1, 1] ![0, 0, n, 0] ![0, 0, 0, 0] x z h hu i
      = upTo (fun s => x (ix4 (i 0) (i 1) s (i 3))) (i 2) := by
  unfold Host.reduceWindowAdd
  rw [Ideal.hostReduceWindowAdd_def, hz]
  unfold Ideal.hostReduceWindowAdd Host.reduceWindow
  dsimp only
  rw [foldl_sum, zero_add]
  let W : Shape := ⟨4, ![1, 1, n + 1, 1]⟩
  let X : ℕ → EReal := fun m => if q : m < n + 1 then x (ix4 (i 0) (i 1) ⟨m, q⟩ (i 3)) else 0
  trans ∑ w : W.Idx, if n ≤ (i 2).val + (w 2).val then X ((i 2).val + (w 2).val - n) else 0
  · have key : ∀ w : W.Idx, (if hin : ∀ a : Fin 4, ![0, 0, n, 0] a ≤ (i a).val * ![1, 1, 1, 1] a + (w a).val
        ∧ (i a).val * ![1, 1, 1, 1] a + (w a).val - ![0, 0, n, 0] a < ![A, B, n + 1, D] a then
          x (fun a => ⟨(i a).val * ![1, 1, 1, 1] a + (w a).val - ![0, 0, n, 0] a, (hin a).2⟩) else 0)
        = if n ≤ (i 2).val + (w 2).val then X ((i 2).val + (w 2).val - n) else 0 := by
      intro w
      have i0 : (i 0).val < A := (i 0).isLt
      have i1 : (i 1).val < B := (i 1).isLt
      have i2 : (i 2).val < n + 1 := (i 2).isLt
      have i3 : (i 3).val < D := (i 3).isLt
      have w0 : (w 0).val < 1 := (w 0).isLt
      have w1 : (w 1).val < 1 := (w 1).isLt
      have w2 : (w 2).val < n + 1 := (w 2).isLt
      have w3 : (w 3).val < 1 := (w 3).isLt
      by_cases hn : n ≤ (i 2).val + (w 2).val
      · have q : (i 2).val + (w 2).val - n < n + 1 := by omega
        rw [if_pos hn, dif_pos]
        · show _ = dite _ _ _
          rw [dif_pos q]
          refine congrArg x (funext fun a => Fin.ext ?_)
          fin_cases a
          · show (i 0).val * 1 + (w 0).val - 0 = (i 0).val
            omega
          · show (i 1).val * 1 + (w 1).val - 0 = (i 1).val
            omega
          · show (i 2).val * 1 + (w 2).val - n = (i 2).val + (w 2).val - n
            omega
          · show (i 3).val * 1 + (w 3).val - 0 = (i 3).val
            omega
        · intro a
          fin_cases a
          · show 0 ≤ (i 0).val * 1 + (w 0).val ∧ (i 0).val * 1 + (w 0).val - 0 < A
            omega
          · show 0 ≤ (i 1).val * 1 + (w 1).val ∧ (i 1).val * 1 + (w 1).val - 0 < B
            omega
          · show n ≤ (i 2).val * 1 + (w 2).val ∧ (i 2).val * 1 + (w 2).val - n < n + 1
            omega
          · show 0 ≤ (i 3).val * 1 + (w 3).val ∧ (i 3).val * 1 + (w 3).val - 0 < D
            omega
      · rw [if_neg hn, dif_neg]
        intro hin
        have h2 : n ≤ (i 2).val * 1 + (w 2).val := (hin 2).1
        omega
    rw [← Equiv.sum_comp W.rowMajor.symm]
    refine Finset.sum_congr rfl fun j _ => ?_
    convert key (W.rowMajor.symm j) <;> rfl
  · rw [sum_idx4]
    simp only [Finset.univ_unique, Finset.sum_singleton]
    refine (window X (i 2)).trans (Finset.sum_congr rfl fun s _ => ?_)
    show (if s ≤ i 2 then dite _ _ _ else 0) = _
    rw [dif_pos s.isLt]

theorem exp_nonneg (x : EReal) : 0 ≤ Ideal.exp x := by
  induction x with
  | bot => exact le_refl _
  | top => exact le_top
  | coe r => exact EReal.coe_nonneg.2 (Real.exp_pos r).le

theorem log1p_ne_bot (x : EReal) (h : 0 ≤ x) : Ideal.log1p x ≠ ⊥ := by
  induction x with
  | bot => simp at h
  | top =>
    unfold Ideal.log1p
    rw [EReal.add_top_of_ne_bot (show (1 : EReal) ≠ ⊥ from EReal.coe_ne_bot 1)]
    exact top_ne_bot
  | coe r =>
    have r0 : 0 ≤ r := EReal.coe_nonneg.1 h
    unfold Ideal.log1p
    rw [← EReal.coe_one, ← EReal.coe_add]
    show (if 1 + r ≤ 0 then (⊥ : EReal) else (Real.log (1 + r) : EReal)) ≠ ⊥
    rw [if_neg (by linarith)]
    exact EReal.coe_ne_bot _

/-- A gate's logarithm is never infinite. -/
theorem gate_ne_top (x d : EReal) :
    Ideal.div (-(max (-x) 0 + Ideal.log1p (Ideal.exp d))) (Ideal.ofBits .f32 0x41800000#32) ≠ ⊤ := by
  have h : max (-x) 0 + Ideal.log1p (Ideal.exp d) ≠ ⊥ := by
    rw [Ne, EReal.add_eq_bot_iff, not_or]
    exact ⟨fun e => absurd (le_max_right (-x) 0) (by rw [e]; simp), log1p_ne_bot _ (exp_nonneg d)⟩
  generalize max (-x) 0 + Ideal.log1p (Ideal.exp d) = y at h
  have c : Ideal.ofBits .f32 0x41800000#32 = ((16 : ℝ) : EReal) := by
    simp [Ideal.ofBits, Ideal.ieee, -EReal.coe_mul]; norm_num
  rw [c]
  unfold Ideal.div
  rw [if_neg (by norm_num)]
  induction y with
  | bot => exact absurd rfl h
  | top => rw [← EReal.coe_inv, EReal.neg_top, EReal.bot_mul_coe_of_pos (by norm_num)]; simp
  | coe r => rw [← EReal.coe_inv, ← EReal.coe_neg, ← EReal.coe_mul]; exact EReal.coe_ne_top _

/-- The triangle's entry in row `t`, column `s`, as the kernel makes it: the comparison of two counters as a number. -/
theorem tri (s t : ℕ) (hs : s < 2 ^ 31) (ht : t < 2 ^ 31) :
    FloatOps.sitofp (F := Ideal) FTy.f32 (BitVec.setWidth 32 (IntOp.cmpi CmpIPredicate.sle (BitVec.ofNat 32 s) (BitVec.ofNat 32 t)))
      = if s ≤ t then (1 : EReal) else 0 := by
  rw [WordCmp.cmpi_sle_ofNat (w := 32) hs ht]
  by_cases h : s ≤ t
  · rw [if_pos h, decide_eq_true h]
    show (((1#32 : BitVec 32).toInt : ℝ) : EReal) = 1
    norm_num
  · rw [if_neg h, decide_eq_false h]
    show (((0#32 : BitVec 32).toInt : ℝ) : EReal) = 0
    norm_num

/-- The running sum, read off the kernel's three products. -/
theorem parts {n : ℕ} (hn : n < 2 ^ 30) (g : Fin (n + 1) → EReal) (hg : ∀ s, g s ≠ ⊤) (t : Fin (n + 1)) (T : BitVec 32) (hT : T = BitVec.ofNat 32 t.val) :
    (∑ s : Fin (n + 1), FloatOps.sitofp (F := Ideal) FTy.f32 (BitVec.setWidth 32 (IntOp.cmpi CmpIPredicate.sle (BitVec.ofNat 32 s.val) T)) * g s)
      + (∑ s : Fin (n + 1), FloatOps.sitofp (F := Ideal) FTy.f32 (BitVec.setWidth 32 (IntOp.cmpi CmpIPredicate.sle (BitVec.ofNat 32 s.val) T)) * (g s - g s))
      + (∑ s : Fin (n + 1), FloatOps.sitofp (F := Ideal) FTy.f32 (BitVec.setWidth 32 (IntOp.cmpi CmpIPredicate.sle (BitVec.ofNat 32 s.val) T)) * (g s - g s - (g s - g s)))
      = upTo g t :=
  upTo_parts g hg t _ fun s => by
    have := s.isLt
    have := t.isLt
    rw [hT, tri s.val t.val (by omega) (by omega)]
    exact if_congr Fin.le_def.symm rfl rfl

/-- One chunk's state as the kernel computes it is the chunk's state. -/
theorem chunk {n : ℕ} (hn : n < 2 ^ 30) (k v g : Fin (n + 1) → EReal) (hg : ∀ s, g s ≠ ⊤) (S : EReal) (L : BitVec 32) (hL : L = BitVec.ofNat 32 n) :
    S * Ideal.exp ((∑ s : Fin (n + 1), FloatOps.sitofp (F := Ideal) FTy.f32 (BitVec.setWidth 32 (IntOp.cmpi CmpIPredicate.sle (BitVec.ofNat 32 s.val) L)) * g s)
        + (∑ s : Fin (n + 1), FloatOps.sitofp (F := Ideal) FTy.f32 (BitVec.setWidth 32 (IntOp.cmpi CmpIPredicate.sle (BitVec.ofNat 32 s.val) L)) * (g s - g s))
        + (∑ s : Fin (n + 1), FloatOps.sitofp (F := Ideal) FTy.f32 (BitVec.setWidth 32 (IntOp.cmpi CmpIPredicate.sle (BitVec.ofNat 32 s.val) L)) * (g s - g s - (g s - g s))))
      + ∑ t : Fin (n + 1), v t * (k t * Ideal.exp (((∑ s : Fin (n + 1), FloatOps.sitofp (F := Ideal) FTy.f32 (BitVec.setWidth 32 (IntOp.cmpi CmpIPredicate.sle (BitVec.ofNat 32 s.val) L)) * g s)
        + (∑ s : Fin (n + 1), FloatOps.sitofp (F := Ideal) FTy.f32 (BitVec.setWidth 32 (IntOp.cmpi CmpIPredicate.sle (BitVec.ofNat 32 s.val) L)) * (g s - g s))
        + (∑ s : Fin (n + 1), FloatOps.sitofp (F := Ideal) FTy.f32 (BitVec.setWidth 32 (IntOp.cmpi CmpIPredicate.sle (BitVec.ofNat 32 s.val) L)) * (g s - g s - (g s - g s))))
        - ((∑ s : Fin (n + 1), FloatOps.sitofp (F := Ideal) FTy.f32 (BitVec.setWidth 32 (IntOp.cmpi CmpIPredicate.sle (BitVec.ofNat 32 s.val) (BitVec.ofNat 32 t.val))) * g s)
        + (∑ s : Fin (n + 1), FloatOps.sitofp (F := Ideal) FTy.f32 (BitVec.setWidth 32 (IntOp.cmpi CmpIPredicate.sle (BitVec.ofNat 32 s.val) (BitVec.ofNat 32 t.val))) * (g s - g s))
        + (∑ s : Fin (n + 1), FloatOps.sitofp (F := Ideal) FTy.f32 (BitVec.setWidth 32 (IntOp.cmpi CmpIPredicate.sle (BitVec.ofNat 32 s.val) (BitVec.ofNat 32 t.val))) * (g s - g s - (g s - g s))))))
      = next k v g S := by
  rw [parts hn g hg (Fin.last n) L hL, upTo_last, ← next_of_kernel]
  exact congrArg _ (Finset.sum_congr rfl fun t _ => by rw [parts hn g hg t _ rfl])

end Cert.Gla
end
-- ==== Proof.GlaSampleValue.lean ====
module

public import proofs.«01_k».proof.Proof.Gen.GlaSampleKernelIdeal.Frame
public import proofs.«01_k».proof.Proof.Gen.GlaSampleReferenceIdeal.Run
public import proofs.«01_k».proof.Proof.GlaMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaSampleKernelIdeal.Value

open Cert.GlaSampleKernelIdeal Cert.GlaSampleKernelIdeal.Gen Cert.Gla

variable (m : (ℓ : Loc nD τ sig) → Buf (Elt Ideal) ℓ)

/-- What the store of head 0 leaves: the chunk's new state. -/
theorem head0 (k g : FVec Ideal S1x16x128 .f32) (v : FVec Ideal S1x16x256 .f32) (s : FVec Ideal S1x1x256x128 .f32) (hg : ∀ i, g i ≠ (⊤ : EReal)) (x : S1x1x256x128.Idx) :
    k0_pay30 (F := Ideal) (k0_pay6 v) (k0_pay8 g) (k0_pay27 s) (k0_pay29 (k0_pay5 k) (k0_pay7 g) (k0_pay8 g)) x
      = next (fun j => k (ix3 0 j (x 3))) (fun j => v (ix3 0 j (x 2))) (fun j => g (ix3 0 j (x 3))) (s x) := by
  pointwise [k0_pay30, k0_pay6, k0_pay8, k0_pay27, k0_pay29, k0_pay5, k0_pay7, k0_pay3]
  exact chunk (n := 15) (by omega) _ _ _ (fun j => hg _) _ _ rfl

/-- The same store of head 1. -/
theorem head1 (k g : FVec Ideal S1x16x128 .f32) (v : FVec Ideal S1x16x256 .f32) (s : FVec Ideal S1x1x256x128 .f32) (hg : ∀ i, g i ≠ (⊤ : EReal)) (x : S1x1x256x128.Idx) :
    k0_pay57 (F := Ideal) (k0_pay33 k) (k0_pay34 v) (k0_pay35 k0_pay3 g) (k0_pay36 k0_pay3 g) s x
      = next (fun j => k (ix3 0 j (x 3))) (fun j => v (ix3 0 j (x 2))) (fun j => g (ix3 0 j (x 3))) (s x) := by
  pointwise [k0_pay57, k0_pay55, k0_pay33, k0_pay34, k0_pay35, k0_pay36, k0_pay3]
  exact chunk (n := 15) (by omega) _ _ _ (fun j => hg _) _ _ rfl

/-- The same store of head 2. -/
theorem head2 (k g : FVec Ideal S1x16x128 .f32) (v : FVec Ideal S1x16x256 .f32) (s : FVec Ideal S1x1x256x128 .f32) (hg : ∀ i, g i ≠ (⊤ : EReal)) (x : S1x1x256x128.Idx) :
    k0_pay91 (F := Ideal) (k0_pay61 k) (k0_pay62 v) (k0_pay68 k0_pay3 (k0_pay66 g) (k0_pay67 k0_pay3 g)) (k0_pay69 k0_pay3 (k0_pay66 g) (k0_pay67 k0_pay3 g)) (k0_pay87 s) x
      = next (fun j => k (ix3 0 j (x 3))) (fun j => v (ix3 0 j (x 2))) (fun j => g (ix3 0 j (x 3))) (s x) := by
  pointwise [k0_pay91, k0_pay61, k0_pay62, k0_pay63, k0_pay64, k0_pay65, k0_pay66, k0_pay67, k0_pay68, k0_pay69, k0_pay87, k0_pay88, k0_pay89, k0_pay90, k0_pay3]
  exact chunk (n := 15) (by omega) _ _ _ (fun j => hg _) _ _ rfl

/-- The same store of head 3. -/
theorem head3 (k g : FVec Ideal S1x16x128 .f32) (v : FVec Ideal S1x16x256 .f32) (s : FVec Ideal S1x1x256x128 .f32) (hg : ∀ i, g i ≠ (⊤ : EReal)) (x : S1x1x256x128.Idx) :
    k0_pay118 (F := Ideal) (k0_pay95 k) (k0_pay96 v) (k0_pay97 k0_pay3 g) (k0_pay98 k0_pay3 g) s x
      = next (fun j => k (ix3 0 j (x 3))) (fun j => v (ix3 0 j (x 2))) (fun j => g (ix3 0 j (x 3))) (s x) := by
  pointwise [k0_pay118, k0_pay116, k0_pay117, k0_pay95, k0_pay96, k0_pay97, k0_pay98, k0_pay3]
  exact chunk (n := 15) (by omega) _ _ _ (fun j => hg _) _ _ rfl

/-- The state after the chunk, of all four heads, from one batch row's blocks. -/
def BLOCK (k g : FVec Ideal S1x16x512 .f32) (v : FVec Ideal S1x16x1024 .f32) (s : FVec Ideal S1x4x256x128 .f32) : FVec Ideal S1x4x256x128 .f32 := fun y =>
  next (fun j => k (ix3 0 j ⟨128 * (y 1).val + (y 3).val, by have : (y 1).val < 4 := (y 1).isLt; have : (y 3).val < 128 := (y 3).isLt; omega⟩))
    (fun j => v (ix3 0 j ⟨256 * (y 1).val + (y 2).val, by have : (y 1).val < 4 := (y 1).isLt; have : (y 2).val < 256 := (y 2).isLt; omega⟩))
    (fun j => g (ix3 0 j ⟨128 * (y 1).val + (y 3).val, by have : (y 1).val < 4 := (y 1).isLt; have : (y 3).val < 128 := (y 3).isLt; omega⟩))
    (s y)

/-- One head's new state, read off the whole blocks, is that head's part of the state. -/
theorem block_piece (k g : FVec Ideal S1x16x512 .f32) (v : FVec Ideal S1x16x1024 .f32) (s : FVec Ideal S1x4x256x128 .f32) (o p h : ℕ) (ho : o = 128 * h) (hp : p = 256 * h)
    (inbk : ∀ a, (![0, 0, o] : Fin 3 → ℕ) a + (![1, 16, 128] : Fin 3 → ℕ) a ≤ S1x16x512.size a)
    (inbv : ∀ a, (![0, 0, p] : Fin 3 → ℕ) a + (![1, 16, 256] : Fin 3 → ℕ) a ≤ S1x16x1024.size a)
    (inbs : ∀ a, (![0, h, 0, 0] : Fin 4 → ℕ) a + (![1, 1, 256, 128] : Fin 4 → ℕ) a ≤ S1x4x256x128.size a) (x : S1x1x256x128.Idx) :
    next (fun j => k ((Rect.unit (s := S1x16x512) ![0, 0, o] ![1, 16, 128] inbk).idx (ix3 0 j (x 3) : S1x16x128.Idx)))
      (fun j => v ((Rect.unit (s := S1x16x1024) ![0, 0, p] ![1, 16, 256] inbv).idx (ix3 0 j (x 2) : S1x16x256.Idx)))
      (fun j => g ((Rect.unit (s := S1x16x512) ![0, 0, o] ![1, 16, 128] inbk).idx (ix3 0 j (x 3) : S1x16x128.Idx)))
      (s ((Rect.unit (s := S1x4x256x128) ![0, h, 0, 0] ![1, 1, 256, 128] inbs).idx x))
      = BLOCK k g v s ((Rect.unit (s := S1x4x256x128) ![0, h, 0, 0] ![1, 1, 256, 128] inbs).emb x) := by
  have x0 : (x 0).val < 1 := (x 0).isLt
  have x1 : (x 1).val < 1 := (x 1).isLt
  have h4 : h < 4 := by
    have : h + 1 ≤ 4 := inbs 1
    omega
  have e : (Rect.unit (s := S1x4x256x128) ![0, h, 0, 0] ![1, 1, 256, 128] inbs).emb x = (ix4 0 ⟨h, h4⟩ (x 2) (x 3) : S1x4x256x128.Idx) := by
    funext a
    refine Fin.ext ?_
    rw [ValueKit.rect_emb_unit_val]
    fin_cases a
    · show 0 + (x 0).val = 0
      omega
    · show h + (x 1).val = h
      omega
    · exact Nat.zero_add _
    · exact Nat.zero_add _
  rw [e]
  subst ho hp
  pointwise [BLOCK]

theorem point8 (c : Dev nD) (t : Fin cfg0.N) (hg : ∀ i, iblk m c 3 t i ≠ (⊤ : EReal)) (y : S1x4x256x128.Idx) :
    (outsAt0 m c t).2 y = BLOCK (iblk m c 1 t) (iblk m c 3 t) (iblk m c 2 t) (iblk m c 6 t) y := by
  unfold outsAt0
  dsimp only
  frame_out
  simp (disch := decide) only [↓View.readCov_skip, ↓View.readCov_fill]
  have e : k0_pay2 (F := Ideal) (iblk m c 6 t) = iblk m c 6 t := funext fun i => by pointwise [k0_pay2]
  rw [e]
  clear e
  generalize iblk m c 1 t = k, iblk m c 3 t = g, iblk m c 2 t = v, iblk m c 6 t = s at hg ⊢
  refine View.canon_append_of_piecesOf (Val := Elt Ideal) (e := .f32) (BLOCK k g v s) [_] [_, _, _, _] ⟨fun x => ?_, fun x => ?_, fun x => ?_, fun x => ?_, trivial⟩ y ?_
  · exact (head3 _ _ _ _ (fun i => hg _) x).trans (block_piece k g v s 384 768 3 rfl rfl _ _ _ x)
  · exact (head2 _ _ _ _ (fun i => hg _) x).trans (block_piece k g v s 256 512 2 rfl rfl _ _ _ x)
  · exact (head1 _ _ _ _ (fun i => hg _) x).trans (block_piece k g v s 128 256 1 rfl rfl _ _ _ x)
  · exact (head0 _ _ _ _ (fun i => hg _) x).trans (block_piece k g v s 0 0 0 rfl rfl _ _ _ x)
  · exact View.cover_of_tiledL _ ![1, 1, 256, 128] rfl y

theorem idx : ∀ t : Fin cfg0.N, win0_1.index t = ![t.val, 0, 1] ∧ win0_2.index t = ![t.val, 0, 0] ∧ win0_3.index t = ![t.val, 0, 0]
    ∧ win0_6.index t = ![t.val, 0, 0, 0] ∧ win0_8.index t = ![t.val, 0, 0, 0] ∧ t.val < 32 :=
  (by decide +kernel : ∀ t : Fin grid0.N, _)

/-- The state after the chunk, of every batch row. -/
def STATE (qk v : FVec Ideal S32x16x1024 .f32) (g : FVec Ideal S32x16x512 .f32) (s : FVec Ideal S32x4x256x128 .f32) : FVec Ideal S32x4x256x128 .f32 := fun y =>
  next (fun j => qk (ix3 (y 0) j ⟨512 + (128 * (y 1).val + (y 3).val), by have : (y 1).val < 4 := (y 1).isLt; have : (y 3).val < 128 := (y 3).isLt; omega⟩))
    (fun j => v (ix3 (y 0) j ⟨256 * (y 1).val + (y 2).val, by have : (y 1).val < 4 := (y 1).isLt; have : (y 2).val < 256 := (y 2).isLt; omega⟩))
    (fun j => g (ix3 (y 0) j ⟨128 * (y 1).val + (y 3).val, by have : (y 1).val < 4 := (y 1).isLt; have : (y 3).val < 128 := (y 3).isLt; omega⟩))
    (s y)

theorem final8 (c : Dev nD) (hg : ∀ i, V m c main_v10 i ≠ (⊤ : EReal)) :
    (dats m 0 c).arrAt 8 cfg0.N = STATE (V m c main_v7) (V m c main_v8) (V m c main_v10) (V m c main_v12) := by
  refine (dats m 0 c).arrAt_eq_of_covers 8 _ (by decide +kernel) fun t _ y => ?_
  blk_simp
  rw [after0_8]
  refine (point8 m c t ?_ y).trans ?_
  · intro i
    exact hg _
  · pointwise [BLOCK, STATE]
    blk_point [iblk, idx t]

/-- The gates' arguments. -/
abbrev PRE (x : FVec Ideal S32x8x16 .f32) (w : FVec Ideal S16x512 .f32) (b : FVec Ideal S512 .f32) : FVec Ideal S32x8x512 .f32 :=
  addf (Host.dotGeneral dot_S32x8x16_S16x512_S32x8x512_2_0_01_1_n_n none x w) (broadcastInDim S32x8x512 ![0, 1, 2] bcast_S1x1x512_S32x8x512_0_1_2 (broadcastInDim S1x1x512 ![2] bcast_S512_S1x1x512_2 b))

/-- The logarithms of the gates. -/
abbrev GATE (x : FVec Ideal S32x8x512 .f32) : FVec Ideal S32x8x512 .f32 :=
  let z : FVec Ideal S32x8x512 .f32 := broadcastInDim S32x8x512 ![] bcast_S_S32x8x512 (constant S_ .f32 0x00000000#32)
  let n := Host.negf x
  let d := subf n z
  Host.divf (Host.negf (select (cmpf .une d d) (addf n z) (addf (maximumf n z) (Host.log1p (Host.exp (Host.negf (Host.absf d)))))))
    (broadcastInDim S32x8x512 ![] bcast_S_S32x8x512 (constant S_ .f32 0x41800000#32))

theorem gate_fin (x : FVec Ideal S32x8x512 .f32) (i : S32x8x512.Idx) : GATE x i ≠ (⊤ : EReal) := by
  pointwise [GATE]
  rw [if_neg (by simp)]
  exact gate_ne_top _ _

/-- Eight steps of zeros after the given eight. -/
abbrev PAD (x : FVec Ideal S32x8x1024 .f32) : FVec Ideal S32x16x1024 .f32 :=
  pad S32x16x1024 ![0, 0, 0] ![0, 8, 0] ![0, 0, 0] x (sitofp .f32 (constantI S_ 32 0#32)) pads_S32x8x1024_S32x16x1024_000_080_000 h_S_

/-- The same of the gates. -/
abbrev PADG (x : FVec Ideal S32x8x512 .f32) : FVec Ideal S32x16x512 .f32 :=
  pad S32x16x512 ![0, 0, 0] ![0, 8, 0] ![0, 0, 0] x (sitofp .f32 (constantI S_ 32 0#32)) pads_S32x8x512_S32x16x512_000_080_000 h_S_

theorem keys_eq (c : Dev nD) : V m c main_v7 = PAD (m ((c : Thread nD τ).loc main_arg0)) := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem values_eq (c : Dev nD) : V m c main_v8 = PAD (m ((c : Thread nD τ).loc main_arg1)) := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem gates_eq (c : Dev nD) : V m c main_v10 = PADG (GATE (PRE (m ((c : Thread nD τ).loc main_arg2)) (m ((c : Thread nD τ).loc main_arg5)) (m ((c : Thread nD τ).loc main_arg6)))) := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem old_eq (c : Dev nD) : V m c main_v12 = transpose S32x4x256x128 [0, 1, 3, 2] (m ((c : Thread nD τ).loc main_arg4)) transposes_S32x4x128x256_S32x4x256x128_0_1_3_2 := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results

theorem zero_word : (FloatOps.sitofp .f32 (0#32) : Ideal .f32) = (0 : EReal) := by
  show (((0#32 : BitVec 32).toInt : ℝ) : EReal) = 0
  norm_num

theorem padg_fin (x : FVec Ideal S32x8x512 .f32) (h : ∀ i, x i ≠ (⊤ : EReal)) (i : S32x16x512.Idx) : PADG x i ≠ (⊤ : EReal) := by
  pointwise [PADG]
  split
  · exact h _
  · rw [zero_word]
    simp

/-- What the program leaves: the state from the eight given steps. -/
theorem state_padded (qk v : FVec Ideal S32x8x1024 .f32) (g : FVec Ideal S32x8x512 .f32) (s : FVec Ideal S32x4x256x128 .f32) (y : S32x4x256x128.Idx) :
    STATE (PAD qk) (PAD v) (PADG g) s y
      = next (fun j : Fin 8 => qk (ix3 (y 0) j ⟨512 + (128 * (y 1).val + (y 3).val), by have : (y 1).val < 4 := (y 1).isLt; have : (y 3).val < 128 := (y 3).isLt; omega⟩))
        (fun j => v (ix3 (y 0) j ⟨256 * (y 1).val + (y 2).val, by have : (y 1).val < 4 := (y 1).isLt; have : (y 2).val < 256 := (y 2).isLt; omega⟩))
        (fun j => g (ix3 (y 0) j ⟨128 * (y 1).val + (y 3).val, by have : (y 1).val < 4 := (y 1).isLt; have : (y 3).val < 128 := (y 3).isLt; omega⟩))
        (s y) := by
  unfold STATE
  refine (next_padded (n := 8) (p := 8) _ _ _ _ (fun j => ?_) (fun j => ?_)).trans ?_
  · pointwise [PAD]
    rw [dif_neg (fun q => by have h := q.1; simp at h), zero_word]
  · pointwise [PADG]
    rw [dif_neg (fun q => by have h := q.1; simp at h), zero_word]
  · congr 1
    all_goals funext j
    all_goals pointwise [PAD, PADG]
    · exact dif_pos ⟨j.isLt, by have : (y 1).val < 4 := (y 1).isLt; have : (y 3).val < 128 := (y 3).isLt; omega⟩
    · exact dif_pos ⟨j.isLt, by have : (y 1).val < 4 := (y 1).isLt; have : (y 2).val < 256 := (y 2).isLt; omega⟩
    · exact dif_pos ⟨j.isLt, by have : (y 1).val < 4 := (y 1).isLt; have : (y 3).val < 128 := (y 3).isLt; omega⟩

end Cert.GlaSampleKernelIdeal.Value
-- ==== Proof.GlaSampleRef.lean ====
module

public import proofs.«01_k».proof.Proof.Gen.GlaSampleReferenceIdeal.Run
public import proofs.«01_k».proof.Proof.GlaMath
public import Idealize.ShloMosaic.Lib.DynamicIndex

@[expose] public section

/-! What one trip of the reference's loop over the chunks makes of the state. -/

set_option maxRecDepth 16384

noncomputable section

open Idealize.ShloMosaic Idealize.ShloMosaic.TcCoe Idealize.SL.Sem
open Idealize.ShloMosaic.StableHlo

namespace Cert.GlaSampleReferenceIdeal.Value

open Cert.GlaSampleReferenceIdeal Cert.GlaSampleReferenceIdeal.Gen Cert.Gla

/-- Where a trip's slices begin: at the chunk's number on the first axis. -/
abbrev START (w : IVec S_ 32) : Fin 5 → Int := fun k =>
  (((![w, constantI S_ 32 0#32, constantI S_ 32 0#32, constantI S_ 32 0#32, constantI S_ 32 0#32] : Fin 5 → (⟨S_, .i32⟩ : BufTy).Contents (Elt Ideal))) k (Shape.Idx.first h_S_)).toInt

theorem start_val (n : ℕ) (hn : n < 1) (a : Fin 5) : START (fun _ => BitVec.ofNat 32 n) a = ((![n, 0, 0, 0, 0] : Fin 5 → ℕ) a : ℤ) := by
  fin_cases a
  · exact toInt_ofNat_of_lt (by omega)
  all_goals rfl

theorem slices128 (n : ℕ) (hn : n < 1) : S1x32x4x8x128.Slices ![n, 0, 0, 0, 0] S1x32x4x8x128 :=
  ⟨rfl, fun a => by fin_cases a <;> first | exact Nat.succ_le_of_lt hn | exact le_refl _⟩

theorem slices256 (n : ℕ) (hn : n < 1) : S1x32x4x8x256.Slices ![n, 0, 0, 0, 0] S1x32x4x8x256 :=
  ⟨rfl, fun a => by fin_cases a <;> first | exact Nat.succ_le_of_lt hn | exact le_refl _⟩

/-- The running sums of a chunk. -/
theorem sums (G : FVec Ideal S1x32x4x8x128 .f32) (n : ℕ) (hn : n < 1) (i : S32x4x8x128.Idx) :
    Host.reduceWindowAdd (F := Ideal) ![1, 1, 8, 1] ![1, 1, 1, 1] ![0, 0, 7, 0] ![0, 0, 0, 0] (shapeCast S32x4x8x128 (extractStridedSlice S1x32x4x8x128 ![n, 0, 0, 0, 0] G (slices128 n hn)) shapeCasts_S1x32x4x8x128_S32x4x8x128)
        (broadcastInDim S_ ![] bcast_S_S_ (constant S_ .f32 0x00000000#32)) reduceWindows_S32x4x8x128_S32x4x8x128_w1s1p0_0_w1s1p0_0_w8s1p7_0_w1s1p0_0 h_S_ i
      = upTo (fun s => G (ix5 ⟨n, hn⟩ (i 0) (i 1) s (i 3))) (i 2) := by
  refine (running (n := 7) _ _ _ _ ?_ i).trans ?_
  · pointwise
  · congr 1
    funext s
    pointwise

/-- The new state from the chunk's running sums `b` and their last row `l`. -/
theorem update (K : FVec Ideal S1x32x4x8x128 .f32) (W : FVec Ideal S1x32x4x8x256 .f32) (S : FVec Ideal S32x4x128x256 .f32) (n : ℕ) (hn : n < 1)
    (b : FVec Ideal S32x4x8x128 .f32) (l : FVec Ideal S32x4x1x128 .f32) (y : S32x4x128x256.Idx) :
    addf (mulf (broadcastInDim S32x4x128x256 ![0, 1, 2, 3] bcast_S32x4x128x1_S32x4x128x256_0_1_2_3 (broadcastInDim S32x4x128x1 ![0, 1, 2] bcast_S32x4x128_S32x4x128x1_0_1_2 (Host.exp (shapeCast S32x4x128 l shapeCasts_S32x4x1x128_S32x4x128)))) S)
        (Host.dotGeneral dot_S32x4x8x128_S32x4x8x256_S32x4x128x256_2_2_3_3_01_01 none
          (mulf (shapeCast S32x4x8x128 (extractStridedSlice S1x32x4x8x128 ![n, 0, 0, 0, 0] K (slices128 n hn)) shapeCasts_S1x32x4x8x128_S32x4x8x128)
            (Host.exp (subf (broadcastInDim S32x4x8x128 ![0, 1, 2, 3] bcast_S32x4x1x128_S32x4x8x128_0_1_2_3 l) b)))
          (shapeCast S32x4x8x256 (extractStridedSlice S1x32x4x8x256 ![n, 0, 0, 0, 0] W (slices256 n hn)) shapeCasts_S1x32x4x8x256_S32x4x8x256)) y
      = Ideal.exp (l (ix4 (y 0) (y 1) 0 (y 2))) * S y
        + ∑ j : Fin 8, K (ix5 ⟨n, hn⟩ (y 0) (y 1) j (y 2)) * Ideal.exp (l (ix4 (y 0) (y 1) 0 (y 2)) - b (ix4 (y 0) (y 1) j (y 2))) * W (ix5 ⟨n, hn⟩ (y 0) (y 1) j (y 3)) := by
  pointwise

theorem trip (V : Valuation τ sig (Elt Ideal)) (n : ℕ) (hn : n < 1) (h : V (Proc.devRef .tc main_v17_3) = fun _ => BitVec.ofNat 32 n) (y : S32x4x128x256.Idx)
    (K G : FVec Ideal S1x32x4x8x128 .f32) (W : FVec Ideal S1x32x4x8x256 .f32) (S : FVec Ideal S32x4x128x256 .f32)
    (hK : V (Proc.devRef .tc main_v17_0) = K) (hW : V (Proc.devRef .tc main_v17_1) = W) (hG : V (Proc.devRef .tc main_v17_2) = G) (hS : V (Proc.devRef .tc main_v17_4) = S) :
    step_main_v17_4 V y = next (fun j => K (ix5 ⟨n, hn⟩ (y 0) (y 1) j (y 2))) (fun j => W (ix5 ⟨n, hn⟩ (y 0) (y 1) j (y 3)))
      (fun j => G (ix5 ⟨n, hn⟩ (y 0) (y 1) j (y 2))) (S y) := by
  have b : ∀ i, res_main_while0b_v21 V i = upTo (fun s => G (ix5 ⟨n, hn⟩ (i 0) (i 1) s (i 3))) (i 2) := fun i => by
    unfold res_main_while0b_v21
    rw [hG, h, Host.dynamicSlice_eq_extractStridedSlice (off := ![n, 0, 0, 0, 0]) _ _ _ _ (slices128 n hn) (start_val n hn)]
    exact sums G n hn i
  have l : ∀ i, res_main_while0b_v22 V i = ∑ s, G (ix5 ⟨n, hn⟩ (i 0) (i 1) s (i 3)) := fun i => by
    rw [← upTo_last]
    unfold res_main_while0b_v22
    refine Eq.trans ?_ (b (ix4 (i 0) (i 1) 7 (i 3)))
    pointwise
  unfold step_main_v17_4
  rw [hK, hW, hS, h, Host.dynamicSlice_eq_extractStridedSlice (off := ![n, 0, 0, 0, 0]) _ _ _ _ (slices128 n hn) (start_val n hn),
    Host.dynamicSlice_eq_extractStridedSlice (off := ![n, 0, 0, 0, 0]) _ _ _ _ (slices256 n hn) (start_val n hn)]
  refine (update K W S n hn _ _ y).trans ?_
  unfold next
  rw [l]
  refine congrArg _ (Finset.sum_congr rfl fun j _ => ?_)
  rw [b]
  rfl

variable (m : (ℓ : Loc nD τ sig) → Buf (Elt Ideal) ℓ)

/-- The gates' arguments. -/
abbrev PRE (x : FVec Ideal S32x8x16 .f32) (w : FVec Ideal S16x512 .f32) (b : FVec Ideal S512 .f32) : FVec Ideal S32x8x512 .f32 :=
  addf (Host.dotGeneral dot_S32x8x16_S16x512_S32x8x512_2_0_01_1_n_n none x w) (broadcastInDim S32x8x512 ![0, 1, 2] bcast_S1x1x512_S32x8x512_0_1_2 (broadcastInDim S1x1x512 ![2] bcast_S512_S1x1x512_2 b))

/-- The logarithms of the gates. -/
abbrev GATE (x : FVec Ideal S32x8x512 .f32) : FVec Ideal S32x8x512 .f32 :=
  let z : FVec Ideal S32x8x512 .f32 := broadcastInDim S32x8x512 ![] bcast_S_S32x8x512 (constant S_ .f32 0x00000000#32)
  let n := Host.negf x
  let d := subf n z
  Host.divf (Host.negf (select (cmpf .une d d) (addf n z) (addf (maximumf n z) (Host.log1p (Host.exp (Host.negf (Host.absf d)))))))
    (broadcastInDim S32x8x512 ![] bcast_S_S32x8x512 (constant S_ .f32 0x41800000#32))

abbrev KEYS (x : FVec Ideal S32x8x1024 .f32) : FVec Ideal S1x32x4x8x128 .f32 :=
  transpose S1x32x4x8x128 [1, 0, 3, 2, 4] (shapeCast S32x1x8x4x128 (shapeCast S32x8x4x128 (extractStridedSlice S32x8x512 ![0, 0, 512] x slices_S32x8x1024_S32x8x512_0_0_512) shapeCasts_S32x8x512_S32x8x4x128) shapeCasts_S32x8x4x128_S32x1x8x4x128) transposes_S32x1x8x4x128_S1x32x4x8x128_1_0_3_2_4

abbrev VALUES (x : FVec Ideal S32x8x1024 .f32) : FVec Ideal S1x32x4x8x256 .f32 :=
  transpose S1x32x4x8x256 [1, 0, 3, 2, 4] (shapeCast S32x1x8x4x256 (shapeCast S32x8x4x256 x shapeCasts_S32x8x1024_S32x8x4x256) shapeCasts_S32x8x4x256_S32x1x8x4x256) transposes_S32x1x8x4x256_S1x32x4x8x256_1_0_3_2_4

abbrev GATES (x : FVec Ideal S32x8x512 .f32) : FVec Ideal S1x32x4x8x128 .f32 :=
  transpose S1x32x4x8x128 [1, 0, 3, 2, 4] (shapeCast S32x1x8x4x128 (shapeCast S32x8x4x128 x shapeCasts_S32x8x512_S32x8x4x128) shapeCasts_S32x8x4x128_S32x1x8x4x128) transposes_S32x1x8x4x128_S1x32x4x8x128_1_0_3_2_4

theorem entry0 (c : Dev nD) : entryContents preI m c (Proc.devRef .tc main_v17_0) = KEYS (m ((c : Thread nD τ).loc main_arg0)) := by
  simp only [entryContents, afterL_cons, afterL_nil]
  after_reads_simp
  rfl

theorem entry1 (c : Dev nD) : entryContents preI m c (Proc.devRef .tc main_v17_1) = VALUES (m ((c : Thread nD τ).loc main_arg1)) := by
  simp only [entryContents, afterL_cons, afterL_nil]
  after_reads_simp
  rfl

theorem entry2 (c : Dev nD) : entryContents preI m c (Proc.devRef .tc main_v17_2) = GATES (GATE (PRE (m ((c : Thread nD τ).loc main_arg2)) (m ((c : Thread nD τ).loc main_arg5)) (m ((c : Thread nD τ).loc main_arg6)))) := by
  simp only [entryContents, afterL_cons, afterL_nil]
  after_reads_simp
  rfl

theorem entry4 (c : Dev nD) : entryContents preI m c (Proc.devRef .tc main_v17_4) = m ((c : Thread nD τ).loc main_arg4) := by
  simp only [entryContents, afterL_cons, afterL_nil]
  after_reads_simp
  rfl

/-- What the reference leaves of the state. -/
abbrev LEFT (qk v : FVec Ideal S32x8x1024 .f32) (g : FVec Ideal S32x8x512 .f32) (s : FVec Ideal S32x4x128x256 .f32) : FVec Ideal S32x4x128x256 .f32 := fun y =>
  next (fun j : Fin 8 => KEYS qk (ix5 (0 : Fin 1) (y 0) (y 1) j (y 2))) (fun j => VALUES v (ix5 (0 : Fin 1) (y 0) (y 1) j (y 3)))
    (fun j => GATES g (ix5 (0 : Fin 1) (y 0) (y 1) j (y 2))) (s y)

theorem left_eq (c : Dev nD) : (STEP^[1] (entryContents preI m c)) (Proc.devRef .tc main_v17_4)
    = LEFT (m ((c : Thread nD τ).loc main_arg0)) (m ((c : Thread nD τ).loc main_arg1))
        (GATE (PRE (m ((c : Thread nD τ).loc main_arg2)) (m ((c : Thread nD τ).loc main_arg5)) (m ((c : Thread nD τ).loc main_arg6)))) (m ((c : Thread nD τ).loc main_arg4)) := by
  refine (STEP_main_v17_4 (entryContents preI m c)).trans ?_
  funext y
  exact trip _ 0 (by decide) (ctr_entry m c) y _ _ _ _ (entry0 m c) (entry1 m c) (entry2 m c) (entry4 m c)

end Cert.GlaSampleReferenceIdeal.Value
-- ==== Proof.GlaSampleClaim.lean ====
module

public import proofs.«01_k».proof.Defs
public import proofs.«01_k».proof.Proof.GlaSampleValue
public import proofs.«01_k».proof.Proof.GlaSampleRef

@[expose] public section

set_option maxRecDepth 16384

noncomputable section

open Idealize.ShloMosaic Idealize.ShloMosaic.TcCoe Idealize.SL.Sem
open Cert.Gla

namespace Cert.Proof

theorem gla_sample_reference_frame : Cert.quiescent_GlaSampleReferenceIdeal (hGlaSampleReferenceIdeal := Cert.GlaSampleReferenceIdeal.Gen.facts) := fun m g _ =>
  (θ_run _ _ _).mono (fun r h => ⟨fun c => (h c).2, sem_eq_zero_of_no_sems (by decide) r.2⟩) (Cert.GlaSampleReferenceIdeal.Value.run m g)

/-- Both make the same of the state the call begins with. -/
theorem gla_sample_state (qk v : FVec Ideal Cert.GlaSampleKernelIdeal.S32x8x1024 .f32) (g : FVec Ideal Cert.GlaSampleKernelIdeal.S32x8x512 .f32)
    (s : FVec Ideal Cert.GlaSampleKernelIdeal.S32x4x128x256 .f32) :
    transpose Cert.GlaSampleKernelIdeal.S32x4x128x256 [0, 1, 3, 2]
        (Cert.GlaSampleKernelIdeal.Value.STATE (Cert.GlaSampleKernelIdeal.Value.PAD qk) (Cert.GlaSampleKernelIdeal.Value.PAD v) (Cert.GlaSampleKernelIdeal.Value.PADG g)
          (transpose Cert.GlaSampleKernelIdeal.S32x4x256x128 [0, 1, 3, 2] s Cert.GlaSampleKernelIdeal.Gen.transposes_S32x4x128x256_S32x4x256x128_0_1_3_2))
        Cert.GlaSampleKernelIdeal.Gen.transposes_S32x4x256x128_S32x4x128x256_0_1_3_2
      = Cert.GlaSampleReferenceIdeal.Value.LEFT qk v g s := by
  funext y
  pointwise [Cert.GlaSampleReferenceIdeal.Value.LEFT]
  rw [Cert.GlaSampleKernelIdeal.Value.state_padded]
  pointwise
  congr 1
  all_goals funext j
  all_goals congr 2
  all_goals refine Fin.ext ?_
  · show 512 + (128 * (y 1).val + (y 2).val) = 512 + ((y 1).val * 128 + (y 2).val)
    rw [Nat.mul_comm]
  · show 256 * (y 1).val + (y 3).val = (y 1).val * 256 + (y 3).val
    rw [Nat.mul_comm]
  · show 128 * (y 1).val + (y 2).val = (y 1).val * 128 + (y 2).val
    rw [Nat.mul_comm]

open Cert.GlaSampleKernelIdeal.Value Cert.GlaSampleKernelIdeal Cert.GlaSampleKernelIdeal.Gen in
theorem gla_sample_tail (m : (ℓ : Loc nD τ sig) → Buf (Elt Ideal) ℓ) (c : Dev nD) :
    Pipeline.afterTail₀ cfgs (dats m) 0 (V0 m) [hostOps1] c main_v14
      = transpose S32x4x128x256 [0, 1, 3, 2]
        (STATE (PAD (m ((c : Thread nD τ).loc main_arg0))) (PAD (m ((c : Thread nD τ).loc main_arg1)))
          (PADG (GATE (PRE (m ((c : Thread nD τ).loc main_arg2)) (m ((c : Thread nD τ).loc main_arg5)) (m ((c : Thread nD τ).loc main_arg6)))))
          (transpose S32x4x256x128 [0, 1, 3, 2] (m ((c : Thread nD τ).loc main_arg4)) transposes_S32x4x128x256_S32x4x256x128_0_1_3_2))
        transposes_S32x4x256x128_S32x4x128x256_0_1_3_2 := by
  have h : Pipeline.withArrays (cfgs 0).spec c (V0 m c) (fun w => (dats m 0 c).arrAt w (cfgs 0).N) (Proc.devRef .tc main_v13_1)
      = STATE (V m c main_v7) (V m c main_v8) (V m c main_v10) (V m c main_v12) :=
    ((dats m 0 c).withArrays_arrAt sharedIn0 (V0 m c) (fun w => A_eq m c w) 8).trans (final8 m c (fun i => by rw [gates_eq]; exact padg_fin _ (gate_fin _) i))
  unfold Pipeline.afterTail₀
  simp only [hostOps1, List.flatten_cons, List.flatten_nil, List.append_nil, List.cons_append, List.nil_append]
  after_results
  rw [h, keys_eq, values_eq, gates_eq, old_eq]

open Cert.GlaSampleKernelIdeal.Value Cert.GlaSampleKernelIdeal Cert.GlaSampleKernelIdeal.Gen in
theorem gla_sample : Cert.algebraic_GlaSampleKernelIdeal_GlaSampleReferenceIdeal (hGlaSampleKernelIdeal := Cert.GlaSampleKernelIdeal.Gen.facts) (hGlaSampleReferenceIdeal := Cert.GlaSampleReferenceIdeal.Gen.facts) := by
  pair_intro
  · run_from Cert.GlaSampleKernelIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
  · refine θ_run_mono (Cert.GlaSampleReferenceIdeal.Value.run m' g') fun r h c => ?_
    obtain ⟨a0, a1, a2, a3, a4, a5, a6, a7⟩ := hagree c
    obtain ⟨r0, kept⟩ := h c
    refine ⟨r0.trans ?_, kept⟩
    rw [gla_sample_tail, gla_sample_state, Cert.GlaSampleReferenceIdeal.Value.left_eq, a0, a1, a2, a4, a5, a6]
    rfl

end Cert.Proof
end
-- ==== Proof.GlaHeads.lean ====
module

public import proofs.«01_k».proof.Proof.Gen.GlaKernelIdeal.Frame
public import proofs.«01_k».proof.Proof.GlaMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaKernelIdeal.Value

open Cert.GlaKernelIdeal Cert.GlaKernelIdeal.Gen Cert.Gla

variable (m : (ℓ : Loc nD τ sig) → Buf (Elt Ideal) ℓ)

/-- What the store of head 0 leaves: the chunk's new state. -/
theorem head0 (k g : FVec Ideal S1x64x128 .f32) (v : FVec Ideal S1x64x256 .f32) (s : FVec Ideal S1x1x256x128 .f32) (hg : ∀ i, g i ≠ (⊤ : EReal)) (x : S1x1x256x128.Idx) :
    k0_pay100 (F := Ideal) (k0_pay5 k) (k0_pay6 v) (k0_pay7 g) (k0_pay8 g) s x
      = next (fun j => k (ix3 0 j (x 3))) (fun j => v (ix3 0 j (x 2))) (fun j => g (ix3 0 j (x 3))) (s x) := by
  pointwise [k0_pay3, k0_pay5, k0_pay6, k0_pay7, k0_pay8, k0_pay99, k0_pay100]
  exact chunk (n := 63) (by omega) _ _ _ (fun j => hg _) _ _ rfl

/-- The same store of head 1. -/
theorem head1 (k g : FVec Ideal S1x64x128 .f32) (v : FVec Ideal S1x64x256 .f32) (s : FVec Ideal S1x1x256x128 .f32) (hg : ∀ i, g i ≠ (⊤ : EReal)) (x : S1x1x256x128.Idx) :
    k0_pay199 (F := Ideal) (k0_pay104 k) (k0_pay105 v) (k0_pay107 k0_pay3 g) (k0_pay196 s) (k0_pay198 (k0_pay106 k0_pay3 g) (k0_pay107 k0_pay3 g)) x
      = next (fun j => k (ix3 0 j (x 3))) (fun j => v (ix3 0 j (x 2))) (fun j => g (ix3 0 j (x 3))) (s x) := by
  pointwise [k0_pay3, k0_pay104, k0_pay105, k0_pay106, k0_pay107, k0_pay196, k0_pay198, k0_pay199]
  exact chunk (n := 63) (by omega) _ _ _ (fun j => hg _) _ _ rfl

/-- The same store of head 2. -/
theorem head2 (k g : FVec Ideal S1x64x128 .f32) (v : FVec Ideal S1x64x256 .f32) (s : FVec Ideal S1x1x256x128 .f32) (hg : ∀ i, g i ≠ (⊤ : EReal)) (x : S1x1x256x128.Idx) :
    k0_pay299 (F := Ideal) (k0_pay298 (k0_pay202 k) (k0_pay203 v) (k0_pay204 k0_pay3 g) (k0_pay205 k0_pay3 g) s) x
      = next (fun j => k (ix3 0 j (x 3))) (fun j => v (ix3 0 j (x 2))) (fun j => g (ix3 0 j (x 3))) (s x) := by
  pointwise [k0_pay3, k0_pay202, k0_pay203, k0_pay204, k0_pay205, k0_pay296, k0_pay298, k0_pay299]
  exact chunk (n := 63) (by omega) _ _ _ (fun j => hg _) _ _ rfl

/-- The same store of head 3. -/
theorem head3 (k g : FVec Ideal S1x64x128 .f32) (v : FVec Ideal S1x64x256 .f32) (s : FVec Ideal S1x1x256x128 .f32) (hg : ∀ i, g i ≠ (⊤ : EReal)) (x : S1x1x256x128.Idx) :
    k0_pay395 (F := Ideal) (k0_pay302 k) (k0_pay303 v) (k0_pay304 k0_pay3 g) (k0_pay305 k0_pay3 g) s x
      = next (fun j => k (ix3 0 j (x 3))) (fun j => v (ix3 0 j (x 2))) (fun j => g (ix3 0 j (x 3))) (s x) := by
  pointwise [k0_pay3, k0_pay302, k0_pay303, k0_pay304, k0_pay305, k0_pay393, k0_pay395]
  exact chunk (n := 63) (by omega) _ _ _ (fun j => hg _) _ _ rfl

/-- The state after the chunk, of all four heads, from one batch row's blocks. -/
def BLOCK (k g : FVec Ideal S1x64x512 .f32) (v : FVec Ideal S1x64x1024 .f32) (s : FVec Ideal S1x4x256x128 .f32) : FVec Ideal S1x4x256x128 .f32 := fun y =>
  next (fun j => k (ix3 0 j ⟨128 * (y 1).val + (y 3).val, by have : (y 1).val < 4 := (y 1).isLt; have : (y 3).val < 128 := (y 3).isLt; omega⟩))
    (fun j => v (ix3 0 j ⟨256 * (y 1).val + (y 2).val, by have : (y 1).val < 4 := (y 1).isLt; have : (y 2).val < 256 := (y 2).isLt; omega⟩))
    (fun j => g (ix3 0 j ⟨128 * (y 1).val + (y 3).val, by have : (y 1).val < 4 := (y 1).isLt; have : (y 3).val < 128 := (y 3).isLt; omega⟩))
    (s y)

/-- One head's new state, read off the whole blocks, is that head's part of the state. -/
theorem block_piece (k g : FVec Ideal S1x64x512 .f32) (v : FVec Ideal S1x64x1024 .f32) (s : FVec Ideal S1x4x256x128 .f32) (o p h : ℕ) (ho : o = 128 * h) (hp : p = 256 * h)
    (inbk : ∀ a, (![0, 0, o] : Fin 3 → ℕ) a + (![1, 64, 128] : Fin 3 → ℕ) a ≤ S1x64x512.size a)
    (inbv : ∀ a, (![0, 0, p] : Fin 3 → ℕ) a + (![1, 64, 256] : Fin 3 → ℕ) a ≤ S1x64x1024.size a)
    (inbs : ∀ a, (![0, h, 0, 0] : Fin 4 → ℕ) a + (![1, 1, 256, 128] : Fin 4 → ℕ) a ≤ S1x4x256x128.size a) (x : S1x1x256x128.Idx) :
    next (fun j => k ((Rect.unit (s := S1x64x512) ![0, 0, o] ![1, 64, 128] inbk).idx (ix3 0 j (x 3) : S1x64x128.Idx)))
      (fun j => v ((Rect.unit (s := S1x64x1024) ![0, 0, p] ![1, 64, 256] inbv).idx (ix3 0 j (x 2) : S1x64x256.Idx)))
      (fun j => g ((Rect.unit (s := S1x64x512) ![0, 0, o] ![1, 64, 128] inbk).idx (ix3 0 j (x 3) : S1x64x128.Idx)))
      (s ((Rect.unit (s := S1x4x256x128) ![0, h, 0, 0] ![1, 1, 256, 128] inbs).idx x))
      = BLOCK k g v s ((Rect.unit (s := S1x4x256x128) ![0, h, 0, 0] ![1, 1, 256, 128] inbs).emb x) := by
  have x0 : (x 0).val < 1 := (x 0).isLt
  have x1 : (x 1).val < 1 := (x 1).isLt
  have h4 : h < 4 := by
    have : h + 1 ≤ 4 := inbs 1
    omega
  have e : (Rect.unit (s := S1x4x256x128) ![0, h, 0, 0] ![1, 1, 256, 128] inbs).emb x = (ix4 0 ⟨h, h4⟩ (x 2) (x 3) : S1x4x256x128.Idx) := by
    funext a
    refine Fin.ext ?_
    rw [ValueKit.rect_emb_unit_val]
    fin_cases a
    · show 0 + (x 0).val = 0
      omega
    · show h + (x 1).val = h
      omega
    · exact Nat.zero_add _
    · exact Nat.zero_add _
  rw [e]
  subst ho hp
  pointwise [BLOCK]

end Cert.GlaKernelIdeal.Value
end
-- ==== Proof.GlaPoint.lean ====
module

public import proofs.«01_k».proof.Proof.GlaHeads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaKernelIdeal.Value

open Cert.GlaKernelIdeal Cert.GlaKernelIdeal.Gen Cert.Gla

variable (m : (ℓ : Loc nD τ sig) → Buf (Elt Ideal) ℓ)

variable (m : (ℓ : Loc nD τ sig) → Buf (Elt Ideal) ℓ)

/-- The first chunk of a batch row starts from the given state. -/
theorem first (c : Dev nD) (t : Fin cfg0.N) (h0 : t.val % 128 = 0) (hg : ∀ i, iblk m c 3 t i ≠ (⊤ : EReal)) (y : S1x4x256x128.Idx) :
    (outsAt0 m c t.val t.isLt).2 y = BLOCK (iblk m c 1 t) (iblk m c 3 t) (iblk m c 2 t) (iblk m c 6 t) y := by
  rw [outsAt0_A m c t h0]
  dsimp only
  frame_out
  simp (disch := decide) only [↓View.readCov_skip, ↓View.readCov_fill]
  have e : k0_pay2 (F := Ideal) (iblk m c 6 t) = iblk m c 6 t := funext fun i => by pointwise [k0_pay2]
  rw [e]
  clear e
  generalize iblk m c 1 t = k, iblk m c 3 t = g, iblk m c 2 t = v, iblk m c 6 t = s at hg ⊢
  refine View.canon_append_of_piecesOf (Val := Elt Ideal) (e := .f32) (BLOCK k g v s) [_] [_, _, _, _] ⟨fun x => ?_, fun x => ?_, fun x => ?_, fun x => ?_, trivial⟩ y ?_
  · exact (head3 _ _ _ _ (fun i => hg _) x).trans (block_piece k g v s 384 768 3 rfl rfl _ _ _ x)
  · exact (head2 _ _ _ _ (fun i => hg _) x).trans (block_piece k g v s 256 512 2 rfl rfl _ _ _ x)
  · exact (head1 _ _ _ _ (fun i => hg _) x).trans (block_piece k g v s 128 256 1 rfl rfl _ _ _ x)
  · exact (head0 _ _ _ _ (fun i => hg _) x).trans (block_piece k g v s 0 0 0 rfl rfl _ _ _ x)
  · exact View.cover_of_tiledL _ ![1, 1, 256, 128] rfl y

/-- A later chunk starts from what the chunk before it left. -/
theorem later (c : Dev nD) (t : Fin cfg0.N) (h0 : ¬t.val % 128 = 0) (hg : ∀ i, iblk m c 3 t i ≠ (⊤ : EReal)) (y : S1x4x256x128.Idx) :
    (outsAt0 m c t.val t.isLt).2 y
      = BLOCK (iblk m c 1 t) (iblk m c 3 t) (iblk m c 2 t) (outsAt0 m c (t.val - 1) (Nat.lt_of_le_of_lt (Nat.sub_le _ _) t.isLt)).2 y := by
  rw [outsAt0_B m c t h0]
  generalize (outsAt0 m c (t.val - 1) (Nat.lt_of_le_of_lt (Nat.sub_le _ _) t.isLt)).2 = s
  dsimp only
  frame_out
  generalize iblk m c 1 t = k, iblk m c 3 t = g, iblk m c 2 t = v at hg ⊢
  refine View.canon_append_of_piecesOf (Val := Elt Ideal) (e := .f32) (BLOCK k g v s) [] [_, _, _, _] ⟨fun x => ?_, fun x => ?_, fun x => ?_, fun x => ?_, trivial⟩ y ?_
  · exact (head3 _ _ _ _ (fun i => hg _) x).trans (block_piece k g v s 384 768 3 rfl rfl _ _ _ x)
  · exact (head2 _ _ _ _ (fun i => hg _) x).trans (block_piece k g v s 256 512 2 rfl rfl _ _ _ x)
  · exact (head1 _ _ _ _ (fun i => hg _) x).trans (block_piece k g v s 128 256 1 rfl rfl _ _ _ x)
  · exact (head0 _ _ _ _ (fun i => hg _) x).trans (block_piece k g v s 0 0 0 rfl rfl _ _ _ x)
  · exact View.cover_of_tiledL _ ![1, 1, 256, 128] rfl y

theorem idx : ∀ t : Fin cfg0.N, win0_1.index t = ![t.val / 128, t.val % 128, 1] ∧ win0_2.index t = ![t.val / 128, t.val % 128, 0] ∧ win0_3.index t = ![t.val / 128, t.val % 128, 0]
    ∧ win0_6.index t = ![t.val / 128, 0, 0, 0] ∧ win0_8.index t = ![t.val / 128, 0, 0, 0] ∧ t.val < 256 :=
  (by decide +kernel : ∀ t : Fin grid0.N, _)

/-- The chunk `k` makes this of a state. -/
def CHUNK (qk v : FVec Ideal S2x8192x1024 .f32) (g : FVec Ideal S2x8192x512 .f32) (k : ℕ) (h : k < 128) (s : FVec Ideal S2x4x256x128 .f32) : FVec Ideal S2x4x256x128 .f32 := fun y =>
  next (fun j : Fin 64 => qk (ix3 (y 0) ⟨64 * k + j.val, by omega⟩ ⟨512 + (128 * (y 1).val + (y 3).val), by have : (y 1).val < 4 := (y 1).isLt; have : (y 3).val < 128 := (y 3).isLt; omega⟩))
    (fun j => v (ix3 (y 0) ⟨64 * k + j.val, by omega⟩ ⟨256 * (y 1).val + (y 2).val, by have : (y 1).val < 4 := (y 1).isLt; have : (y 2).val < 256 := (y 2).isLt; omega⟩))
    (fun j => g (ix3 (y 0) ⟨64 * k + j.val, by omega⟩ ⟨128 * (y 1).val + (y 3).val, by have : (y 1).val < 4 := (y 1).isLt; have : (y 3).val < 128 := (y 3).isLt; omega⟩))
    (s y)

/-- The state after `k` chunks. -/
def AFTER (qk v : FVec Ideal S2x8192x1024 .f32) (g : FVec Ideal S2x8192x512 .f32) (s : FVec Ideal S2x4x256x128 .f32) : ℕ → FVec Ideal S2x4x256x128 .f32
  | 0 => s
  | k + 1 => if h : k < 128 then CHUNK qk v g k h (AFTER qk v g s k) else 0

theorem after_succ (qk v : FVec Ideal S2x8192x1024 .f32) (g : FVec Ideal S2x8192x512 .f32) (s : FVec Ideal S2x4x256x128 .f32) (k : ℕ) (h : k < 128) :
    AFTER qk v g s (k + 1) = CHUNK qk v g k h (AFTER qk v g s k) := by
  rw [AFTER]
  exact dif_pos h

end Cert.GlaKernelIdeal.Value
end
-- ==== Proof.GlaValue.lean ====
module

public import proofs.«01_k».proof.Proof.GlaPoint
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaKernelIdeal.Value

open Cert.GlaKernelIdeal Cert.GlaKernelIdeal.Gen Cert.Gla

variable (m : (ℓ : Loc nD τ sig) → Buf (Elt Ideal) ℓ)

variable (m : (ℓ : Loc nD τ sig) → Buf (Elt Ideal) ℓ)

theorem keys_block (c : Dev nD) (t : Fin cfg0.N) (hr : t.val / 128 < 2) (j : Fin 64) (l : Fin 512) :
    iblk m c 1 t (ix3 0 j l) = V m c main_arg0 (ix3 (⟨t.val / 128, hr⟩ : Fin 2) (⟨64 * (t.val % 128) + j.val, by omega⟩ : Fin 8192) (⟨512 + l.val, by omega⟩ : Fin 1024) : S2x8192x1024.Idx) := by
  blk_point [iblk, idx t]

theorem values_block (c : Dev nD) (t : Fin cfg0.N) (hr : t.val / 128 < 2) (j : Fin 64) (l : Fin 1024) :
    iblk m c 2 t (ix3 0 j l) = V m c main_arg1 (ix3 (⟨t.val / 128, hr⟩ : Fin 2) (⟨64 * (t.val % 128) + j.val, by omega⟩ : Fin 8192) l : S2x8192x1024.Idx) := by
  blk_point [iblk, idx t]

theorem gates_block (c : Dev nD) (t : Fin cfg0.N) (hr : t.val / 128 < 2) (j : Fin 64) (l : Fin 512) :
    iblk m c 3 t (ix3 0 j l) = V m c main_v6 (ix3 (⟨t.val / 128, hr⟩ : Fin 2) (⟨64 * (t.val % 128) + j.val, by omega⟩ : Fin 8192) l : S2x8192x512.Idx) := by
  blk_point [iblk, idx t]

theorem old_block (c : Dev nD) (t : Fin cfg0.N) (hr : t.val / 128 < 2) (y : S1x4x256x128.Idx) :
    iblk m c 6 t y = V m c main_v8 (ix4 (⟨t.val / 128, hr⟩ : Fin 2) (y 1) (y 2) (y 3) : S2x4x256x128.Idx) := by
  blk_point [iblk, idx t]

theorem next_congr {n : ℕ} {k k' v v' g g' : Fin n → EReal} {S S' : EReal} (hk : ∀ j, k j = k' j) (hv : ∀ j, v j = v' j) (hg : ∀ j, g j = g' j) (hS : S = S') :
    next k v g S = next k' v' g' S' := by
  rw [funext hk, funext hv, funext hg, hS]

/-- A point's block of the state, of its batch row's chunk. -/
theorem block_chunk (c : Dev nD) (t : Fin cfg0.N) (hr : t.val / 128 < 2) (hk : t.val % 128 < 128) (s : FVec Ideal S1x4x256x128 .f32) (S : FVec Ideal S2x4x256x128 .f32) (y : S1x4x256x128.Idx)
    (hs : s y = S (ix4 (⟨t.val / 128, hr⟩ : Fin 2) (y 1) (y 2) (y 3))) :
    BLOCK (iblk m c 1 t) (iblk m c 3 t) (iblk m c 2 t) s y
      = CHUNK (V m c main_arg0) (V m c main_arg1) (V m c main_v6) (t.val % 128) hk S (ix4 (⟨t.val / 128, hr⟩ : Fin 2) (y 1) (y 2) (y 3)) := by
  have y1 : (y 1).val < 4 := (y 1).isLt
  have y2 : (y 2).val < 256 := (y 2).isLt
  have y3 : (y 3).val < 128 := (y 3).isLt
  unfold BLOCK CHUNK
  exact next_congr (fun j => keys_block m c t hr j ⟨128 * (y 1).val + (y 3).val, by omega⟩) (fun j => values_block m c t hr j ⟨256 * (y 1).val + (y 2).val, by omega⟩)
    (fun j => gates_block m c t hr j ⟨128 * (y 1).val + (y 3).val, by omega⟩) hs

/-- What the state's block holds after each point. -/
theorem holds (c : Dev nD) (hg : ∀ i, V m c main_v6 i ≠ (⊤ : EReal)) : ∀ (n : ℕ) (hn : n < cfg0.N) (hr : n / 128 < 2) (y : S1x4x256x128.Idx),
    (outsAt0 m c n hn).2 y = AFTER (V m c main_arg0) (V m c main_arg1) (V m c main_v6) (V m c main_v8) (n % 128 + 1) (ix4 (⟨n / 128, hr⟩ : Fin 2) (y 1) (y 2) (y 3)) := by
  intro n
  induction n with
  | zero =>
    intro hn hr y
    rw [after_succ _ _ _ _ _ (Nat.mod_lt _ (by omega))]
    exact (first m c ⟨0, hn⟩ rfl (fun i => hg _) y).trans (block_chunk m c ⟨0, hn⟩ hr (Nat.mod_lt _ (by omega)) _ _ y (old_block m c ⟨0, hn⟩ hr y))
  | succ n ih =>
    intro hn hr y
    rw [after_succ _ _ _ _ _ (Nat.mod_lt _ (by omega))]
    by_cases h0 : (n + 1) % 128 = 0
    · refine (first m c ⟨n + 1, hn⟩ h0 (fun i => hg _) y).trans (block_chunk m c ⟨n + 1, hn⟩ hr (Nat.mod_lt _ (by omega)) _ _ y ?_)
      refine (old_block m c ⟨n + 1, hn⟩ hr y).trans ?_
      rw [h0]
      rfl
    · refine (later m c ⟨n + 1, hn⟩ h0 (fun i => hg _) y).trans (block_chunk m c ⟨n + 1, hn⟩ hr (Nat.mod_lt _ (by omega)) _ _ y ?_)
      refine (ih (Nat.lt_of_succ_lt hn) (by omega) y).trans ?_
      have e : n % 128 + 1 = (n + 1) % 128 := by omega
      have q : n / 128 = (n + 1) / 128 := by omega
      rw [e]
      congr 2
      exact Fin.ext q

theorem final8 (c : Dev nD) (hg : ∀ i, V m c main_v6 i ≠ (⊤ : EReal)) :
    (dats m 0 c).arrAt 8 cfg0.N = AFTER (V m c main_arg0) (V m c main_arg1) (V m c main_v6) (V m c main_v8) 128 := by
  refine (dats m 0 c).arrAt_eq_of_covers 8 _ (by decide +kernel) fun t ht y => ?_
  have h : t.val % 128 = 127 := (flush0_8 t).mp ht
  have hr : t.val / 128 < 2 := by
    have := (idx t).2.2.2.2.2
    omega
  blk_simp
  rw [after0_8]
  refine (holds m c hg t.val t.isLt hr y).trans ?_
  rw [h]
  generalize AFTER _ _ _ _ _ = A
  blk_point [iblk, idx t]

/-- The gates' arguments. -/
abbrev PRE (x : FVec Ideal S2x8192x16 .f32) (w : FVec Ideal S16x512 .f32) (b : FVec Ideal S512 .f32) : FVec Ideal S2x8192x512 .f32 :=
  addf (Host.dotGeneral dot_S2x8192x16_S16x512_S2x8192x512_2_0_01_1_n_n none x w) (broadcastInDim S2x8192x512 ![0, 1, 2] bcast_S1x1x512_S2x8192x512_0_1_2 (broadcastInDim S1x1x512 ![2] bcast_S512_S1x1x512_2 b))

/-- The logarithms of the gates. -/
abbrev GATE (x : FVec Ideal S2x8192x512 .f32) : FVec Ideal S2x8192x512 .f32 :=
  let z : FVec Ideal S2x8192x512 .f32 := broadcastInDim S2x8192x512 ![] bcast_S_S2x8192x512 (constant S_ .f32 0x00000000#32)
  let n := Host.negf x
  let d := subf n z
  Host.divf (Host.negf (select (cmpf .une d d) (addf n z) (addf (maximumf n z) (Host.log1p (Host.exp (Host.negf (Host.absf d)))))))
    (broadcastInDim S2x8192x512 ![] bcast_S_S2x8192x512 (constant S_ .f32 0x41800000#32))

theorem gate_fin (x : FVec Ideal S2x8192x512 .f32) (i : S2x8192x512.Idx) : GATE x i ≠ (⊤ : EReal) := by
  pointwise [GATE]
  rw [if_neg (by simp)]
  exact gate_ne_top _ _

theorem keys_eq (c : Dev nD) : V m c main_arg0 = m ((c : Thread nD τ).loc main_arg0) := by
  entry_read
  simp only [hostOps0, hostOps0_1, hostOps0_2, List.flatten_cons, List.flatten_nil, List.append_nil, List.cons_append, List.nil_append]
  after_results

theorem values_eq (c : Dev nD) : V m c main_arg1 = m ((c : Thread nD τ).loc main_arg1) := by
  entry_read
  simp only [hostOps0, hostOps0_1, hostOps0_2, List.flatten_cons, List.flatten_nil, List.append_nil, List.cons_append, List.nil_append]
  after_results

theorem gates_eq (c : Dev nD) : V m c main_v6 = GATE (PRE (m ((c : Thread nD τ).loc main_arg2)) (m ((c : Thread nD τ).loc main_arg5)) (m ((c : Thread nD τ).loc main_arg6))) := by
  entry_read
  simp only [hostOps0, hostOps0_1, hostOps0_2, List.flatten_cons, List.flatten_nil, List.append_nil, List.cons_append, List.nil_append]
  after_results
  rfl

theorem old_eq (c : Dev nD) : V m c main_v8 = transpose S2x4x256x128 [0, 1, 3, 2] (m ((c : Thread nD τ).loc main_arg4)) transposes_S2x4x128x256_S2x4x256x128_0_1_3_2 := by
  entry_read
  simp only [hostOps0, hostOps0_1, hostOps0_2, List.flatten_cons, List.flatten_nil, List.append_nil, List.cons_append, List.nil_append]
  after_results

end Cert.GlaKernelIdeal.Value
end
-- ==== Proof.GlaRef.lean ====
module

public import proofs.«01_k».proof.Proof.Gen.GlaReferenceIdeal.Run
public import proofs.«01_k».proof.Proof.GlaMath
public import Idealize.ShloMosaic.Lib.DynamicIndex

@[expose] public section

/-! What one trip of the reference's loop over the chunks makes of the state. -/

set_option maxRecDepth 16384

noncomputable section

open Idealize.ShloMosaic Idealize.ShloMosaic.TcCoe Idealize.SL.Sem
open Idealize.ShloMosaic.StableHlo

namespace Cert.GlaReferenceIdeal.Value

open Cert.GlaReferenceIdeal Cert.GlaReferenceIdeal.Gen Cert.Gla

/-- Where a trip's slices begin: at the chunk's number on the first axis. -/
abbrev START (w : IVec S_ 32) : Fin 5 → Int := fun k =>
  (((![w, constantI S_ 32 0#32, constantI S_ 32 0#32, constantI S_ 32 0#32, constantI S_ 32 0#32] : Fin 5 → (⟨S_, .i32⟩ : BufTy).Contents (Elt Ideal))) k (Shape.Idx.first h_S_)).toInt

theorem start_val (n : ℕ) (hn : n < 128) (a : Fin 5) : START (fun _ => BitVec.ofNat 32 n) a = ((![n, 0, 0, 0, 0] : Fin 5 → ℕ) a : ℤ) := by
  fin_cases a
  · exact toInt_ofNat_of_lt (by omega)
  all_goals rfl

theorem slices128 (n : ℕ) (hn : n < 128) : S128x2x4x64x128.Slices ![n, 0, 0, 0, 0] S1x2x4x64x128 :=
  ⟨rfl, fun a => by fin_cases a <;> first | exact Nat.succ_le_of_lt hn | exact le_refl _⟩

theorem slices256 (n : ℕ) (hn : n < 128) : S128x2x4x64x256.Slices ![n, 0, 0, 0, 0] S1x2x4x64x256 :=
  ⟨rfl, fun a => by fin_cases a <;> first | exact Nat.succ_le_of_lt hn | exact le_refl _⟩

/-- The running sums of a chunk. -/
theorem sums (G : FVec Ideal S128x2x4x64x128 .f32) (n : ℕ) (hn : n < 128) (i : S2x4x64x128.Idx) :
    Host.reduceWindowAdd (F := Ideal) ![1, 1, 64, 1] ![1, 1, 1, 1] ![0, 0, 63, 0] ![0, 0, 0, 0] (shapeCast S2x4x64x128 (extractStridedSlice S1x2x4x64x128 ![n, 0, 0, 0, 0] G (slices128 n hn)) shapeCasts_S1x2x4x64x128_S2x4x64x128)
        (broadcastInDim S_ ![] bcast_S_S_ (constant S_ .f32 0x00000000#32)) reduceWindows_S2x4x64x128_S2x4x64x128_w1s1p0_0_w1s1p0_0_w64s1p63_0_w1s1p0_0 h_S_ i
      = upTo (fun s => G (ix5 ⟨n, hn⟩ (i 0) (i 1) s (i 3))) (i 2) := by
  refine (running (n := 63) _ _ _ _ ?_ i).trans ?_
  · pointwise
  · congr 1
    funext s
    pointwise

/-- The new state from the chunk's running sums `b` and their last row `l`. -/
theorem update (K : FVec Ideal S128x2x4x64x128 .f32) (W : FVec Ideal S128x2x4x64x256 .f32) (S : FVec Ideal S2x4x128x256 .f32) (n : ℕ) (hn : n < 128)
    (b : FVec Ideal S2x4x64x128 .f32) (l : FVec Ideal S2x4x1x128 .f32) (y : S2x4x128x256.Idx) :
    addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 l shapeCasts_S2x4x1x128_S2x4x128)))) S)
        (Host.dotGeneral dot_S2x4x64x128_S2x4x64x256_S2x4x128x256_2_2_3_3_01_01 none
          (mulf (shapeCast S2x4x64x128 (extractStridedSlice S1x2x4x64x128 ![n, 0, 0, 0, 0] K (slices128 n hn)) shapeCasts_S1x2x4x64x128_S2x4x64x128)
            (Host.exp (subf (broadcastInDim S2x4x64x128 ![0, 1, 2, 3] bcast_S2x4x1x128_S2x4x64x128_0_1_2_3 l) b)))
          (shapeCast S2x4x64x256 (extractStridedSlice S1x2x4x64x256 ![n, 0, 0, 0, 0] W (slices256 n hn)) shapeCasts_S1x2x4x64x256_S2x4x64x256)) y
      = Ideal.exp (l (ix4 (y 0) (y 1) 0 (y 2))) * S y
        + ∑ j : Fin 64, K (ix5 ⟨n, hn⟩ (y 0) (y 1) j (y 2)) * Ideal.exp (l (ix4 (y 0) (y 1) 0 (y 2)) - b (ix4 (y 0) (y 1) j (y 2))) * W (ix5 ⟨n, hn⟩ (y 0) (y 1) j (y 3)) := by
  pointwise

theorem trip (V : Valuation τ sig (Elt Ideal)) (n : ℕ) (hn : n < 128) (h : V (Proc.devRef .tc main_v17_3) = fun _ => BitVec.ofNat 32 n) (y : S2x4x128x256.Idx)
    (K G : FVec Ideal S128x2x4x64x128 .f32) (W : FVec Ideal S128x2x4x64x256 .f32) (S : FVec Ideal S2x4x128x256 .f32)
    (hK : V (Proc.devRef .tc main_v17_0) = K) (hW : V (Proc.devRef .tc main_v17_1) = W) (hG : V (Proc.devRef .tc main_v17_2) = G) (hS : V (Proc.devRef .tc main_v17_4) = S) :
    step_main_v17_4 V y = next (fun j => K (ix5 ⟨n, hn⟩ (y 0) (y 1) j (y 2))) (fun j => W (ix5 ⟨n, hn⟩ (y 0) (y 1) j (y 3)))
      (fun j => G (ix5 ⟨n, hn⟩ (y 0) (y 1) j (y 2))) (S y) := by
  have b : ∀ i, res_main_while0b_v21 V i = upTo (fun s => G (ix5 ⟨n, hn⟩ (i 0) (i 1) s (i 3))) (i 2) := fun i => by
    unfold res_main_while0b_v21
    rw [hG, h, Host.dynamicSlice_eq_extractStridedSlice (off := ![n, 0, 0, 0, 0]) _ _ _ _ (slices128 n hn) (start_val n hn)]
    exact sums G n hn i
  have l : ∀ i, res_main_while0b_v22 V i = ∑ s, G (ix5 ⟨n, hn⟩ (i 0) (i 1) s (i 3)) := fun i => by
    rw [← upTo_last]
    unfold res_main_while0b_v22
    refine Eq.trans ?_ (b (ix4 (i 0) (i 1) 63 (i 3)))
    pointwise
  unfold step_main_v17_4
  rw [hK, hW, hS, h, Host.dynamicSlice_eq_extractStridedSlice (off := ![n, 0, 0, 0, 0]) _ _ _ _ (slices128 n hn) (start_val n hn),
    Host.dynamicSlice_eq_extractStridedSlice (off := ![n, 0, 0, 0, 0]) _ _ _ _ (slices256 n hn) (start_val n hn)]
  refine (update K W S n hn _ _ y).trans ?_
  unfold next
  rw [l]
  refine congrArg _ (Finset.sum_congr rfl fun j _ => ?_)
  rw [b]
  rfl

variable (m : (ℓ : Loc nD τ sig) → Buf (Elt Ideal) ℓ)

/-- The gates' arguments. -/
abbrev PRE (x : FVec Ideal S2x8192x16 .f32) (w : FVec Ideal S16x512 .f32) (b : FVec Ideal S512 .f32) : FVec Ideal S2x8192x512 .f32 :=
  addf (Host.dotGeneral dot_S2x8192x16_S16x512_S2x8192x512_2_0_01_1_n_n none x w) (broadcastInDim S2x8192x512 ![0, 1, 2] bcast_S1x1x512_S2x8192x512_0_1_2 (broadcastInDim S1x1x512 ![2] bcast_S512_S1x1x512_2 b))

/-- The logarithms of the gates. -/
abbrev GATE (x : FVec Ideal S2x8192x512 .f32) : FVec Ideal S2x8192x512 .f32 :=
  let z : FVec Ideal S2x8192x512 .f32 := broadcastInDim S2x8192x512 ![] bcast_S_S2x8192x512 (constant S_ .f32 0x00000000#32)
  let n := Host.negf x
  let d := subf n z
  Host.divf (Host.negf (select (cmpf .une d d) (addf n z) (addf (maximumf n z) (Host.log1p (Host.exp (Host.negf (Host.absf d)))))))
    (broadcastInDim S2x8192x512 ![] bcast_S_S2x8192x512 (constant S_ .f32 0x41800000#32))

abbrev KEYS (x : FVec Ideal S2x8192x1024 .f32) : FVec Ideal S128x2x4x64x128 .f32 :=
  transpose S128x2x4x64x128 [1, 0, 3, 2, 4] (shapeCast S2x128x64x4x128 (shapeCast S2x8192x4x128 (extractStridedSlice S2x8192x512 ![0, 0, 512] x slices_S2x8192x1024_S2x8192x512_0_0_512) shapeCasts_S2x8192x512_S2x8192x4x128) shapeCasts_S2x8192x4x128_S2x128x64x4x128) transposes_S2x128x64x4x128_S128x2x4x64x128_1_0_3_2_4

abbrev VALUES (x : FVec Ideal S2x8192x1024 .f32) : FVec Ideal S128x2x4x64x256 .f32 :=
  transpose S128x2x4x64x256 [1, 0, 3, 2, 4] (shapeCast S2x128x64x4x256 (shapeCast S2x8192x4x256 x shapeCasts_S2x8192x1024_S2x8192x4x256) shapeCasts_S2x8192x4x256_S2x128x64x4x256) transposes_S2x128x64x4x256_S128x2x4x64x256_1_0_3_2_4

abbrev GATES (x : FVec Ideal S2x8192x512 .f32) : FVec Ideal S128x2x4x64x128 .f32 :=
  transpose S128x2x4x64x128 [1, 0, 3, 2, 4] (shapeCast S2x128x64x4x128 (shapeCast S2x8192x4x128 x shapeCasts_S2x8192x512_S2x8192x4x128) shapeCasts_S2x8192x4x128_S2x128x64x4x128) transposes_S2x128x64x4x128_S128x2x4x64x128_1_0_3_2_4

theorem entry0 (c : Dev nD) : entryContents preI m c (Proc.devRef .tc main_v17_0) = KEYS (m ((c : Thread nD τ).loc main_arg0)) := by
  simp only [entryContents, afterL_cons, afterL_nil]
  after_reads_simp
  rfl

theorem entry1 (c : Dev nD) : entryContents preI m c (Proc.devRef .tc main_v17_1) = VALUES (m ((c : Thread nD τ).loc main_arg1)) := by
  simp only [entryContents, afterL_cons, afterL_nil]
  after_reads_simp
  rfl

theorem entry2 (c : Dev nD) : entryContents preI m c (Proc.devRef .tc main_v17_2) = GATES (GATE (PRE (m ((c : Thread nD τ).loc main_arg2)) (m ((c : Thread nD τ).loc main_arg5)) (m ((c : Thread nD τ).loc main_arg6)))) := by
  simp only [entryContents, afterL_cons, afterL_nil]
  after_reads_simp
  rfl

theorem entry4 (c : Dev nD) : entryContents preI m c (Proc.devRef .tc main_v17_4) = m ((c : Thread nD τ).loc main_arg4) := by
  simp only [entryContents, afterL_cons, afterL_nil]
  after_reads_simp
  rfl

/-- The state after `k` chunks. -/
def PASSED (qk v : FVec Ideal S2x8192x1024 .f32) (g : FVec Ideal S2x8192x512 .f32) (s : FVec Ideal S2x4x128x256 .f32) : ℕ → FVec Ideal S2x4x128x256 .f32
  | 0 => s
  | k + 1 => fun y => if h : k < 128 then
      next (fun j : Fin 64 => KEYS qk (ix5 (⟨k, h⟩ : Fin 128) (y 0) (y 1) j (y 2))) (fun j => VALUES v (ix5 (⟨k, h⟩ : Fin 128) (y 0) (y 1) j (y 3)))
        (fun j => GATES g (ix5 (⟨k, h⟩ : Fin 128) (y 0) (y 1) j (y 2))) (PASSED qk v g s k y)
    else 0

theorem passed_succ (qk v : FVec Ideal S2x8192x1024 .f32) (g : FVec Ideal S2x8192x512 .f32) (s : FVec Ideal S2x4x128x256 .f32) (k : ℕ) (h : k < 128) (y : S2x4x128x256.Idx) :
    PASSED qk v g s (k + 1) y
      = next (fun j : Fin 64 => KEYS qk (ix5 (⟨k, h⟩ : Fin 128) (y 0) (y 1) j (y 2))) (fun j => VALUES v (ix5 (⟨k, h⟩ : Fin 128) (y 0) (y 1) j (y 3)))
        (fun j => GATES g (ix5 (⟨k, h⟩ : Fin 128) (y 0) (y 1) j (y 2))) (PASSED qk v g s k y) := by
  rw [PASSED]
  exact dif_pos h

theorem passed (c : Dev nD) (k : ℕ) (hk : k ≤ 128) :
    (STEP^[k] (entryContents preI m c)) (Proc.devRef .tc main_v17_0) = KEYS (m ((c : Thread nD τ).loc main_arg0))
    ∧ (STEP^[k] (entryContents preI m c)) (Proc.devRef .tc main_v17_1) = VALUES (m ((c : Thread nD τ).loc main_arg1))
    ∧ (STEP^[k] (entryContents preI m c)) (Proc.devRef .tc main_v17_2)
      = GATES (GATE (PRE (m ((c : Thread nD τ).loc main_arg2)) (m ((c : Thread nD τ).loc main_arg5)) (m ((c : Thread nD τ).loc main_arg6))))
    ∧ (STEP^[k] (entryContents preI m c)) (Proc.devRef .tc main_v17_3) = (fun _ => BitVec.ofNat 32 k)
    ∧ (STEP^[k] (entryContents preI m c)) (Proc.devRef .tc main_v17_4)
      = PASSED (m ((c : Thread nD τ).loc main_arg0)) (m ((c : Thread nD τ).loc main_arg1))
        (GATE (PRE (m ((c : Thread nD τ).loc main_arg2)) (m ((c : Thread nD τ).loc main_arg5)) (m ((c : Thread nD τ).loc main_arg6)))) (m ((c : Thread nD τ).loc main_arg4)) k := by
  induction k with
  | zero => exact ⟨entry0 m c, entry1 m c, entry2 m c, ctr_entry m c, entry4 m c⟩
  | succ k ih =>
    obtain ⟨h0, h1, h2, h3, h4⟩ := ih (Nat.le_of_succ_le hk)
    rw [Function.iterate_succ_apply']
    generalize STEP^[k] (entryContents preI m c) = X at h0 h1 h2 h3 h4 ⊢
    refine ⟨(STEP_main_v17_0 X).trans h0, (STEP_main_v17_1 X).trans h1, (STEP_main_v17_2 X).trans h2, (STEP_main_v17_3 X).trans ?_, (STEP_main_v17_4 X).trans ?_⟩
    · unfold step_main_v17_3
      rw [h3]
      funext i
      exact (BitVec.ofNat_add k 1).symm
    · funext y
      exact (trip X k hk h3 y _ _ _ _ h0 h1 h2 h4).trans (passed_succ _ _ _ _ k hk y).symm

end Cert.GlaReferenceIdeal.Value
end
-- ==== Proof.GlaClaim.lean ====
module

public import proofs.«01_k».proof.Defs
public import proofs.«01_k».proof.Proof.GlaValue
public import proofs.«01_k».proof.Proof.GlaRef

@[expose] public section

set_option maxRecDepth 16384

noncomputable section

open Idealize.ShloMosaic Idealize.ShloMosaic.TcCoe Idealize.SL.Sem
open Cert.Gla

namespace Cert.Proof

theorem gla_reference_frame : Cert.quiescent_GlaReferenceIdeal (hGlaReferenceIdeal := Cert.GlaReferenceIdeal.Gen.facts) := fun m g _ =>
  (θ_run _ _ _).mono (fun r h => ⟨fun c => (h c).2, sem_eq_zero_of_no_sems (by decide) r.2⟩) (Cert.GlaReferenceIdeal.Value.run m g)

/-- Both hold the same state after `k` chunks. -/
theorem gla_state (qk v : FVec Ideal Cert.GlaKernelIdeal.S2x8192x1024 .f32) (g : FVec Ideal Cert.GlaKernelIdeal.S2x8192x512 .f32)
    (s : FVec Ideal Cert.GlaKernelIdeal.S2x4x128x256 .f32) (k : ℕ) (hk : k ≤ 128) (y : Cert.GlaKernelIdeal.S2x4x128x256.Idx) :
    Cert.GlaKernelIdeal.Value.AFTER qk v g
          (transpose Cert.GlaKernelIdeal.S2x4x256x128 [0, 1, 3, 2] s Cert.GlaKernelIdeal.Gen.transposes_S2x4x128x256_S2x4x256x128_0_1_3_2) k (ix4 (y 0) (y 1) (y 3) (y 2))
      = Cert.GlaReferenceIdeal.Value.PASSED qk v g s k y := by
  induction k with
  | zero =>
    show transpose _ _ _ _ _ = s y
    pointwise
  | succ k ih =>
    rw [Cert.GlaKernelIdeal.Value.after_succ _ _ _ _ _ hk, Cert.GlaReferenceIdeal.Value.passed_succ _ _ _ _ _ hk]
    unfold Cert.GlaKernelIdeal.Value.CHUNK
    refine Cert.GlaKernelIdeal.Value.next_congr (fun j => ?_) (fun j => ?_) (fun j => ?_) (ih (Nat.le_of_succ_le hk))
    all_goals pointwise
    all_goals simp only [Nat.mul_comm]

/-- Both leave the same state. -/
theorem gla_left (qk v : FVec Ideal Cert.GlaKernelIdeal.S2x8192x1024 .f32) (g : FVec Ideal Cert.GlaKernelIdeal.S2x8192x512 .f32)
    (s : FVec Ideal Cert.GlaKernelIdeal.S2x4x128x256 .f32) :
    transpose Cert.GlaKernelIdeal.S2x4x128x256 [0, 1, 3, 2]
        (Cert.GlaKernelIdeal.Value.AFTER qk v g
          (transpose Cert.GlaKernelIdeal.S2x4x256x128 [0, 1, 3, 2] s Cert.GlaKernelIdeal.Gen.transposes_S2x4x128x256_S2x4x256x128_0_1_3_2) 128)
        Cert.GlaKernelIdeal.Gen.transposes_S2x4x256x128_S2x4x128x256_0_1_3_2
      = Cert.GlaReferenceIdeal.Value.PASSED qk v g s 128 := by
  funext y
  rw [← gla_state qk v g s 128 (le_refl _) y]
  generalize Cert.GlaKernelIdeal.Value.AFTER _ _ _ _ _ = A
  pointwise

open Cert.GlaKernelIdeal.Value Cert.GlaKernelIdeal Cert.GlaKernelIdeal.Gen in
theorem gla_tail (m : (ℓ : Loc nD τ sig) → Buf (Elt Ideal) ℓ) (c : Dev nD) :
    Pipeline.afterTail₀ cfgs (dats m) 0 (V0 m) [hostOps1] c main_v10
      = transpose S2x4x128x256 [0, 1, 3, 2]
        (AFTER (m ((c : Thread nD τ).loc main_arg0)) (m ((c : Thread nD τ).loc main_arg1))
          (GATE (PRE (m ((c : Thread nD τ).loc main_arg2)) (m ((c : Thread nD τ).loc main_arg5)) (m ((c : Thread nD τ).loc main_arg6))))
          (transpose S2x4x256x128 [0, 1, 3, 2] (m ((c : Thread nD τ).loc main_arg4)) transposes_S2x4x128x256_S2x4x256x128_0_1_3_2) 128)
        transposes_S2x4x256x128_S2x4x128x256_0_1_3_2 := by
  have h : Pipeline.withArrays (cfgs 0).spec c (V0 m c) (fun w => (dats m 0 c).arrAt w (cfgs 0).N) (Proc.devRef .tc main_v9_1)
      = AFTER (V m c main_arg0) (V m c main_arg1) (V m c main_v6) (V m c main_v8) 128 :=
    ((dats m 0 c).withArrays_arrAt sharedIn0 (V0 m c) (fun w => A_eq m c w) 8).trans (final8 m c (fun i => by rw [gates_eq]; exact gate_fin _ i))
  unfold Pipeline.afterTail₀
  simp only [hostOps1, List.flatten_cons, List.flatten_nil, List.append_nil, List.cons_append, List.nil_append]
  after_results
  rw [h, keys_eq, values_eq, gates_eq, old_eq]

open Cert.GlaKernelIdeal.Value Cert.GlaKernelIdeal Cert.GlaKernelIdeal.Gen in
theorem gla : Cert.algebraic_GlaKernelIdeal_GlaReferenceIdeal (hGlaKernelIdeal := Cert.GlaKernelIdeal.Gen.facts) (hGlaReferenceIdeal := Cert.GlaReferenceIdeal.Gen.facts) := by
  pair_intro
  · run_from Cert.GlaKernelIdeal.Gen.run_main m g
    · exact W_main_arg2 m (dats m) c
    · exact W_main_arg4 m (dats m) c
    · exact W_main_arg5 m (dats m) c
    · exact W_main_arg6 m (dats m) c
    · exact W_main_arg7 m (dats m) c
  · refine θ_run_mono (Cert.GlaReferenceIdeal.Value.run m' g') fun r h c => ?_
    obtain ⟨a0, a1, a2, a3, a4, a5, a6, a7⟩ := hagree c
    obtain ⟨r0, kept⟩ := h c
    refine ⟨r0.trans ?_, kept⟩
    rw [(Cert.GlaReferenceIdeal.Value.passed m' c 128 (le_refl _)).2.2.2.2, gla_tail, gla_left, a0, a1, a2, a4, a5, a6]
    rfl

end Cert.Proof
end
-- ==== Proof.lean ====
/- The proof of the claims of Defs.lean, put together from the modules of Proof/. -/
module

public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnSampleKernel
public import proofs.«01_k».proof.Proof.Gen.FfnSampleKernel.Skeleton
public import proofs.«01_k».proof.Proof.Gen.FfnSampleKernel.Launch
public import proofs.«01_k».proof.Proof.Gen.FfnSampleKernel.Points
public import proofs.«01_k».proof.Proof.Gen.FfnSampleKernel.Frame
public import proofs.«01_k».proof.Proof.Gen.FfnSampleKernelIdeal
public import proofs.«01_k».proof.Proof.Gen.FfnSampleKernelIdeal.Skeleton
public import proofs.«01_k».proof.Proof.Gen.FfnSampleKernelIdeal.Launch
public import proofs.«01_k».proof.Proof.Gen.FfnSampleKernelIdeal.Points
public import proofs.«01_k».proof.Proof.Gen.FfnSampleKernelIdeal.Frame
public import proofs.«01_k».proof.Proof.Gen.FfnSampleReferenceIdeal
public import proofs.«01_k».proof.Proof.FfnClaim
public import proofs.«01_k».proof.Proof.FfnSampleClaim
public import proofs.«01_k».proof.Proof.EvenInClaim
public import proofs.«01_k».proof.Proof.Gen.EvenInKernel.Frame
public import proofs.«01_k».proof.Proof.EvenInSampleClaim
public import proofs.«01_k».proof.Proof.Gen.EvenInSampleKernel.Frame
public import proofs.«01_k».proof.Proof.OddInClaim
public import proofs.«01_k».proof.Proof.Gen.OddInKernel.Frame
public import proofs.«01_k».proof.Proof.OddOutClaim
public import proofs.«01_k».proof.Proof.Gen.OddOutKernel.Frame
public import proofs.«01_k».proof.Proof.EvenOutClaim
public import proofs.«01_k».proof.Proof.Gen.EvenOutKernel.Frame
public import proofs.«01_k».proof.Proof.GlaSampleClaim
public import proofs.«01_k».proof.Proof.Gen.GlaSampleKernel.Frame
public import proofs.«01_k».proof.Proof.GlaClaim
public import proofs.«01_k».proof.Proof.Gen.GlaKernel.Frame
public import Idealize.ShloMosaic.Adequacy
public import Idealize.ShloMosaic.Init

@[expose] public section

noncomputable section

namespace Cert.Proof

open Idealize.ShloMosaic Idealize.SL.Sem Cert.FfnKernel

theorem claim : Cert.Claim :=
  ⟨Cert.FfnKernel.Gen.facts, Cert.FfnKernelIdeal.Gen.facts, Cert.FfnReferenceIdeal.Gen.facts,
    Cert.FfnSampleKernel.Gen.facts, Cert.FfnSampleKernelIdeal.Gen.facts, Cert.FfnSampleReferenceIdeal.Gen.facts,
    Cert.EvenInKernel.Gen.facts, Cert.EvenInKernelIdeal.Gen.facts, Cert.EvenInReferenceIdeal.Gen.facts,
    Cert.EvenInSampleKernel.Gen.facts, Cert.EvenInSampleKernelIdeal.Gen.facts, Cert.EvenInSampleReferenceIdeal.Gen.facts,
    Cert.OddInKernel.Gen.facts, Cert.OddInKernelIdeal.Gen.facts, Cert.OddInReferenceIdeal.Gen.facts,
    Cert.OddOutKernel.Gen.facts, Cert.OddOutKernelIdeal.Gen.facts, Cert.OddOutReferenceIdeal.Gen.facts,
    Cert.EvenOutKernel.Gen.facts, Cert.EvenOutKernelIdeal.Gen.facts, Cert.EvenOutReferenceIdeal.Gen.facts,
    Cert.GlaSampleKernel.Gen.facts, Cert.GlaSampleKernelIdeal.Gen.facts, Cert.GlaSampleReferenceIdeal.Gen.facts,
    Cert.GlaKernel.Gen.facts, Cert.GlaKernelIdeal.Gen.facts, Cert.GlaReferenceIdeal.Gen.facts,
    fun m g _ => Cert.FfnKernel.Gen.frame m g, fun m g _ => Cert.FfnKernelIdeal.Gen.frame m g, ffn_reference_frame,
    fun m g _ => Cert.FfnSampleKernel.Gen.frame m g, fun m g _ => Cert.FfnSampleKernelIdeal.Gen.frame m g, ffn_sample_reference_frame,
    fun m g _ => Cert.EvenInKernel.Gen.frame m g, fun m g _ => Cert.EvenInKernelIdeal.Gen.frame m g, even_in_reference_frame,
    fun m g _ => Cert.EvenInSampleKernel.Gen.frame m g, fun m g _ => Cert.EvenInSampleKernelIdeal.Gen.frame m g, even_in_sample_reference_frame,
    fun m g _ => Cert.OddInKernel.Gen.frame m g, fun m g _ => Cert.OddInKernelIdeal.Gen.frame m g, odd_in_reference_frame,
    fun m g _ => Cert.OddOutKernel.Gen.frame m g, fun m g _ => Cert.OddOutKernelIdeal.Gen.frame m g, odd_out_reference_frame,
    fun m g _ => Cert.EvenOutKernel.Gen.frame m g, fun m g _ => Cert.EvenOutKernelIdeal.Gen.frame m g, even_out_reference_frame,
    fun m g _ => Cert.GlaSampleKernel.Gen.frame m g, fun m g _ => Cert.GlaSampleKernelIdeal.Gen.frame m g, gla_sample_reference_frame,
    fun m g _ => Cert.GlaKernel.Gen.frame m g, fun m g _ => Cert.GlaKernelIdeal.Gen.frame m g, gla_reference_frame,
    trivial, ffn, trivial, ffn_sample, trivial, even_in, trivial, even_in_sample, trivial, odd_in, trivial, odd_out, trivial, even_out, trivial, gla_sample, trivial, gla⟩

end Cert.Proof

end
